-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S3584x18944 : Shape := ⟨2, ![3584, 18944]⟩
abbrev S3584 : Shape := ⟨1, ![3584]⟩
abbrev S256x3584 : Shape := ⟨2, ![256, 3584]⟩
abbrev S1x3584 : Shape := ⟨2, ![1, 3584]⟩
abbrev S256x18944 : Shape := ⟨2, ![256, 18944]⟩
abbrev S74x256 : Shape := ⟨2, ![74, 256]⟩
abbrev S2x128 : Shape := ⟨2, ![2, 128]⟩
abbrev S256x128 : Shape := ⟨2, ![256, 128]⟩
abbrev S3584x128 : Shape := ⟨2, ![3584, 128]⟩
abbrev S3584x256 : Shape := ⟨2, ![3584, 256]⟩
abbrev S1x256 : Shape := ⟨2, ![1, 256]⟩
abbrev S6x3584x256 : Shape := ⟨3, ![6, 3584, 256]⟩
abbrev S2x3584x256 : Shape := ⟨3, ![2, 3584, 256]⟩
abbrev S2x256x256 : Shape := ⟨3, ![2, 256, 256]⟩
abbrev S_ : Shape := ⟨0, ![]⟩
abbrev S6 : Shape := ⟨1, ![6]⟩
abbrev S2 : Shape := ⟨1, ![2]⟩
abbrev S1 : Shape := ⟨1, ![1]⟩
abbrev S1x3584x256 : Shape := ⟨3, ![1, 3584, 256]⟩
abbrev S128 : Shape := ⟨1, ![128]⟩
abbrev S1x128 : Shape := ⟨2, ![1, 128]⟩
abbrev S128x128 : Shape := ⟨2, ![128, 128]⟩
abbrev S32x3584 : Shape := ⟨2, ![32, 3584]⟩
abbrev S32 : Shape := ⟨1, ![32]⟩
abbrev S32x1 : Shape := ⟨2, ![32, 1]⟩
abbrev S32x128 : Shape := ⟨2, ![32, 128]⟩
abbrev S1x32x256 : Shape := ⟨3, ![1, 32, 256]⟩
abbrev S32x256 : Shape := ⟨2, ![32, 256]⟩
abbrev S8x256 : Shape := ⟨2, ![8, 256]⟩
abbrev S256 : Shape := ⟨1, ![256]⟩
abbrev S256x256 : Shape := ⟨2, ![256, 256]⟩
abbrev S1x256x256 : Shape := ⟨3, ![1, 256, 256]⟩
abbrev S2x128x18944 : Shape := ⟨3, ![2, 128, 18944]⟩
abbrev S18944 : Shape := ⟨1, ![18944]⟩

abbrev nBuf : Space → Nat
  | .hbm => 15
  | .vmem => 15
  | .smem => 0
  | _ => 0

abbrev bufTy : (tb : Table) → Fin (tcTables nBuf tb) → BufTy
  | .hbm, ⟨0, _⟩ => ⟨S2x128x3584, .bf16⟩
  | .hbm, ⟨1, _⟩ => ⟨S3584x18944, .bf16⟩
  | .hbm, ⟨2, _⟩ => ⟨S3584, .f32⟩
  | .hbm, ⟨3, _⟩ => ⟨S256x3584, .bf16⟩
  | .hbm, ⟨4, _⟩ => ⟨S1x3584, .f32⟩
  | .hbm, ⟨5, _⟩ => ⟨S256x18944, .bf16⟩
  | .hbm, ⟨6, _⟩ => ⟨S1x3584, .f32⟩
  | .hbm, ⟨7, _⟩ => ⟨S3584x18944, .i8⟩
  | .hbm, ⟨8, _⟩ => ⟨S74x256, .f32⟩
  | .hbm, ⟨9, _⟩ => ⟨S256x3584, .i8⟩
  | .hbm, ⟨10, _⟩ => ⟨S2x128, .f32⟩
  | .hbm, ⟨11, _⟩ => ⟨S2x128x18944, .bf16⟩
  | .hbm, ⟨12, _⟩ => ⟨S3584, .f32⟩
  | .hbm, ⟨13, _⟩ => ⟨S18944, .f32⟩
  | .hbm, ⟨14, _⟩ => ⟨S2x128x3584, .i8⟩
  | .local _ .vmem, ⟨0, _⟩ => ⟨S1x3584, .f32⟩
  | .local _ .vmem, ⟨1, _⟩ => ⟨S1x3584, .f32⟩
  | .local _ .vmem, ⟨2, _⟩ => ⟨S74x256, .f32⟩
  | .local _ .vmem, ⟨3, _⟩ => ⟨S256x3584, .i8⟩
  | .local _ .vmem, ⟨4, _⟩ => ⟨S2x128, .f32⟩
  | .local _ .vmem, ⟨5, _⟩ => ⟨S256x3584, .bf16⟩
  | .local _ .vmem, ⟨6, _⟩ => ⟨S256x3584, .bf16⟩
  | .local _ .vmem, ⟨7, _⟩ => ⟨S256x128, .f32⟩
  | .local _ .vmem, ⟨8, _⟩ => ⟨S3584x128, .f32⟩
  | .local _ .vmem, ⟨9, _⟩ => ⟨S3584x256, .f32⟩
  | .local _ .vmem, ⟨10, _⟩ => ⟨S1x256, .f32⟩
  | .local _ .vmem, ⟨11, _⟩ => ⟨S1x256, .f32⟩
  | .local _ .vmem, ⟨12, _⟩ => ⟨S6x3584x256, .bf16⟩
  | .local _ .vmem, ⟨13, _⟩ => ⟨S2x3584x256, .i8⟩
  | .local _ .vmem, ⟨14, _⟩ => ⟨S2x256x256, .bf16⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c0_i32_438 : BitVec 32 := 0#32
  c0_i32_438
def k0_off1 (c0_i32_437 : BitVec 32) : Fin 1 → Nat :=
  let c6_i32 : BitVec 32 := 6#32
  let v914 : BitVec 32 := Scalar.remsi c0_i32_437 c6_i32
  ![v914.toNat]
def k0_off2 (c0_i32_437 : BitVec 32) : Fin 3 → Nat :=
  let c6_i32 : BitVec 32 := 6#32
  let v914 : BitVec 32 := Scalar.remsi c0_i32_437 c6_i32
  let c0_i32_439 : BitVec 32 := 0#32
  let c0_i32_440 : BitVec 32 := 0#32
  ![v914.toNat, 0, 0]
def k0_mult7 : BitVec 32 :=
  let c1280_i32 : BitVec 32 := 1280#32
  c1280_i32
def k0_off3 : Fin 3 → Nat :=
  let c0_i32_437 : BitVec 32 := 0#32
  let c6_i32 : BitVec 32 := 6#32
  let v914 : BitVec 32 := Scalar.remsi c0_i32_437 c6_i32
  let v928 : Index := Scalar.indexCast v914
  let c0_446 : Index := 0#32
  let c0_447 : Index := 0#32
  ![v928.toNat, 0, 0]
def k0_off4 : Fin 3 → Nat :=
  let c0_i32_437 : BitVec 32 := 0#32
  let c6_i32 : BitVec 32 := 6#32
  let v914 : BitVec 32 := Scalar.remsi c0_i32_437 c6_i32
  let v948 : Index := Scalar.indexCast v914
  let c32_452 : Index := 32#32
  let c0_453 : Index := 0#32
  ![v948.toNat, 32, 0]
def k0_off5 : Fin 3 → Nat :=
  let c0_i32_437 : BitVec 32 := 0#32
  let c6_i32 : BitVec 32 := 6#32
  let v914 : BitVec 32 := Scalar.remsi c0_i32_437 c6_i32
  let v970 : Index := Scalar.indexCast v914
  let c64_458 : Index := 64#32
  let c0_459 : Index := 0#32
  ![v970.toNat, 64, 0]
def k0_off6 : Fin 3 → Nat :=
  let c0_i32_437 : BitVec 32 := 0#32
  let c6_i32 : BitVec 32 := 6#32
  let v914 : BitVec 32 := Scalar.remsi c0_i32_437 c6_i32
  let v992 : Index := Scalar.indexCast v914
  let c96_464 : Index := 96#32
  let c0_465 : Index := 0#32
  ![v992.toNat, 96, 0]
def k0_off7 : Fin 3 → Nat :=
  let c0_i32_437 : BitVec 32 := 0#32
  let c6_i32 : BitVec 32 := 6#32
  let v914 : BitVec 32 := Scalar.remsi c0_i32_437 c6_i32
  let v1014 : Index := Scalar.indexCast v914
  let c128_470 : Index := 128#32
  let c0_471 : Index := 0#32
  ![v1014.toNat, 128, 0]
def k0_off8 : Fin 3 → Nat :=
  let c0_i32_437 : BitVec 32 := 0#32
  let c6_i32 : BitVec 32 := 6#32
  let v914 : BitVec 32 := Scalar.remsi c0_i32_437 c6_i32
  let v1036 : Index := Scalar.indexCast v914
  let c160_476 : Index := 160#32
  let c0_477 : Index := 0#32
  ![v1036.toNat, 160, 0]
def k0_off9 : Fin 3 → Nat :=
  let c0_i32_437 : BitVec 32 := 0#32
  let c6_i32 : BitVec 32 := 6#32
  let v914 : BitVec 32 := Scalar.remsi c0_i32_437 c6_i32
  let v1058 : Index := Scalar.indexCast v914
  let c192_482 : Index := 192#32
  let c0_483 : Index := 0#32
  ![v1058.toNat, 192, 0]
def k0_off10 : Fin 3 → Nat :=
  let c0_i32_437 : BitVec 32 := 0#32
  let c6_i32 : BitVec 32 := 6#32
  let v914 : BitVec 32 := Scalar.remsi c0_i32_437 c6_i32
  let v1080 : Index := Scalar.indexCast v914
  let c224_488 : Index := 224#32
  let c0_489 : Index := 0#32
  ![v1080.toNat, 224, 0]
def k0_off11 : Fin 3 → Nat :=
  let c0_i32_437 : BitVec 32 := 0#32
  let c6_i32 : BitVec 32 := 6#32
  let v914 : BitVec 32 := Scalar.remsi c0_i32_437 c6_i32
  let v1102 : Index := Scalar.indexCast v914
  let c256_494 : Index := 256#32
  let c0_495 : Index := 0#32
  ![v1102.toNat, 256, 0]
def k0_off12 : Fin 3 → Nat :=
  let c0_i32_437 : BitVec 32 := 0#32
  let c6_i32 : BitVec 32 := 6#32
  let v914 : BitVec 32 := Scalar.remsi c0_i32_437 c6_i32
  let v1124 : Index := Scalar.indexCast v914
  let c288 : Index := 288#32
  let c0_500 : Index := 0#32
  ![v1124.toNat, 288, 0]
def k0_off13 : Fin 3 → Nat :=
  let c0_i32_437 : BitVec 32 := 0#32
  let c6_i32 : BitVec 32 := 6#32
  let v914 : BitVec 32 := Scalar.remsi c0_i32_437 c6_i32
  let v1146 : Index := Scalar.indexCast v914
  let c320 : Index := 320#32
  let c0_505 : Index := 0#32
  ![v1146.toNat, 320, 0]
def k0_off14 : Fin 3 → Nat :=
  let c0_i32_437 : BitVec 32 := 0#32
  let c6_i32 : BitVec 32 := 6#32
  let v914 : BitVec 32 := Scalar.remsi c0_i32_437 c6_i32
  let v1168 : Index := Scalar.indexCast v914
  let c352 : Index := 352#32
  let c0_510 : Index := 0#32
  ![v1168.toNat, 352, 0]
def k0_off15 : Fin 3 → Nat :=
  let c0_i32_437 : BitVec 32 := 0#32
  let c6_i32 : BitVec 32 := 6#32
  let v914 : BitVec 32 := Scalar.remsi c0_i32_437 c6_i32
  let v1190 : Index := Scalar.indexCast v914
  let c384_515 : Index := 384#32
  let c0_516 : Index := 0#32
  ![v1190.toNat, 384, 0]
def k0_off16 : Fin 3 → Nat :=
  let c0_i32_437 : BitVec 32 := 0#32
  let c6_i32 : BitVec 32 := 6#32
  let v914 : BitVec 32 := Scalar.remsi c0_i32_437 c6_i32
  let v1212 : Index := Scalar.indexCast v914
  let c416 : Index := 416#32
  let c0_521 : Index := 0#32
  ![v1212.toNat, 416, 0]
def k0_off17 : Fin 3 → Nat :=
  let c0_i32_437 : BitVec 32 := 0#32
  let c6_i32 : BitVec 32 := 6#32
  let v914 : BitVec 32 := Scalar.remsi c0_i32_437 c6_i32
  let v1234 : Index := Scalar.indexCast v914
  let c448 : Index := 448#32
  let c0_526 : Index := 0#32
  ![v1234.toNat, 448, 0]
def k0_off18 : Fin 3 → Nat :=
  let c0_i32_437 : BitVec 32 := 0#32
  let c6_i32 : BitVec 32 := 6#32
  let v914 : BitVec 32 := Scalar.remsi c0_i32_437 c6_i32
  let v1256 : Index := Scalar.indexCast v914
  let c480 : Index := 480#32
  let c0_531 : Index := 0#32
  ![v1256.toNat, 480, 0]
def k0_off19 : Fin 3 → Nat :=
  let c0_i32_437 : BitVec 32 := 0#32
  let c6_i32 : BitVec 32 := 6#32
  let v914 : BitVec 32 := Scalar.remsi c0_i32_437 c6_i32
  let v1278 : Index := Scalar.indexCast v914
  let c512_536 : Index := 512#32
  let c0_537 : Index := 0#32
  ![v1278.toNat, 512, 0]
def k0_off20 : Fin 3 → Nat :=
  let c0_i32_437 : BitVec 32 := 0#32
  let c6_i32 : BitVec 32 := 6#32
  let v914 : BitVec 32 := Scalar.remsi c0_i32_437 c6_i32
  let v1300 : Index := Scalar.indexCast v914
  let c544 : Index := 544#32
  let c0_542 : Index := 0#32
  ![v1300.toNat, 544, 0]
def k0_off21 : Fin 3 → Nat :=
  let c0_i32_437 : BitVec 32 := 0#32
  let c6_i32 : BitVec 32 := 6#32
  let v914 : BitVec 32 := Scalar.remsi c0_i32_437 c6_i32
  let v1322 : Index := Scalar.indexCast v914
  let c576 : Index := 576#32
  let c0_547 : Index := 0#32
  ![v1322.toNat, 576, 0]
def k0_off22 : Fin 3 → Nat :=
  let c0_i32_437 : BitVec 32 := 0#32
  let c6_i32 : BitVec 32 := 6#32
  let v914 : BitVec 32 := Scalar.remsi c0_i32_437 c6_i32
  let v1344 : Index := Scalar.indexCast v914
  let c608 : Index := 608#32
  let c0_552 : Index := 0#32
  ![v1344.toNat, 608, 0]
def k0_off23 : Fin 3 → Nat :=
  let c0_i32_437 : BitVec 32 := 0#32
  let c6_i32 : BitVec 32 := 6#32
  let v914 : BitVec 32 := Scalar.remsi c0_i32_437 c6_i32
  let v1366 : Index := Scalar.indexCast v914
  let c640_557 : Index := 640#32
  let c0_558 : Index := 0#32
  ![v1366.toNat, 640, 0]
def k0_off24 : Fin 3 → Nat :=
  let c0_i32_437 : BitVec 32 := 0#32
  let c6_i32 : BitVec 32 := 6#32
  let v914 : BitVec 32 := Scalar.remsi c0_i32_437 c6_i32
  let v1388 : Index := Scalar.indexCast v914
  let c672 : Index := 672#32
  let c0_563 : Index := 0#32
  ![v1388.toNat, 672, 0]
def k0_off25 : Fin 3 → Nat :=
  let c0_i32_437 : BitVec 32 := 0#32
  let c6_i32 : BitVec 32 := 6#32
  let v914 : BitVec 32 := Scalar.remsi c0_i32_437 c6_i32
  let v1410 : Index := Scalar.indexCast v914
  let c704 : Index := 704#32
  let c0_568 : Index := 0#32
  ![v1410.toNat, 704, 0]
def k0_off26 : Fin 3 → Nat :=
  let c0_i32_437 : BitVec 32 := 0#32
  let c6_i32 : BitVec 32 := 6#32
  let v914 : BitVec 32 := Scalar.remsi c0_i32_437 c6_i32
  let v1432 : Index := Scalar.indexCast v914
  let c736 : Index := 736#32
  let c0_573 : Index := 0#32
  ![v1432.toNat, 736, 0]
def k0_off27 : Fin 3 → Nat :=
  let c0_i32_437 : BitVec 32 := 0#32
  let c6_i32 : BitVec 32 := 6#32
  let v914 : BitVec 32 := Scalar.remsi c0_i32_437 c6_i32
  let v1454 : Index := Scalar.indexCast v914
  let c768_578 : Index := 768#32
  let c0_579 : Index := 0#32
  ![v1454.toNat, 768, 0]
def k0_off28 : Fin 3 → Nat :=
  let c0_i32_437 : BitVec 32 := 0#32
  let c6_i32 : BitVec 32 := 6#32
  let v914 : BitVec 32 := Scalar.remsi c0_i32_437 c6_i32
  let v1476 : Index := Scalar.indexCast v914
  let c800 : Index := 800#32
  let c0_584 : Index := 0#32
  ![v1476.toNat, 800, 0]
def k0_off29 : Fin 3 → Nat :=
  let c0_i32_437 : BitVec 32 := 0#32
  let c6_i32 : BitVec 32 := 6#32
  let v914 : BitVec 32 := Scalar.remsi c0_i32_437 c6_i32
  let v1498 : Index := Scalar.indexCast v914
  let c832 : Index := 832#32
  let c0_589 : Index := 0#32
  ![v1498.toNat, 832, 0]
def k0_off30 : Fin 3 → Nat :=
  let c0_i32_437 : BitVec 32 := 0#32
  let c6_i32 : BitVec 32 := 6#32
  let v914 : BitVec 32 := Scalar.remsi c0_i32_437 c6_i32
  let v1520 : Index := Scalar.indexCast v914
  let c864 : Index := 864#32
  let c0_594 : Index := 0#32
  ![v1520.toNat, 864, 0]
def k0_off31 : Fin 3 → Nat :=
  let c0_i32_437 : BitVec 32 := 0#32
  let c6_i32 : BitVec 32 := 6#32
  let v914 : BitVec 32 := Scalar.remsi c0_i32_437 c6_i32
  let v1542 : Index := Scalar.indexCast v914
  let c896_599 : Index := 896#32
  let c0_600 : Index := 0#32
  ![v1542.toNat, 896, 0]
def k0_off32 : Fin 3 → Nat :=
  let c0_i32_437 : BitVec 32 := 0#32
  let c6_i32 : BitVec 32 := 6#32
  let v914 : BitVec 32 := Scalar.remsi c0_i32_437 c6_i32
  let v1564 : Index := Scalar.indexCast v914
  let c928 : Index := 928#32
  let c0_605 : Index := 0#32
  ![v1564.toNat, 928, 0]
def k0_off33 : Fin 3 → Nat :=
  let c0_i32_437 : BitVec 32 := 0#32
  let c6_i32 : BitVec 32 := 6#32
  let v914 : BitVec 32 := Scalar.remsi c0_i32_437 c6_i32
  let v1586 : Index := Scalar.indexCast v914
  let c960 : Index := 960#32
  let c0_610 : Index := 0#32
  ![v1586.toNat, 960, 0]
def k0_off34 : Fin 3 → Nat :=
  let c0_i32_437 : BitVec 32 := 0#32
  let c6_i32 : BitVec 32 := 6#32
  let v914 : BitVec 32 := Scalar.remsi c0_i32_437 c6_i32
  let v1608 : Index := Scalar.indexCast v914
  let c992 : Index := 992#32
  let c0_615 : Index := 0#32
  ![v1608.toNat, 992, 0]
def k0_off35 : Fin 3 → Nat :=
  let c0_i32_437 : BitVec 32 := 0#32
  let c6_i32 : BitVec 32 := 6#32
  let v914 : BitVec 32 := Scalar.remsi c0_i32_437 c6_i32
  let v1630 : Index := Scalar.indexCast v914
  let c1024_620 : Index := 1024#32
  let c0_621 : Index := 0#32
  ![v1630.toNat, 1024, 0]
def k0_off36 : Fin 3 → Nat :=
  let c0_i32_437 : BitVec 32 := 0#32
  let c6_i32 : BitVec 32 := 6#32
  let v914 : BitVec 32 := Scalar.remsi c0_i32_437 c6_i32
  let v1652 : Index := Scalar.indexCast v914
  let c1056 : Index := 1056#32
  let c0_626 : Index := 0#32
  ![v1652.toNat, 1056, 0]
def k0_off37 : Fin 3 → Nat :=
  let c0_i32_437 : BitVec 32 := 0#32
  let c6_i32 : BitVec 32 := 6#32
  let v914 : BitVec 32 := Scalar.remsi c0_i32_437 c6_i32
  let v1674 : Index := Scalar.indexCast v914
  let c1088 : Index := 1088#32
  let c0_631 : Index := 0#32
  ![v1674.toNat, 1088, 0]
def k0_off38 : Fin 3 → Nat :=
  let c0_i32_437 : BitVec 32 := 0#32
  let c6_i32 : BitVec 32 := 6#32
  let v914 : BitVec 32 := Scalar.remsi c0_i32_437 c6_i32
  let v1696 : Index := Scalar.indexCast v914
  let c1120 : Index := 1120#32
  let c0_636 : Index := 0#32
  ![v1696.toNat, 1120, 0]
def k0_off39 : Fin 3 → Nat :=
  let c0_i32_437 : BitVec 32 := 0#32
  let c6_i32 : BitVec 32 := 6#32
  let v914 : BitVec 32 := Scalar.remsi c0_i32_437 c6_i32
  let v1718 : Index := Scalar.indexCast v914
  let c1152_641 : Index := 1152#32
  let c0_642 : Index := 0#32
  ![v1718.toNat, 1152, 0]
def k0_off40 : Fin 3 → Nat :=
  let c0_i32_437 : BitVec 32 := 0#32
  let c6_i32 : BitVec 32 := 6#32
  let v914 : BitVec 32 := Scalar.remsi c0_i32_437 c6_i32
  let v1740 : Index := Scalar.indexCast v914
  let c1184 : Index := 1184#32
  let c0_647 : Index := 0#32
  ![v1740.toNat, 1184, 0]
def k0_off41 : Fin 3 → Nat :=
  let c0_i32_437 : BitVec 32 := 0#32
  let c6_i32 : BitVec 32 := 6#32
  let v914 : BitVec 32 := Scalar.remsi c0_i32_437 c6_i32
  let v1762 : Index := Scalar.indexCast v914
  let c1216 : Index := 1216#32
  let c0_652 : Index := 0#32
  ![v1762.toNat, 1216, 0]
def k0_off42 : Fin 3 → Nat :=
  let c0_i32_437 : BitVec 32 := 0#32
  let c6_i32 : BitVec 32 := 6#32
  let v914 : BitVec 32 := Scalar.remsi c0_i32_437 c6_i32
  let v1784 : Index := Scalar.indexCast v914
  let c1248 : Index := 1248#32
  let c0_657 : Index := 0#32
  ![v1784.toNat, 1248, 0]
def k0_off43 : Fin 3 → Nat :=
  let c0_i32_437 : BitVec 32 := 0#32
  let c6_i32 : BitVec 32 := 6#32
  let v914 : BitVec 32 := Scalar.remsi c0_i32_437 c6_i32
  let v1806 : Index := Scalar.indexCast v914
  let c1280_662 : Index := 1280#32
  let c0_663 : Index := 0#32
  ![v1806.toNat, 1280, 0]
def k0_off44 : Fin 3 → Nat :=
  let c0_i32_437 : BitVec 32 := 0#32
  let c6_i32 : BitVec 32 := 6#32
  let v914 : BitVec 32 := Scalar.remsi c0_i32_437 c6_i32
  let v1828 : Index := Scalar.indexCast v914
  let c1312 : Index := 1312#32
  let c0_668 : Index := 0#32
  ![v1828.toNat, 1312, 0]
def k0_off45 : Fin 3 → Nat :=
  let c0_i32_437 : BitVec 32 := 0#32
  let c6_i32 : BitVec 32 := 6#32
  let v914 : BitVec 32 := Scalar.remsi c0_i32_437 c6_i32
  let v1850 : Index := Scalar.indexCast v914
  let c1344 : Index := 1344#32
  let c0_673 : Index := 0#32
  ![v1850.toNat, 1344, 0]
def k0_off46 : Fin 3 → Nat :=
  let c0_i32_437 : BitVec 32 := 0#32
  let c6_i32 : BitVec 32 := 6#32
  let v914 : BitVec 32 := Scalar.remsi c0_i32_437 c6_i32
  let v1872 : Index := Scalar.indexCast v914
  let c1376 : Index := 1376#32
  let c0_678 : Index := 0#32
  ![v1872.toNat, 1376, 0]
def k0_off47 : Fin 3 → Nat :=
  let c0_i32_437 : BitVec 32 := 0#32
  let c6_i32 : BitVec 32 := 6#32
  let v914 : BitVec 32 := Scalar.remsi c0_i32_437 c6_i32
  let v1894 : Index := Scalar.indexCast v914
  let c1408_683 : Index := 1408#32
  let c0_684 : Index := 0#32
  ![v1894.toNat, 1408, 0]
def k0_off48 : Fin 3 → Nat :=
  let c0_i32_437 : BitVec 32 := 0#32
  let c6_i32 : BitVec 32 := 6#32
  let v914 : BitVec 32 := Scalar.remsi c0_i32_437 c6_i32
  let v1916 : Index := Scalar.indexCast v914
  let c1440 : Index := 1440#32
  let c0_689 : Index := 0#32
  ![v1916.toNat, 1440, 0]
def k0_off49 : Fin 3 → Nat :=
  let c0_i32_437 : BitVec 32 := 0#32
  let c6_i32 : BitVec 32 := 6#32
  let v914 : BitVec 32 := Scalar.remsi c0_i32_437 c6_i32
  let v1938 : Index := Scalar.indexCast v914
  let c1472 : Index := 1472#32
  let c0_694 : Index := 0#32
  ![v1938.toNat, 1472, 0]
def k0_off50 : Fin 3 → Nat :=
  let c0_i32_437 : BitVec 32 := 0#32
  let c6_i32 : BitVec 32 := 6#32
  let v914 : BitVec 32 := Scalar.remsi c0_i32_437 c6_i32
  let v1960 : Index := Scalar.indexCast v914
  let c1504 : Index := 1504#32
  let c0_699 : Index := 0#32
  ![v1960.toNat, 1504, 0]
def k0_off51 : Fin 3 → Nat :=
  let c0_i32_437 : BitVec 32 := 0#32
  let c6_i32 : BitVec 32 := 6#32
  let v914 : BitVec 32 := Scalar.remsi c0_i32_437 c6_i32
  let v1982 : Index := Scalar.indexCast v914
  let c1536_704 : Index := 1536#32
  let c0_705 : Index := 0#32
  ![v1982.toNat, 1536, 0]
def k0_off52 : Fin 3 → Nat :=
  let c0_i32_437 : BitVec 32 := 0#32
  let c6_i32 : BitVec 32 := 6#32
  let v914 : BitVec 32 := Scalar.remsi c0_i32_437 c6_i32
  let v2004 : Index := Scalar.indexCast v914
  let c1568 : Index := 1568#32
  let c0_710 : Index := 0#32
  ![v2004.toNat, 1568, 0]
def k0_off53 : Fin 3 → Nat :=
  let c0_i32_437 : BitVec 32 := 0#32
  let c6_i32 : BitVec 32 := 6#32
  let v914 : BitVec 32 := Scalar.remsi c0_i32_437 c6_i32
  let v2026 : Index := Scalar.indexCast v914
  let c1600 : Index := 1600#32
  let c0_715 : Index := 0#32
  ![v2026.toNat, 1600, 0]
def k0_off54 : Fin 3 → Nat :=
  let c0_i32_437 : BitVec 32 := 0#32
  let c6_i32 : BitVec 32 := 6#32
  let v914 : BitVec 32 := Scalar.remsi c0_i32_437 c6_i32
  let v2048 : Index := Scalar.indexCast v914
  let c1632 : Index := 1632#32
  let c0_720 : Index := 0#32
  ![v2048.toNat, 1632, 0]
def k0_off55 : Fin 3 → Nat :=
  let c0_i32_437 : BitVec 32 := 0#32
  let c6_i32 : BitVec 32 := 6#32
  let v914 : BitVec 32 := Scalar.remsi c0_i32_437 c6_i32
  let v2070 : Index := Scalar.indexCast v914
  let c1664_725 : Index := 1664#32
  let c0_726 : Index := 0#32
  ![v2070.toNat, 1664, 0]
def k0_off56 : Fin 3 → Nat :=
  let c0_i32_437 : BitVec 32 := 0#32
  let c6_i32 : BitVec 32 := 6#32
  let v914 : BitVec 32 := Scalar.remsi c0_i32_437 c6_i32
  let v2092 : Index := Scalar.indexCast v914
  let c1696 : Index := 1696#32
  let c0_731 : Index := 0#32
  ![v2092.toNat, 1696, 0]
def k0_off57 : Fin 3 → Nat :=
  let c0_i32_437 : BitVec 32 := 0#32
  let c6_i32 : BitVec 32 := 6#32
  let v914 : BitVec 32 := Scalar.remsi c0_i32_437 c6_i32
  let v2114 : Index := Scalar.indexCast v914
  let c1728 : Index := 1728#32
  let c0_736 : Index := 0#32
  ![v2114.toNat, 1728, 0]
def k0_off58 : Fin 3 → Nat :=
  let c0_i32_437 : BitVec 32 := 0#32
  let c6_i32 : BitVec 32 := 6#32
  let v914 : BitVec 32 := Scalar.remsi c0_i32_437 c6_i32
  let v2136 : Index := Scalar.indexCast v914
  let c1760 : Index := 1760#32
  let c0_741 : Index := 0#32
  ![v2136.toNat, 1760, 0]
def k0_off59 : Fin 3 → Nat :=
  let c0_i32_437 : BitVec 32 := 0#32
  let c6_i32 : BitVec 32 := 6#32
  let v914 : BitVec 32 := Scalar.remsi c0_i32_437 c6_i32
  let v2158 : Index := Scalar.indexCast v914
  let c1792_746 : Index := 1792#32
  let c0_747 : Index := 0#32
  ![v2158.toNat, 1792, 0]
def k0_off60 : Fin 3 → Nat :=
  let c0_i32_437 : BitVec 32 := 0#32
  let c6_i32 : BitVec 32 := 6#32
  let v914 : BitVec 32 := Scalar.remsi c0_i32_437 c6_i32
  let v2180 : Index := Scalar.indexCast v914
  let c1824 : Index := 1824#32
  let c0_752 : Index := 0#32
  ![v2180.toNat, 1824, 0]
def k0_off61 : Fin 3 → Nat :=
  let c0_i32_437 : BitVec 32 := 0#32
  let c6_i32 : BitVec 32 := 6#32
  let v914 : BitVec 32 := Scalar.remsi c0_i32_437 c6_i32
  let v2202 : Index := Scalar.indexCast v914
  let c1856 : Index := 1856#32
  let c0_757 : Index := 0#32
  ![v2202.toNat, 1856, 0]
def k0_off62 : Fin 3 → Nat :=
  let c0_i32_437 : BitVec 32 := 0#32
  let c6_i32 : BitVec 32 := 6#32
  let v914 : BitVec 32 := Scalar.remsi c0_i32_437 c6_i32
  let v2224 : Index := Scalar.indexCast v914
  let c1888 : Index := 1888#32
  let c0_762 : Index := 0#32
  ![v2224.toNat, 1888, 0]
def k0_off63 : Fin 3 → Nat :=
  let c0_i32_437 : BitVec 32 := 0#32
  let c6_i32 : BitVec 32 := 6#32
  let v914 : BitVec 32 := Scalar.remsi c0_i32_437 c6_i32
  let v2246 : Index := Scalar.indexCast v914
  let c1920_767 : Index := 1920#32
  let c0_768 : Index := 0#32
  ![v2246.toNat, 1920, 0]
def k0_off64 : Fin 3 → Nat :=
  let c0_i32_437 : BitVec 32 := 0#32
  let c6_i32 : BitVec 32 := 6#32
  let v914 : BitVec 32 := Scalar.remsi c0_i32_437 c6_i32
  let v2268 : Index := Scalar.indexCast v914
  let c1952 : Index := 1952#32
  let c0_773 : Index := 0#32
  ![v2268.toNat, 1952, 0]
def k0_off65 : Fin 3 → Nat :=
  let c0_i32_437 : BitVec 32 := 0#32
  let c6_i32 : BitVec 32 := 6#32
  let v914 : BitVec 32 := Scalar.remsi c0_i32_437 c6_i32
  let v2290 : Index := Scalar.indexCast v914
  let c1984 : Index := 1984#32
  let c0_778 : Index := 0#32
  ![v2290.toNat, 1984, 0]
def k0_off66 : Fin 3 → Nat :=
  let c0_i32_437 : BitVec 32 := 0#32
  let c6_i32 : BitVec 32 := 6#32
  let v914 : BitVec 32 := Scalar.remsi c0_i32_437 c6_i32
  let v2312 : Index := Scalar.indexCast v914
  let c2016 : Index := 2016#32
  let c0_783 : Index := 0#32
  ![v2312.toNat, 2016, 0]
def k0_off67 : Fin 3 → Nat :=
  let c0_i32_437 : BitVec 32 := 0#32
  let c6_i32 : BitVec 32 := 6#32
  let v914 : BitVec 32 := Scalar.remsi c0_i32_437 c6_i32
  let v2334 : Index := Scalar.indexCast v914
  let c2048_788 : Index := 2048#32
  let c0_789 : Index := 0#32
  ![v2334.toNat, 2048, 0]
def k0_off68 : Fin 3 → Nat :=
  let c0_i32_437 : BitVec 32 := 0#32
  let c6_i32 : BitVec 32 := 6#32
  let v914 : BitVec 32 := Scalar.remsi c0_i32_437 c6_i32
  let v2356 : Index := Scalar.indexCast v914
  let c2080 : Index := 2080#32
  let c0_794 : Index := 0#32
  ![v2356.toNat, 2080, 0]
def k0_off69 : Fin 3 → Nat :=
  let c0_i32_437 : BitVec 32 := 0#32
  let c6_i32 : BitVec 32 := 6#32
  let v914 : BitVec 32 := Scalar.remsi c0_i32_437 c6_i32
  let v2378 : Index := Scalar.indexCast v914
  let c2112 : Index := 2112#32
  let c0_799 : Index := 0#32
  ![v2378.toNat, 2112, 0]
def k0_off70 : Fin 3 → Nat :=
  let c0_i32_437 : BitVec 32 := 0#32
  let c6_i32 : BitVec 32 := 6#32
  let v914 : BitVec 32 := Scalar.remsi c0_i32_437 c6_i32
  let v2400 : Index := Scalar.indexCast v914
  let c2144 : Index := 2144#32
  let c0_804 : Index := 0#32
  ![v2400.toNat, 2144, 0]
def k0_off71 : Fin 3 → Nat :=
  let c0_i32_437 : BitVec 32 := 0#32
  let c6_i32 : BitVec 32 := 6#32
  let v914 : BitVec 32 := Scalar.remsi c0_i32_437 c6_i32
  let v2422 : Index := Scalar.indexCast v914
  let c2176_809 : Index := 2176#32
  let c0_810 : Index := 0#32
  ![v2422.toNat, 2176, 0]
def k0_off72 : Fin 3 → Nat :=
  let c0_i32_437 : BitVec 32 := 0#32
  let c6_i32 : BitVec 32 := 6#32
  let v914 : BitVec 32 := Scalar.remsi c0_i32_437 c6_i32
  let v2444 : Index := Scalar.indexCast v914
  let c2208 : Index := 2208#32
  let c0_815 : Index := 0#32
  ![v2444.toNat, 2208, 0]
def k0_off73 : Fin 3 → Nat :=
  let c0_i32_437 : BitVec 32 := 0#32
  let c6_i32 : BitVec 32 := 6#32
  let v914 : BitVec 32 := Scalar.remsi c0_i32_437 c6_i32
  let v2466 : Index := Scalar.indexCast v914
  let c2240 : Index := 2240#32
  let c0_820 : Index := 0#32
  ![v2466.toNat, 2240, 0]
def k0_off74 : Fin 3 → Nat :=
  let c0_i32_437 : BitVec 32 := 0#32
  let c6_i32 : BitVec 32 := 6#32
  let v914 : BitVec 32 := Scalar.remsi c0_i32_437 c6_i32
  let v2488 : Index := Scalar.indexCast v914
  let c2272 : Index := 2272#32
  let c0_825 : Index := 0#32
  ![v2488.toNat, 2272, 0]
def k0_off75 : Fin 3 → Nat :=
  let c0_i32_437 : BitVec 32 := 0#32
  let c6_i32 : BitVec 32 := 6#32
  let v914 : BitVec 32 := Scalar.remsi c0_i32_437 c6_i32
  let v2510 : Index := Scalar.indexCast v914
  let c2304_830 : Index := 2304#32
  let c0_831 : Index := 0#32
  ![v2510.toNat, 2304, 0]
def k0_off76 : Fin 3 → Nat :=
  let c0_i32_437 : BitVec 32 := 0#32
  let c6_i32 : BitVec 32 := 6#32
  let v914 : BitVec 32 := Scalar.remsi c0_i32_437 c6_i32
  let v2532 : Index := Scalar.indexCast v914
  let c2336 : Index := 2336#32
  let c0_836 : Index := 0#32
  ![v2532.toNat, 2336, 0]
def k0_off77 : Fin 3 → Nat :=
  let c0_i32_437 : BitVec 32 := 0#32
  let c6_i32 : BitVec 32 := 6#32
  let v914 : BitVec 32 := Scalar.remsi c0_i32_437 c6_i32
  let v2554 : Index := Scalar.indexCast v914
  let c2368 : Index := 2368#32
  let c0_841 : Index := 0#32
  ![v2554.toNat, 2368, 0]
def k0_off78 : Fin 3 → Nat :=
  let c0_i32_437 : BitVec 32 := 0#32
  let c6_i32 : BitVec 32 := 6#32
  let v914 : BitVec 32 := Scalar.remsi c0_i32_437 c6_i32
  let v2576 : Index := Scalar.indexCast v914
  let c2400 : Index := 2400#32
  let c0_846 : Index := 0#32
  ![v2576.toNat, 2400, 0]
def k0_off79 : Fin 3 → Nat :=
  let c0_i32_437 : BitVec 32 := 0#32
  let c6_i32 : BitVec 32 := 6#32
  let v914 : BitVec 32 := Scalar.remsi c0_i32_437 c6_i32
  let v2598 : Index := Scalar.indexCast v914
  let c2432_851 : Index := 2432#32
  let c0_852 : Index := 0#32
  ![v2598.toNat, 2432, 0]
def k0_off80 : Fin 3 → Nat :=
  let c0_i32_437 : BitVec 32 := 0#32
  let c6_i32 : BitVec 32 := 6#32
  let v914 : BitVec 32 := Scalar.remsi c0_i32_437 c6_i32
  let v2620 : Index := Scalar.indexCast v914
  let c2464 : Index := 2464#32
  let c0_857 : Index := 0#32
  ![v2620.toNat, 2464, 0]
def k0_off81 : Fin 3 → Nat :=
  let c0_i32_437 : BitVec 32 := 0#32
  let c6_i32 : BitVec 32 := 6#32
  let v914 : BitVec 32 := Scalar.remsi c0_i32_437 c6_i32
  let v2642 : Index := Scalar.indexCast v914
  let c2496 : Index := 2496#32
  let c0_862 : Index := 0#32
  ![v2642.toNat, 2496, 0]
def k0_off82 : Fin 3 → Nat :=
  let c0_i32_437 : BitVec 32 := 0#32
  let c6_i32 : BitVec 32 := 6#32
  let v914 : BitVec 32 := Scalar.remsi c0_i32_437 c6_i32
  let v2664 : Index := Scalar.indexCast v914
  let c2528 : Index := 2528#32
  let c0_867 : Index := 0#32
  ![v2664.toNat, 2528, 0]
def k0_off83 : Fin 3 → Nat :=
  let c0_i32_437 : BitVec 32 := 0#32
  let c6_i32 : BitVec 32 := 6#32
  let v914 : BitVec 32 := Scalar.remsi c0_i32_437 c6_i32
  let v2686 : Index := Scalar.indexCast v914
  let c2560_872 : Index := 2560#32
  let c0_873 : Index := 0#32
  ![v2686.toNat, 2560, 0]
def k0_off84 : Fin 3 → Nat :=
  let c0_i32_437 : BitVec 32 := 0#32
  let c6_i32 : BitVec 32 := 6#32
  let v914 : BitVec 32 := Scalar.remsi c0_i32_437 c6_i32
  let v2708 : Index := Scalar.indexCast v914
  let c2592 : Index := 2592#32
  let c0_878 : Index := 0#32
  ![v2708.toNat, 2592, 0]
def k0_off85 : Fin 3 → Nat :=
  let c0_i32_437 : BitVec 32 := 0#32
  let c6_i32 : BitVec 32 := 6#32
  let v914 : BitVec 32 := Scalar.remsi c0_i32_437 c6_i32
  let v2730 : Index := Scalar.indexCast v914
  let c2624 : Index := 2624#32
  let c0_883 : Index := 0#32
  ![v2730.toNat, 2624, 0]
def k0_off86 : Fin 3 → Nat :=
  let c0_i32_437 : BitVec 32 := 0#32
  let c6_i32 : BitVec 32 := 6#32
  let v914 : BitVec 32 := Scalar.remsi c0_i32_437 c6_i32
  let v2752 : Index := Scalar.indexCast v914
  let c2656 : Index := 2656#32
  let c0_888 : Index := 0#32
  ![v2752.toNat, 2656, 0]
def k0_off87 : Fin 3 → Nat :=
  let c0_i32_437 : BitVec 32 := 0#32
  let c6_i32 : BitVec 32 := 6#32
  let v914 : BitVec 32 := Scalar.remsi c0_i32_437 c6_i32
  let v2774 : Index := Scalar.indexCast v914
  let c2688_893 : Index := 2688#32
  let c0_894 : Index := 0#32
  ![v2774.toNat, 2688, 0]
def k0_off88 : Fin 3 → Nat :=
  let c0_i32_437 : BitVec 32 := 0#32
  let c6_i32 : BitVec 32 := 6#32
  let v914 : BitVec 32 := Scalar.remsi c0_i32_437 c6_i32
  let v2796 : Index := Scalar.indexCast v914
  let c2720 : Index := 2720#32
  let c0_899 : Index := 0#32
  ![v2796.toNat, 2720, 0]
def k0_off89 : Fin 3 → Nat :=
  let c0_i32_437 : BitVec 32 := 0#32
  let c6_i32 : BitVec 32 := 6#32
  let v914 : BitVec 32 := Scalar.remsi c0_i32_437 c6_i32
  let v2818 : Index := Scalar.indexCast v914
  let c2752 : Index := 2752#32
  let c0_904 : Index := 0#32
  ![v2818.toNat, 2752, 0]
def k0_off90 : Fin 3 → Nat :=
  let c0_i32_437 : BitVec 32 := 0#32
  let c6_i32 : BitVec 32 := 6#32
  let v914 : BitVec 32 := Scalar.remsi c0_i32_437 c6_i32
  let v2840 : Index := Scalar.indexCast v914
  let c2784 : Index := 2784#32
  let c0_909 : Index := 0#32
  ![v2840.toNat, 2784, 0]
def k0_off91 : Fin 3 → Nat :=
  let c0_i32_437 : BitVec 32 := 0#32
  let c6_i32 : BitVec 32 := 6#32
  let v914 : BitVec 32 := Scalar.remsi c0_i32_437 c6_i32
  let v2862 : Index := Scalar.indexCast v914
  let c2816_914 : Index := 2816#32
  let c0_915 : Index := 0#32
  ![v2862.toNat, 2816, 0]
def k0_off92 : Fin 3 → Nat :=
  let c0_i32_437 : BitVec 32 := 0#32
  let c6_i32 : BitVec 32 := 6#32
  let v914 : BitVec 32 := Scalar.remsi c0_i32_437 c6_i32
  let v2884 : Index := Scalar.indexCast v914
  let c2848 : Index := 2848#32
  let c0_920 : Index := 0#32
  ![v2884.toNat, 2848, 0]
def k0_off93 : Fin 3 → Nat :=
  let c0_i32_437 : BitVec 32 := 0#32
  let c6_i32 : BitVec 32 := 6#32
  let v914 : BitVec 32 := Scalar.remsi c0_i32_437 c6_i32
  let v2906 : Index := Scalar.indexCast v914
  let c2880 : Index := 2880#32
  let c0_925 : Index := 0#32
  ![v2906.toNat, 2880, 0]
def k0_off94 : Fin 3 → Nat :=
  let c0_i32_437 : BitVec 32 := 0#32
  let c6_i32 : BitVec 32 := 6#32
  let v914 : BitVec 32 := Scalar.remsi c0_i32_437 c6_i32
  let v2928 : Index := Scalar.indexCast v914
  let c2912 : Index := 2912#32
  let c0_930 : Index := 0#32
  ![v2928.toNat, 2912, 0]
def k0_off95 : Fin 3 → Nat :=
  let c0_i32_437 : BitVec 32 := 0#32
  let c6_i32 : BitVec 32 := 6#32
  let v914 : BitVec 32 := Scalar.remsi c0_i32_437 c6_i32
  let v2950 : Index := Scalar.indexCast v914
  let c2944_935 : Index := 2944#32
  let c0_936 : Index := 0#32
  ![v2950.toNat, 2944, 0]
def k0_off96 : Fin 3 → Nat :=
  let c0_i32_437 : BitVec 32 := 0#32
  let c6_i32 : BitVec 32 := 6#32
  let v914 : BitVec 32 := Scalar.remsi c0_i32_437 c6_i32
  let v2972 : Index := Scalar.indexCast v914
  let c2976 : Index := 2976#32
  let c0_941 : Index := 0#32
  ![v2972.toNat, 2976, 0]
def k0_off97 : Fin 3 → Nat :=
  let c0_i32_437 : BitVec 32 := 0#32
  let c6_i32 : BitVec 32 := 6#32
  let v914 : BitVec 32 := Scalar.remsi c0_i32_437 c6_i32
  let v2994 : Index := Scalar.indexCast v914
  let c3008 : Index := 3008#32
  let c0_946 : Index := 0#32
  ![v2994.toNat, 3008, 0]
def k0_off98 : Fin 3 → Nat :=
  let c0_i32_437 : BitVec 32 := 0#32
  let c6_i32 : BitVec 32 := 6#32
  let v914 : BitVec 32 := Scalar.remsi c0_i32_437 c6_i32
  let v3016 : Index := Scalar.indexCast v914
  let c3040 : Index := 3040#32
  let c0_951 : Index := 0#32
  ![v3016.toNat, 3040, 0]
def k0_off99 : Fin 3 → Nat :=
  let c0_i32_437 : BitVec 32 := 0#32
  let c6_i32 : BitVec 32 := 6#32
  let v914 : BitVec 32 := Scalar.remsi c0_i32_437 c6_i32
  let v3038 : Index := Scalar.indexCast v914
  let c3072_956 : Index := 3072#32
  let c0_957 : Index := 0#32
  ![v3038.toNat, 3072, 0]
def k0_off100 : Fin 3 → Nat :=
  let c0_i32_437 : BitVec 32 := 0#32
  let c6_i32 : BitVec 32 := 6#32
  let v914 : BitVec 32 := Scalar.remsi c0_i32_437 c6_i32
  let v3060 : Index := Scalar.indexCast v914
  let c3104 : Index := 3104#32
  let c0_962 : Index := 0#32
  ![v3060.toNat, 3104, 0]
def k0_off101 : Fin 3 → Nat :=
  let c0_i32_437 : BitVec 32 := 0#32
  let c6_i32 : BitVec 32 := 6#32
  let v914 : BitVec 32 := Scalar.remsi c0_i32_437 c6_i32
  let v3082 : Index := Scalar.indexCast v914
  let c3136 : Index := 3136#32
  let c0_967 : Index := 0#32
  ![v3082.toNat, 3136, 0]
def k0_off102 : Fin 3 → Nat :=
  let c0_i32_437 : BitVec 32 := 0#32
  let c6_i32 : BitVec 32 := 6#32
  let v914 : BitVec 32 := Scalar.remsi c0_i32_437 c6_i32
  let v3104 : Index := Scalar.indexCast v914
  let c3168 : Index := 3168#32
  let c0_972 : Index := 0#32
  ![v3104.toNat, 3168, 0]
def k0_off103 : Fin 3 → Nat :=
  let c0_i32_437 : BitVec 32 := 0#32
  let c6_i32 : BitVec 32 := 6#32
  let v914 : BitVec 32 := Scalar.remsi c0_i32_437 c6_i32
  let v3126 : Index := Scalar.indexCast v914
  let c3200_977 : Index := 3200#32
  let c0_978 : Index := 0#32
  ![v3126.toNat, 3200, 0]
def k0_off104 : Fin 3 → Nat :=
  let c0_i32_437 : BitVec 32 := 0#32
  let c6_i32 : BitVec 32 := 6#32
  let v914 : BitVec 32 := Scalar.remsi c0_i32_437 c6_i32
  let v3148 : Index := Scalar.indexCast v914
  let c3232 : Index := 3232#32
  let c0_983 : Index := 0#32
  ![v3148.toNat, 3232, 0]
def k0_off105 : Fin 3 → Nat :=
  let c0_i32_437 : BitVec 32 := 0#32
  let c6_i32 : BitVec 32 := 6#32
  let v914 : BitVec 32 := Scalar.remsi c0_i32_437 c6_i32
  let v3170 : Index := Scalar.indexCast v914
  let c3264 : Index := 3264#32
  let c0_988 : Index := 0#32
  ![v3170.toNat, 3264, 0]
def k0_off106 : Fin 3 → Nat :=
  let c0_i32_437 : BitVec 32 := 0#32
  let c6_i32 : BitVec 32 := 6#32
  let v914 : BitVec 32 := Scalar.remsi c0_i32_437 c6_i32
  let v3192 : Index := Scalar.indexCast v914
  let c3296 : Index := 3296#32
  let c0_993 : Index := 0#32
  ![v3192.toNat, 3296, 0]
def k0_off107 : Fin 3 → Nat :=
  let c0_i32_437 : BitVec 32 := 0#32
  let c6_i32 : BitVec 32 := 6#32
  let v914 : BitVec 32 := Scalar.remsi c0_i32_437 c6_i32
  let v3214 : Index := Scalar.indexCast v914
  let c3328_998 : Index := 3328#32
  let c0_999 : Index := 0#32
  ![v3214.toNat, 3328, 0]
def k0_off108 : Fin 3 → Nat :=
  let c0_i32_437 : BitVec 32 := 0#32
  let c6_i32 : BitVec 32 := 6#32
  let v914 : BitVec 32 := Scalar.remsi c0_i32_437 c6_i32
  let v3236 : Index := Scalar.indexCast v914
  let c3360 : Index := 3360#32
  let c0_1004 : Index := 0#32
  ![v3236.toNat, 3360, 0]
def k0_off109 : Fin 3 → Nat :=
  let c0_i32_437 : BitVec 32 := 0#32
  let c6_i32 : BitVec 32 := 6#32
  let v914 : BitVec 32 := Scalar.remsi c0_i32_437 c6_i32
  let v3258 : Index := Scalar.indexCast v914
  let c3392 : Index := 3392#32
  let c0_1009 : Index := 0#32
  ![v3258.toNat, 3392, 0]
def k0_off110 : Fin 3 → Nat :=
  let c0_i32_437 : BitVec 32 := 0#32
  let c6_i32 : BitVec 32 := 6#32
  let v914 : BitVec 32 := Scalar.remsi c0_i32_437 c6_i32
  let v3280 : Index := Scalar.indexCast v914
  let c3424 : Index := 3424#32
  let c0_1014 : Index := 0#32
  ![v3280.toNat, 3424, 0]
def k0_off111 : Fin 3 → Nat :=
  let c0_i32_437 : BitVec 32 := 0#32
  let c6_i32 : BitVec 32 := 6#32
  let v914 : BitVec 32 := Scalar.remsi c0_i32_437 c6_i32
  let v3302 : Index := Scalar.indexCast v914
  let c3456_1019 : Index := 3456#32
  let c0_1020 : Index := 0#32
  ![v3302.toNat, 3456, 0]
def k0_off112 : Fin 3 → Nat :=
  let c0_i32_437 : BitVec 32 := 0#32
  let c6_i32 : BitVec 32 := 6#32
  let v914 : BitVec 32 := Scalar.remsi c0_i32_437 c6_i32
  let v3324 : Index := Scalar.indexCast v914
  let c3488 : Index := 3488#32
  let c0_1025 : Index := 0#32
  ![v3324.toNat, 3488, 0]
def k0_off113 : Fin 3 → Nat :=
  let c0_i32_437 : BitVec 32 := 0#32
  let c6_i32 : BitVec 32 := 6#32
  let v914 : BitVec 32 := Scalar.remsi c0_i32_437 c6_i32
  let v3346 : Index := Scalar.indexCast v914
  let c3520 : Index := 3520#32
  let c0_1030 : Index := 0#32
  ![v3346.toNat, 3520, 0]
def k0_off114 : Fin 3 → Nat :=
  let c0_i32_437 : BitVec 32 := 0#32
  let c6_i32 : BitVec 32 := 6#32
  let v914 : BitVec 32 := Scalar.remsi c0_i32_437 c6_i32
  let v3368 : Index := Scalar.indexCast v914
  let c3552 : Index := 3552#32
  let c0_1035 : Index := 0#32
  ![v3368.toNat, 3552, 0]
@[reducible] def k0_t1_loop : Scf.Loop 32 :=
  let c1_i32_1051 : BitVec 32 := 1#32
  let c73_i32 : BitVec 32 := 73#32
  let v3408 : BitVec 32 := Scalar.addi c1_i32_1051 c73_i32
  let c1_i32_1052 : BitVec 32 := 1#32
  ⟨c1_i32_1051, v3408, c1_i32_1052⟩
def k0_mult8 (k0_t1 : Fin k0_t1_loop.trips) : BitVec 32 :=
  let c1_i32_1051 : BitVec 32 := 1#32
  let c1_i32_1052 : BitVec 32 := 1#32
  let arg23 : BitVec 32 := Scf.iv c1_i32_1051 c1_i32_1052 k0_t1
  let c256_i32_1816 : BitVec 32 := 256#32
  let v5207 : BitVec 32 := Scalar.muli arg23 c256_i32_1816
  v5207
def k0_off115 (k0_t1 : Fin k0_t1_loop.trips) : Fin 1 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  ![v5205.toNat]
def k0_off116 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let c0_i32_1817 : BitVec 32 := 0#32
  let c0_i32_1818 : BitVec 32 := 0#32
  ![v5205.toNat, 0, 0]
def k0_off117 (k0_t1 : Fin k0_t1_loop.trips) : Fin 2 → Nat :=
  let c0_i32_1819 : BitVec 32 := 0#32
  let c1_i32_1051 : BitVec 32 := 1#32
  let c1_i32_1052 : BitVec 32 := 1#32
  let arg23 : BitVec 32 := Scf.iv c1_i32_1051 c1_i32_1052 k0_t1
  let c256_i32_1816 : BitVec 32 := 256#32
  let v5207 : BitVec 32 := Scalar.muli arg23 c256_i32_1816
  let v5208 : BitVec 32 := v5207
  ![0, v5208.toNat]
def k0_cond1 (k0_t1 : Fin k0_t1_loop.trips) : BitVec 1 :=
  let c1_i32_1051 : BitVec 32 := 1#32
  let c1_i32_1052 : BitVec 32 := 1#32
  let arg23 : BitVec 32 := Scf.iv c1_i32_1051 c1_i32_1052 k0_t1
  let c6_i32_1820 : BitVec 32 := 6#32
  let v5214 : BitVec 32 := Scalar.addi arg23 c6_i32_1820
  let c1_i32_1821 : BitVec 32 := 1#32
  let v5215 : BitVec 32 := Scalar.subi v5214 c1_i32_1821
  let c74_i32_1822 : BitVec 32 := 74#32
  let v5216 : BitVec 1 := Scalar.cmpi .slt v5215 c74_i32_1822
  let v5217 : BitVec 32 := Scalar.extui v5216
  let c0_i32_1823 : BitVec 32 := 0#32
  let v5218 : BitVec 1 := Scalar.cmpi .ne v5217 c0_i32_1823
  v5218

def k0_mult9 (k0_t1 : Fin k0_t1_loop.trips) : BitVec 32 :=
  let c1_i32_1051 : BitVec 32 := 1#32
  let c1_i32_1052 : BitVec 32 := 1#32
  let arg23 : BitVec 32 := Scf.iv c1_i32_1051 c1_i32_1052 k0_t1
  let c6_i32_1820 : BitVec 32 := 6#32
  let v5214 : BitVec 32 := Scalar.addi arg23 c6_i32_1820
  let c1_i32_1821 : BitVec 32 := 1#32
  let v5215 : BitVec 32 := Scalar.subi v5214 c1_i32_1821
  let c256_i32_3241 : BitVec 32 := 256#32
  let v9467 : BitVec 32 := Scalar.muli v5215 c256_i32_3241
  v9467
def k0_off118 (k0_t1 : Fin k0_t1_loop.trips) : Fin 1 → Nat :=
  let c1_i32_1051 : BitVec 32 := 1#32
  let c1_i32_1052 : BitVec 32 := 1#32
  let arg23 : BitVec 32 := Scf.iv c1_i32_1051 c1_i32_1052 k0_t1
  let c6_i32_1820 : BitVec 32 := 6#32
  let v5214 : BitVec 32 := Scalar.addi arg23 c6_i32_1820
  let c1_i32_1821 : BitVec 32 := 1#32
  let v5215 : BitVec 32 := Scalar.subi v5214 c1_i32_1821
  let c6_i32_3240 : BitVec 32 := 6#32
  let v9466 : BitVec 32 := Scalar.remsi v5215 c6_i32_3240
  ![v9466.toNat]
def k0_off119 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1820 : BitVec 32 := 6#32
  let v5214 : BitVec 32 := Scalar.addi arg23 c6_i32_1820
  let c1_i32_1821 : BitVec 32 := 1#32
  let v5215 : BitVec 32 := Scalar.subi v5214 c1_i32_1821
  let c6_i32_3240 : BitVec 32 := 6#32
  let v9466 : BitVec 32 := Scalar.remsi v5215 c6_i32_3240
  let c0_i32_3242 : BitVec 32 := 0#32
  let c0_i32_3243 : BitVec 32 := 0#32
  ![v9466.toNat, 0, 0]
def k0_off120 (k0_t1 : Fin k0_t1_loop.trips) : Fin 2 → Nat :=
  let c0_i32_3244 : BitVec 32 := 0#32
  let c1_i32_1051 : BitVec 32 := 1#32
  let c1_i32_1052 : BitVec 32 := 1#32
  let arg23 : BitVec 32 := Scf.iv c1_i32_1051 c1_i32_1052 k0_t1
  let c6_i32_1820 : BitVec 32 := 6#32
  let v5214 : BitVec 32 := Scalar.addi arg23 c6_i32_1820
  let c1_i32_1821 : BitVec 32 := 1#32
  let v5215 : BitVec 32 := Scalar.subi v5214 c1_i32_1821
  let c256_i32_3241 : BitVec 32 := 256#32
  let v9467 : BitVec 32 := Scalar.muli v5215 c256_i32_3241
  let v9468 : BitVec 32 := v9467
  ![0, v9468.toNat]
def k0_cond2 (k0_t1 : Fin k0_t1_loop.trips) : BitVec 1 :=
  let c1_i32_1051 : BitVec 32 := 1#32
  let c1_i32_1052 : BitVec 32 := 1#32
  let arg23 : BitVec 32 := Scf.iv c1_i32_1051 c1_i32_1052 k0_t1
  let c2_i32_1824 : BitVec 32 := 2#32
  let v5219 : BitVec 1 := Scalar.cmpi .sgt arg23 c2_i32_1824
  let v5220 : BitVec 32 := Scalar.extui v5219
  let c0_i32_1825 : BitVec 32 := 0#32
  let v5221 : BitVec 1 := Scalar.cmpi .ne v5220 c0_i32_1825
  v5221

def k0_mult10 (k0_t1 : Fin k0_t1_loop.trips) : BitVec 32 :=
  let c1_i32_1051 : BitVec 32 := 1#32
  let c1_i32_1052 : BitVec 32 := 1#32
  let arg23 : BitVec 32 := Scf.iv c1_i32_1051 c1_i32_1052 k0_t1
  let c1_i32_3240 : BitVec 32 := 1#32
  let v9466 : BitVec 32 := Scalar.subi arg23 c1_i32_3240
  let c2_i32_3241 : BitVec 32 := 2#32
  let v9467 : BitVec 32 := Scalar.subi v9466 c2_i32_3241
  let c256_i32_3242 : BitVec 32 := 256#32
  let v9468 : BitVec 32 := Scalar.muli v9467 c256_i32_3242
  v9468
def k0_off121 (k0_t1 : Fin k0_t1_loop.trips) : Fin 1 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  ![v5206.toNat]
def k0_off122 (k0_t1 : Fin k0_t1_loop.trips) : Fin 2 → Nat :=
  let c0_i32_3243 : BitVec 32 := 0#32
  let c1_i32_1051 : BitVec 32 := 1#32
  let c1_i32_1052 : BitVec 32 := 1#32
  let arg23 : BitVec 32 := Scf.iv c1_i32_1051 c1_i32_1052 k0_t1
  let c1_i32_3240 : BitVec 32 := 1#32
  let v9466 : BitVec 32 := Scalar.subi arg23 c1_i32_3240
  let c2_i32_3241 : BitVec 32 := 2#32
  let v9467 : BitVec 32 := Scalar.subi v9466 c2_i32_3241
  let c256_i32_3242 : BitVec 32 := 256#32
  let v9468 : BitVec 32 := Scalar.muli v9467 c256_i32_3242
  let v9469 : BitVec 32 := v9468
  ![0, v9469.toNat]
def k0_off123 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let c0_i32_3244 : BitVec 32 := 0#32
  let c0_i32_3245 : BitVec 32 := 0#32
  ![v5206.toNat, 0, 0]
def k0_mult11 (k0_t1 : Fin k0_t1_loop.trips) : BitVec 32 :=
  let c1_i32_1051 : BitVec 32 := 1#32
  let c1_i32_1052 : BitVec 32 := 1#32
  let arg23 : BitVec 32 := Scf.iv c1_i32_1051 c1_i32_1052 k0_t1
  let c1_i32_3246 : BitVec 32 := 1#32
  let v9475 : BitVec 32 := Scalar.subi arg23 c1_i32_3246
  let c2_i32_3247 : BitVec 32 := 2#32
  let v9476 : BitVec 32 := Scalar.subi v9475 c2_i32_3247
  let c256_i32_3248 : BitVec 32 := 256#32
  let v9477 : BitVec 32 := Scalar.muli v9476 c256_i32_3248
  v9477
def k0_off124 (k0_t1 : Fin k0_t1_loop.trips) : Fin 2 → Nat :=
  let c0_i32_3249 : BitVec 32 := 0#32
  let c1_i32_1051 : BitVec 32 := 1#32
  let c1_i32_1052 : BitVec 32 := 1#32
  let arg23 : BitVec 32 := Scf.iv c1_i32_1051 c1_i32_1052 k0_t1
  let c1_i32_3246 : BitVec 32 := 1#32
  let v9475 : BitVec 32 := Scalar.subi arg23 c1_i32_3246
  let c2_i32_3247 : BitVec 32 := 2#32
  let v9476 : BitVec 32 := Scalar.subi v9475 c2_i32_3247
  let c256_i32_3248 : BitVec 32 := 256#32
  let v9477 : BitVec 32 := Scalar.muli v9476 c256_i32_3248
  let v9478 : BitVec 32 := v9477
  ![0, v9478.toNat]
def k0_off125 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let c0_i32_3250 : BitVec 32 := 0#32
  let c0_i32_3251 : BitVec 32 := 0#32
  ![v5206.toNat, 0, 0]
def k0_off126 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5234 : Index := Scalar.indexCast v5206
  let c0_1834 : Index := 0#32
  let c0_1835 : Index := 0#32
  ![v5234.toNat, 0, 0]
def k0_off127 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5239 : Index := Scalar.indexCast v5205
  let c0_1836 : Index := 0#32
  let c0_1837 : Index := 0#32
  ![v5239.toNat, 0, 0]
def k0_off128 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5269 : Index := Scalar.indexCast v5206
  let c32_1846 : Index := 32#32
  let c0_1847 : Index := 0#32
  ![v5269.toNat, 32, 0]
def k0_off129 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5274 : Index := Scalar.indexCast v5205
  let c32_1848 : Index := 32#32
  let c0_1849 : Index := 0#32
  ![v5274.toNat, 32, 0]
def k0_off130 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5306 : Index := Scalar.indexCast v5206
  let c64_1858 : Index := 64#32
  let c0_1859 : Index := 0#32
  ![v5306.toNat, 64, 0]
def k0_off131 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5311 : Index := Scalar.indexCast v5205
  let c64_1860 : Index := 64#32
  let c0_1861 : Index := 0#32
  ![v5311.toNat, 64, 0]
def k0_off132 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5343 : Index := Scalar.indexCast v5206
  let c96_1870 : Index := 96#32
  let c0_1871 : Index := 0#32
  ![v5343.toNat, 96, 0]
def k0_off133 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5348 : Index := Scalar.indexCast v5205
  let c96_1872 : Index := 96#32
  let c0_1873 : Index := 0#32
  ![v5348.toNat, 96, 0]
def k0_off134 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5380 : Index := Scalar.indexCast v5206
  let c128_1882 : Index := 128#32
  let c0_1883 : Index := 0#32
  ![v5380.toNat, 128, 0]
def k0_off135 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5385 : Index := Scalar.indexCast v5205
  let c128_1884 : Index := 128#32
  let c0_1885 : Index := 0#32
  ![v5385.toNat, 128, 0]
def k0_off136 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5417 : Index := Scalar.indexCast v5206
  let c160_1894 : Index := 160#32
  let c0_1895 : Index := 0#32
  ![v5417.toNat, 160, 0]
def k0_off137 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5422 : Index := Scalar.indexCast v5205
  let c160_1896 : Index := 160#32
  let c0_1897 : Index := 0#32
  ![v5422.toNat, 160, 0]
def k0_off138 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5454 : Index := Scalar.indexCast v5206
  let c192_1906 : Index := 192#32
  let c0_1907 : Index := 0#32
  ![v5454.toNat, 192, 0]
def k0_off139 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5459 : Index := Scalar.indexCast v5205
  let c192_1908 : Index := 192#32
  let c0_1909 : Index := 0#32
  ![v5459.toNat, 192, 0]
def k0_off140 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5491 : Index := Scalar.indexCast v5206
  let c224_1918 : Index := 224#32
  let c0_1919 : Index := 0#32
  ![v5491.toNat, 224, 0]
def k0_off141 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5499 : Index := Scalar.indexCast v5205
  let c224_1923 : Index := 224#32
  let c0_1924 : Index := 0#32
  ![v5499.toNat, 224, 0]
def k0_off142 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5531 : Index := Scalar.indexCast v5206
  let c256_1933 : Index := 256#32
  let c0_1934 : Index := 0#32
  ![v5531.toNat, 256, 0]
def k0_off143 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5536 : Index := Scalar.indexCast v5205
  let c256_1935 : Index := 256#32
  let c0_1936 : Index := 0#32
  ![v5536.toNat, 256, 0]
def k0_off144 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5568 : Index := Scalar.indexCast v5206
  let c288_1945 : Index := 288#32
  let c0_1946 : Index := 0#32
  ![v5568.toNat, 288, 0]
def k0_off145 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5573 : Index := Scalar.indexCast v5205
  let c288_1947 : Index := 288#32
  let c0_1948 : Index := 0#32
  ![v5573.toNat, 288, 0]
def k0_off146 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5605 : Index := Scalar.indexCast v5206
  let c320_1957 : Index := 320#32
  let c0_1958 : Index := 0#32
  ![v5605.toNat, 320, 0]
def k0_off147 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5610 : Index := Scalar.indexCast v5205
  let c320_1959 : Index := 320#32
  let c0_1960 : Index := 0#32
  ![v5610.toNat, 320, 0]
def k0_off148 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5642 : Index := Scalar.indexCast v5206
  let c352_1969 : Index := 352#32
  let c0_1970 : Index := 0#32
  ![v5642.toNat, 352, 0]
def k0_off149 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5647 : Index := Scalar.indexCast v5205
  let c352_1971 : Index := 352#32
  let c0_1972 : Index := 0#32
  ![v5647.toNat, 352, 0]
def k0_off150 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5679 : Index := Scalar.indexCast v5206
  let c384_1981 : Index := 384#32
  let c0_1982 : Index := 0#32
  ![v5679.toNat, 384, 0]
def k0_off151 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5684 : Index := Scalar.indexCast v5205
  let c384_1983 : Index := 384#32
  let c0_1984 : Index := 0#32
  ![v5684.toNat, 384, 0]
def k0_off152 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5716 : Index := Scalar.indexCast v5206
  let c416_1993 : Index := 416#32
  let c0_1994 : Index := 0#32
  ![v5716.toNat, 416, 0]
def k0_off153 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5721 : Index := Scalar.indexCast v5205
  let c416_1995 : Index := 416#32
  let c0_1996 : Index := 0#32
  ![v5721.toNat, 416, 0]
def k0_off154 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5753 : Index := Scalar.indexCast v5206
  let c448_2005 : Index := 448#32
  let c0_2006 : Index := 0#32
  ![v5753.toNat, 448, 0]
def k0_off155 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5758 : Index := Scalar.indexCast v5205
  let c448_2007 : Index := 448#32
  let c0_2008 : Index := 0#32
  ![v5758.toNat, 448, 0]
def k0_off156 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5790 : Index := Scalar.indexCast v5206
  let c480_2017 : Index := 480#32
  let c0_2018 : Index := 0#32
  ![v5790.toNat, 480, 0]
def k0_off157 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5799 : Index := Scalar.indexCast v5205
  let c480_2022 : Index := 480#32
  let c0_2023 : Index := 0#32
  ![v5799.toNat, 480, 0]
def k0_off158 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5831 : Index := Scalar.indexCast v5206
  let c512_2032 : Index := 512#32
  let c0_2033 : Index := 0#32
  ![v5831.toNat, 512, 0]
def k0_off159 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5836 : Index := Scalar.indexCast v5205
  let c512_2034 : Index := 512#32
  let c0_2035 : Index := 0#32
  ![v5836.toNat, 512, 0]
def k0_off160 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5868 : Index := Scalar.indexCast v5206
  let c544_2044 : Index := 544#32
  let c0_2045 : Index := 0#32
  ![v5868.toNat, 544, 0]
def k0_off161 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5873 : Index := Scalar.indexCast v5205
  let c544_2046 : Index := 544#32
  let c0_2047 : Index := 0#32
  ![v5873.toNat, 544, 0]
def k0_off162 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5905 : Index := Scalar.indexCast v5206
  let c576_2056 : Index := 576#32
  let c0_2057 : Index := 0#32
  ![v5905.toNat, 576, 0]
def k0_off163 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5910 : Index := Scalar.indexCast v5205
  let c576_2058 : Index := 576#32
  let c0_2059 : Index := 0#32
  ![v5910.toNat, 576, 0]
def k0_off164 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5942 : Index := Scalar.indexCast v5206
  let c608_2068 : Index := 608#32
  let c0_2069 : Index := 0#32
  ![v5942.toNat, 608, 0]
def k0_off165 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5947 : Index := Scalar.indexCast v5205
  let c608_2070 : Index := 608#32
  let c0_2071 : Index := 0#32
  ![v5947.toNat, 608, 0]
def k0_off166 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v5979 : Index := Scalar.indexCast v5206
  let c640_2080 : Index := 640#32
  let c0_2081 : Index := 0#32
  ![v5979.toNat, 640, 0]
def k0_off167 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v5984 : Index := Scalar.indexCast v5205
  let c640_2082 : Index := 640#32
  let c0_2083 : Index := 0#32
  ![v5984.toNat, 640, 0]
def k0_off168 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6016 : Index := Scalar.indexCast v5206
  let c672_2092 : Index := 672#32
  let c0_2093 : Index := 0#32
  ![v6016.toNat, 672, 0]
def k0_off169 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6021 : Index := Scalar.indexCast v5205
  let c672_2094 : Index := 672#32
  let c0_2095 : Index := 0#32
  ![v6021.toNat, 672, 0]
def k0_off170 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6053 : Index := Scalar.indexCast v5206
  let c704_2104 : Index := 704#32
  let c0_2105 : Index := 0#32
  ![v6053.toNat, 704, 0]
def k0_off171 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6058 : Index := Scalar.indexCast v5205
  let c704_2106 : Index := 704#32
  let c0_2107 : Index := 0#32
  ![v6058.toNat, 704, 0]
def k0_off172 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6090 : Index := Scalar.indexCast v5206
  let c736_2116 : Index := 736#32
  let c0_2117 : Index := 0#32
  ![v6090.toNat, 736, 0]
def k0_off173 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6099 : Index := Scalar.indexCast v5205
  let c736_2121 : Index := 736#32
  let c0_2122 : Index := 0#32
  ![v6099.toNat, 736, 0]
def k0_off174 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6131 : Index := Scalar.indexCast v5206
  let c768_2131 : Index := 768#32
  let c0_2132 : Index := 0#32
  ![v6131.toNat, 768, 0]
def k0_off175 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6136 : Index := Scalar.indexCast v5205
  let c768_2133 : Index := 768#32
  let c0_2134 : Index := 0#32
  ![v6136.toNat, 768, 0]
def k0_off176 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6168 : Index := Scalar.indexCast v5206
  let c800_2143 : Index := 800#32
  let c0_2144 : Index := 0#32
  ![v6168.toNat, 800, 0]
def k0_off177 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6173 : Index := Scalar.indexCast v5205
  let c800_2145 : Index := 800#32
  let c0_2146 : Index := 0#32
  ![v6173.toNat, 800, 0]
def k0_off178 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6205 : Index := Scalar.indexCast v5206
  let c832_2155 : Index := 832#32
  let c0_2156 : Index := 0#32
  ![v6205.toNat, 832, 0]
def k0_off179 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6210 : Index := Scalar.indexCast v5205
  let c832_2157 : Index := 832#32
  let c0_2158 : Index := 0#32
  ![v6210.toNat, 832, 0]
def k0_off180 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6242 : Index := Scalar.indexCast v5206
  let c864_2167 : Index := 864#32
  let c0_2168 : Index := 0#32
  ![v6242.toNat, 864, 0]
def k0_off181 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6247 : Index := Scalar.indexCast v5205
  let c864_2169 : Index := 864#32
  let c0_2170 : Index := 0#32
  ![v6247.toNat, 864, 0]
def k0_off182 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6279 : Index := Scalar.indexCast v5206
  let c896_2179 : Index := 896#32
  let c0_2180 : Index := 0#32
  ![v6279.toNat, 896, 0]
def k0_off183 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6284 : Index := Scalar.indexCast v5205
  let c896_2181 : Index := 896#32
  let c0_2182 : Index := 0#32
  ![v6284.toNat, 896, 0]
def k0_off184 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6316 : Index := Scalar.indexCast v5206
  let c928_2191 : Index := 928#32
  let c0_2192 : Index := 0#32
  ![v6316.toNat, 928, 0]
def k0_off185 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6321 : Index := Scalar.indexCast v5205
  let c928_2193 : Index := 928#32
  let c0_2194 : Index := 0#32
  ![v6321.toNat, 928, 0]
def k0_off186 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6353 : Index := Scalar.indexCast v5206
  let c960_2203 : Index := 960#32
  let c0_2204 : Index := 0#32
  ![v6353.toNat, 960, 0]
def k0_off187 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6358 : Index := Scalar.indexCast v5205
  let c960_2205 : Index := 960#32
  let c0_2206 : Index := 0#32
  ![v6358.toNat, 960, 0]
def k0_off188 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6390 : Index := Scalar.indexCast v5206
  let c992_2215 : Index := 992#32
  let c0_2216 : Index := 0#32
  ![v6390.toNat, 992, 0]
def k0_off189 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6399 : Index := Scalar.indexCast v5205
  let c992_2220 : Index := 992#32
  let c0_2221 : Index := 0#32
  ![v6399.toNat, 992, 0]
def k0_off190 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6431 : Index := Scalar.indexCast v5206
  let c1024_2230 : Index := 1024#32
  let c0_2231 : Index := 0#32
  ![v6431.toNat, 1024, 0]
def k0_off191 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6436 : Index := Scalar.indexCast v5205
  let c1024_2232 : Index := 1024#32
  let c0_2233 : Index := 0#32
  ![v6436.toNat, 1024, 0]
def k0_off192 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6468 : Index := Scalar.indexCast v5206
  let c1056_2242 : Index := 1056#32
  let c0_2243 : Index := 0#32
  ![v6468.toNat, 1056, 0]
def k0_off193 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6473 : Index := Scalar.indexCast v5205
  let c1056_2244 : Index := 1056#32
  let c0_2245 : Index := 0#32
  ![v6473.toNat, 1056, 0]
def k0_off194 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6505 : Index := Scalar.indexCast v5206
  let c1088_2254 : Index := 1088#32
  let c0_2255 : Index := 0#32
  ![v6505.toNat, 1088, 0]
def k0_off195 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6510 : Index := Scalar.indexCast v5205
  let c1088_2256 : Index := 1088#32
  let c0_2257 : Index := 0#32
  ![v6510.toNat, 1088, 0]
def k0_off196 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6542 : Index := Scalar.indexCast v5206
  let c1120_2266 : Index := 1120#32
  let c0_2267 : Index := 0#32
  ![v6542.toNat, 1120, 0]
def k0_off197 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6547 : Index := Scalar.indexCast v5205
  let c1120_2268 : Index := 1120#32
  let c0_2269 : Index := 0#32
  ![v6547.toNat, 1120, 0]
def k0_off198 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6579 : Index := Scalar.indexCast v5206
  let c1152_2278 : Index := 1152#32
  let c0_2279 : Index := 0#32
  ![v6579.toNat, 1152, 0]
def k0_off199 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6584 : Index := Scalar.indexCast v5205
  let c1152_2280 : Index := 1152#32
  let c0_2281 : Index := 0#32
  ![v6584.toNat, 1152, 0]
def k0_off200 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6616 : Index := Scalar.indexCast v5206
  let c1184_2290 : Index := 1184#32
  let c0_2291 : Index := 0#32
  ![v6616.toNat, 1184, 0]
def k0_off201 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6621 : Index := Scalar.indexCast v5205
  let c1184_2292 : Index := 1184#32
  let c0_2293 : Index := 0#32
  ![v6621.toNat, 1184, 0]
def k0_off202 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6653 : Index := Scalar.indexCast v5206
  let c1216_2302 : Index := 1216#32
  let c0_2303 : Index := 0#32
  ![v6653.toNat, 1216, 0]
def k0_off203 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6658 : Index := Scalar.indexCast v5205
  let c1216_2304 : Index := 1216#32
  let c0_2305 : Index := 0#32
  ![v6658.toNat, 1216, 0]
def k0_off204 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6690 : Index := Scalar.indexCast v5206
  let c1248_2314 : Index := 1248#32
  let c0_2315 : Index := 0#32
  ![v6690.toNat, 1248, 0]
def k0_off205 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6699 : Index := Scalar.indexCast v5205
  let c1248_2319 : Index := 1248#32
  let c0_2320 : Index := 0#32
  ![v6699.toNat, 1248, 0]
def k0_off206 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6731 : Index := Scalar.indexCast v5206
  let c1280_2329 : Index := 1280#32
  let c0_2330 : Index := 0#32
  ![v6731.toNat, 1280, 0]
def k0_off207 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6736 : Index := Scalar.indexCast v5205
  let c1280_2331 : Index := 1280#32
  let c0_2332 : Index := 0#32
  ![v6736.toNat, 1280, 0]
def k0_off208 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6768 : Index := Scalar.indexCast v5206
  let c1312_2341 : Index := 1312#32
  let c0_2342 : Index := 0#32
  ![v6768.toNat, 1312, 0]
def k0_off209 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6773 : Index := Scalar.indexCast v5205
  let c1312_2343 : Index := 1312#32
  let c0_2344 : Index := 0#32
  ![v6773.toNat, 1312, 0]
def k0_off210 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6805 : Index := Scalar.indexCast v5206
  let c1344_2353 : Index := 1344#32
  let c0_2354 : Index := 0#32
  ![v6805.toNat, 1344, 0]
def k0_off211 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6810 : Index := Scalar.indexCast v5205
  let c1344_2355 : Index := 1344#32
  let c0_2356 : Index := 0#32
  ![v6810.toNat, 1344, 0]
def k0_off212 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6842 : Index := Scalar.indexCast v5206
  let c1376_2365 : Index := 1376#32
  let c0_2366 : Index := 0#32
  ![v6842.toNat, 1376, 0]
def k0_off213 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6847 : Index := Scalar.indexCast v5205
  let c1376_2367 : Index := 1376#32
  let c0_2368 : Index := 0#32
  ![v6847.toNat, 1376, 0]
def k0_off214 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6879 : Index := Scalar.indexCast v5206
  let c1408_2377 : Index := 1408#32
  let c0_2378 : Index := 0#32
  ![v6879.toNat, 1408, 0]
def k0_off215 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6884 : Index := Scalar.indexCast v5205
  let c1408_2379 : Index := 1408#32
  let c0_2380 : Index := 0#32
  ![v6884.toNat, 1408, 0]
def k0_off216 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6916 : Index := Scalar.indexCast v5206
  let c1440_2389 : Index := 1440#32
  let c0_2390 : Index := 0#32
  ![v6916.toNat, 1440, 0]
def k0_off217 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6921 : Index := Scalar.indexCast v5205
  let c1440_2391 : Index := 1440#32
  let c0_2392 : Index := 0#32
  ![v6921.toNat, 1440, 0]
def k0_off218 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6953 : Index := Scalar.indexCast v5206
  let c1472_2401 : Index := 1472#32
  let c0_2402 : Index := 0#32
  ![v6953.toNat, 1472, 0]
def k0_off219 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6958 : Index := Scalar.indexCast v5205
  let c1472_2403 : Index := 1472#32
  let c0_2404 : Index := 0#32
  ![v6958.toNat, 1472, 0]
def k0_off220 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v6990 : Index := Scalar.indexCast v5206
  let c1504_2413 : Index := 1504#32
  let c0_2414 : Index := 0#32
  ![v6990.toNat, 1504, 0]
def k0_off221 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v6999 : Index := Scalar.indexCast v5205
  let c1504_2418 : Index := 1504#32
  let c0_2419 : Index := 0#32
  ![v6999.toNat, 1504, 0]
def k0_off222 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7031 : Index := Scalar.indexCast v5206
  let c1536_2428 : Index := 1536#32
  let c0_2429 : Index := 0#32
  ![v7031.toNat, 1536, 0]
def k0_off223 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7036 : Index := Scalar.indexCast v5205
  let c1536_2430 : Index := 1536#32
  let c0_2431 : Index := 0#32
  ![v7036.toNat, 1536, 0]
def k0_off224 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7068 : Index := Scalar.indexCast v5206
  let c1568_2440 : Index := 1568#32
  let c0_2441 : Index := 0#32
  ![v7068.toNat, 1568, 0]
def k0_off225 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7073 : Index := Scalar.indexCast v5205
  let c1568_2442 : Index := 1568#32
  let c0_2443 : Index := 0#32
  ![v7073.toNat, 1568, 0]
def k0_off226 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7105 : Index := Scalar.indexCast v5206
  let c1600_2452 : Index := 1600#32
  let c0_2453 : Index := 0#32
  ![v7105.toNat, 1600, 0]
def k0_off227 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7110 : Index := Scalar.indexCast v5205
  let c1600_2454 : Index := 1600#32
  let c0_2455 : Index := 0#32
  ![v7110.toNat, 1600, 0]
def k0_off228 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7142 : Index := Scalar.indexCast v5206
  let c1632_2464 : Index := 1632#32
  let c0_2465 : Index := 0#32
  ![v7142.toNat, 1632, 0]
def k0_off229 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7147 : Index := Scalar.indexCast v5205
  let c1632_2466 : Index := 1632#32
  let c0_2467 : Index := 0#32
  ![v7147.toNat, 1632, 0]
def k0_off230 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7179 : Index := Scalar.indexCast v5206
  let c1664_2476 : Index := 1664#32
  let c0_2477 : Index := 0#32
  ![v7179.toNat, 1664, 0]
def k0_off231 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7184 : Index := Scalar.indexCast v5205
  let c1664_2478 : Index := 1664#32
  let c0_2479 : Index := 0#32
  ![v7184.toNat, 1664, 0]
def k0_off232 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7216 : Index := Scalar.indexCast v5206
  let c1696_2488 : Index := 1696#32
  let c0_2489 : Index := 0#32
  ![v7216.toNat, 1696, 0]
def k0_off233 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7221 : Index := Scalar.indexCast v5205
  let c1696_2490 : Index := 1696#32
  let c0_2491 : Index := 0#32
  ![v7221.toNat, 1696, 0]
def k0_off234 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7253 : Index := Scalar.indexCast v5206
  let c1728_2500 : Index := 1728#32
  let c0_2501 : Index := 0#32
  ![v7253.toNat, 1728, 0]
def k0_off235 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7258 : Index := Scalar.indexCast v5205
  let c1728_2502 : Index := 1728#32
  let c0_2503 : Index := 0#32
  ![v7258.toNat, 1728, 0]
def k0_off236 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7290 : Index := Scalar.indexCast v5206
  let c1760_2512 : Index := 1760#32
  let c0_2513 : Index := 0#32
  ![v7290.toNat, 1760, 0]
def k0_off237 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7299 : Index := Scalar.indexCast v5205
  let c1760_2517 : Index := 1760#32
  let c0_2518 : Index := 0#32
  ![v7299.toNat, 1760, 0]
def k0_off238 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7331 : Index := Scalar.indexCast v5206
  let c1792_2527 : Index := 1792#32
  let c0_2528 : Index := 0#32
  ![v7331.toNat, 1792, 0]
def k0_off239 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7336 : Index := Scalar.indexCast v5205
  let c1792_2529 : Index := 1792#32
  let c0_2530 : Index := 0#32
  ![v7336.toNat, 1792, 0]
def k0_off240 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7368 : Index := Scalar.indexCast v5206
  let c1824_2539 : Index := 1824#32
  let c0_2540 : Index := 0#32
  ![v7368.toNat, 1824, 0]
def k0_off241 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7373 : Index := Scalar.indexCast v5205
  let c1824_2541 : Index := 1824#32
  let c0_2542 : Index := 0#32
  ![v7373.toNat, 1824, 0]
def k0_off242 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7405 : Index := Scalar.indexCast v5206
  let c1856_2551 : Index := 1856#32
  let c0_2552 : Index := 0#32
  ![v7405.toNat, 1856, 0]
def k0_off243 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7410 : Index := Scalar.indexCast v5205
  let c1856_2553 : Index := 1856#32
  let c0_2554 : Index := 0#32
  ![v7410.toNat, 1856, 0]
def k0_off244 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7442 : Index := Scalar.indexCast v5206
  let c1888_2563 : Index := 1888#32
  let c0_2564 : Index := 0#32
  ![v7442.toNat, 1888, 0]
def k0_off245 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7447 : Index := Scalar.indexCast v5205
  let c1888_2565 : Index := 1888#32
  let c0_2566 : Index := 0#32
  ![v7447.toNat, 1888, 0]
def k0_off246 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7479 : Index := Scalar.indexCast v5206
  let c1920_2575 : Index := 1920#32
  let c0_2576 : Index := 0#32
  ![v7479.toNat, 1920, 0]
def k0_off247 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7484 : Index := Scalar.indexCast v5205
  let c1920_2577 : Index := 1920#32
  let c0_2578 : Index := 0#32
  ![v7484.toNat, 1920, 0]
def k0_off248 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7516 : Index := Scalar.indexCast v5206
  let c1952_2587 : Index := 1952#32
  let c0_2588 : Index := 0#32
  ![v7516.toNat, 1952, 0]
def k0_off249 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7521 : Index := Scalar.indexCast v5205
  let c1952_2589 : Index := 1952#32
  let c0_2590 : Index := 0#32
  ![v7521.toNat, 1952, 0]
def k0_off250 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7553 : Index := Scalar.indexCast v5206
  let c1984_2599 : Index := 1984#32
  let c0_2600 : Index := 0#32
  ![v7553.toNat, 1984, 0]
def k0_off251 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7558 : Index := Scalar.indexCast v5205
  let c1984_2601 : Index := 1984#32
  let c0_2602 : Index := 0#32
  ![v7558.toNat, 1984, 0]
def k0_off252 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7590 : Index := Scalar.indexCast v5206
  let c2016_2611 : Index := 2016#32
  let c0_2612 : Index := 0#32
  ![v7590.toNat, 2016, 0]
def k0_off253 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7599 : Index := Scalar.indexCast v5205
  let c2016_2616 : Index := 2016#32
  let c0_2617 : Index := 0#32
  ![v7599.toNat, 2016, 0]
def k0_off254 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7631 : Index := Scalar.indexCast v5206
  let c2048_2626 : Index := 2048#32
  let c0_2627 : Index := 0#32
  ![v7631.toNat, 2048, 0]
def k0_off255 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7636 : Index := Scalar.indexCast v5205
  let c2048_2628 : Index := 2048#32
  let c0_2629 : Index := 0#32
  ![v7636.toNat, 2048, 0]
def k0_off256 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7668 : Index := Scalar.indexCast v5206
  let c2080_2638 : Index := 2080#32
  let c0_2639 : Index := 0#32
  ![v7668.toNat, 2080, 0]
def k0_off257 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7673 : Index := Scalar.indexCast v5205
  let c2080_2640 : Index := 2080#32
  let c0_2641 : Index := 0#32
  ![v7673.toNat, 2080, 0]
def k0_off258 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7705 : Index := Scalar.indexCast v5206
  let c2112_2650 : Index := 2112#32
  let c0_2651 : Index := 0#32
  ![v7705.toNat, 2112, 0]
def k0_off259 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7710 : Index := Scalar.indexCast v5205
  let c2112_2652 : Index := 2112#32
  let c0_2653 : Index := 0#32
  ![v7710.toNat, 2112, 0]
def k0_off260 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7742 : Index := Scalar.indexCast v5206
  let c2144_2662 : Index := 2144#32
  let c0_2663 : Index := 0#32
  ![v7742.toNat, 2144, 0]
def k0_off261 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7747 : Index := Scalar.indexCast v5205
  let c2144_2664 : Index := 2144#32
  let c0_2665 : Index := 0#32
  ![v7747.toNat, 2144, 0]
def k0_off262 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7779 : Index := Scalar.indexCast v5206
  let c2176_2674 : Index := 2176#32
  let c0_2675 : Index := 0#32
  ![v7779.toNat, 2176, 0]
def k0_off263 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7784 : Index := Scalar.indexCast v5205
  let c2176_2676 : Index := 2176#32
  let c0_2677 : Index := 0#32
  ![v7784.toNat, 2176, 0]
def k0_off264 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7816 : Index := Scalar.indexCast v5206
  let c2208_2686 : Index := 2208#32
  let c0_2687 : Index := 0#32
  ![v7816.toNat, 2208, 0]
def k0_off265 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7821 : Index := Scalar.indexCast v5205
  let c2208_2688 : Index := 2208#32
  let c0_2689 : Index := 0#32
  ![v7821.toNat, 2208, 0]
def k0_off266 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7853 : Index := Scalar.indexCast v5206
  let c2240_2698 : Index := 2240#32
  let c0_2699 : Index := 0#32
  ![v7853.toNat, 2240, 0]
def k0_off267 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7858 : Index := Scalar.indexCast v5205
  let c2240_2700 : Index := 2240#32
  let c0_2701 : Index := 0#32
  ![v7858.toNat, 2240, 0]
def k0_off268 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7890 : Index := Scalar.indexCast v5206
  let c2272_2710 : Index := 2272#32
  let c0_2711 : Index := 0#32
  ![v7890.toNat, 2272, 0]
def k0_off269 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7899 : Index := Scalar.indexCast v5205
  let c2272_2715 : Index := 2272#32
  let c0_2716 : Index := 0#32
  ![v7899.toNat, 2272, 0]
def k0_off270 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7931 : Index := Scalar.indexCast v5206
  let c2304_2725 : Index := 2304#32
  let c0_2726 : Index := 0#32
  ![v7931.toNat, 2304, 0]
def k0_off271 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7936 : Index := Scalar.indexCast v5205
  let c2304_2727 : Index := 2304#32
  let c0_2728 : Index := 0#32
  ![v7936.toNat, 2304, 0]
def k0_off272 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v7968 : Index := Scalar.indexCast v5206
  let c2336_2737 : Index := 2336#32
  let c0_2738 : Index := 0#32
  ![v7968.toNat, 2336, 0]
def k0_off273 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v7973 : Index := Scalar.indexCast v5205
  let c2336_2739 : Index := 2336#32
  let c0_2740 : Index := 0#32
  ![v7973.toNat, 2336, 0]
def k0_off274 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8005 : Index := Scalar.indexCast v5206
  let c2368_2749 : Index := 2368#32
  let c0_2750 : Index := 0#32
  ![v8005.toNat, 2368, 0]
def k0_off275 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8010 : Index := Scalar.indexCast v5205
  let c2368_2751 : Index := 2368#32
  let c0_2752 : Index := 0#32
  ![v8010.toNat, 2368, 0]
def k0_off276 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8042 : Index := Scalar.indexCast v5206
  let c2400_2761 : Index := 2400#32
  let c0_2762 : Index := 0#32
  ![v8042.toNat, 2400, 0]
def k0_off277 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8047 : Index := Scalar.indexCast v5205
  let c2400_2763 : Index := 2400#32
  let c0_2764 : Index := 0#32
  ![v8047.toNat, 2400, 0]
def k0_off278 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8079 : Index := Scalar.indexCast v5206
  let c2432_2773 : Index := 2432#32
  let c0_2774 : Index := 0#32
  ![v8079.toNat, 2432, 0]
def k0_off279 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8084 : Index := Scalar.indexCast v5205
  let c2432_2775 : Index := 2432#32
  let c0_2776 : Index := 0#32
  ![v8084.toNat, 2432, 0]
def k0_off280 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8116 : Index := Scalar.indexCast v5206
  let c2464_2785 : Index := 2464#32
  let c0_2786 : Index := 0#32
  ![v8116.toNat, 2464, 0]
def k0_off281 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8121 : Index := Scalar.indexCast v5205
  let c2464_2787 : Index := 2464#32
  let c0_2788 : Index := 0#32
  ![v8121.toNat, 2464, 0]
def k0_off282 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8153 : Index := Scalar.indexCast v5206
  let c2496_2797 : Index := 2496#32
  let c0_2798 : Index := 0#32
  ![v8153.toNat, 2496, 0]
def k0_off283 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8158 : Index := Scalar.indexCast v5205
  let c2496_2799 : Index := 2496#32
  let c0_2800 : Index := 0#32
  ![v8158.toNat, 2496, 0]
def k0_off284 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8190 : Index := Scalar.indexCast v5206
  let c2528_2809 : Index := 2528#32
  let c0_2810 : Index := 0#32
  ![v8190.toNat, 2528, 0]
def k0_off285 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8199 : Index := Scalar.indexCast v5205
  let c2528_2814 : Index := 2528#32
  let c0_2815 : Index := 0#32
  ![v8199.toNat, 2528, 0]
def k0_off286 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8231 : Index := Scalar.indexCast v5206
  let c2560_2824 : Index := 2560#32
  let c0_2825 : Index := 0#32
  ![v8231.toNat, 2560, 0]
def k0_off287 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8236 : Index := Scalar.indexCast v5205
  let c2560_2826 : Index := 2560#32
  let c0_2827 : Index := 0#32
  ![v8236.toNat, 2560, 0]
def k0_off288 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8268 : Index := Scalar.indexCast v5206
  let c2592_2836 : Index := 2592#32
  let c0_2837 : Index := 0#32
  ![v8268.toNat, 2592, 0]
def k0_off289 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8273 : Index := Scalar.indexCast v5205
  let c2592_2838 : Index := 2592#32
  let c0_2839 : Index := 0#32
  ![v8273.toNat, 2592, 0]
def k0_off290 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8305 : Index := Scalar.indexCast v5206
  let c2624_2848 : Index := 2624#32
  let c0_2849 : Index := 0#32
  ![v8305.toNat, 2624, 0]
def k0_off291 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8310 : Index := Scalar.indexCast v5205
  let c2624_2850 : Index := 2624#32
  let c0_2851 : Index := 0#32
  ![v8310.toNat, 2624, 0]
def k0_off292 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8342 : Index := Scalar.indexCast v5206
  let c2656_2860 : Index := 2656#32
  let c0_2861 : Index := 0#32
  ![v8342.toNat, 2656, 0]
def k0_off293 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8347 : Index := Scalar.indexCast v5205
  let c2656_2862 : Index := 2656#32
  let c0_2863 : Index := 0#32
  ![v8347.toNat, 2656, 0]
def k0_off294 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8379 : Index := Scalar.indexCast v5206
  let c2688_2872 : Index := 2688#32
  let c0_2873 : Index := 0#32
  ![v8379.toNat, 2688, 0]
def k0_off295 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8384 : Index := Scalar.indexCast v5205
  let c2688_2874 : Index := 2688#32
  let c0_2875 : Index := 0#32
  ![v8384.toNat, 2688, 0]
def k0_off296 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8416 : Index := Scalar.indexCast v5206
  let c2720_2884 : Index := 2720#32
  let c0_2885 : Index := 0#32
  ![v8416.toNat, 2720, 0]
def k0_off297 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8421 : Index := Scalar.indexCast v5205
  let c2720_2886 : Index := 2720#32
  let c0_2887 : Index := 0#32
  ![v8421.toNat, 2720, 0]
def k0_off298 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8453 : Index := Scalar.indexCast v5206
  let c2752_2896 : Index := 2752#32
  let c0_2897 : Index := 0#32
  ![v8453.toNat, 2752, 0]
def k0_off299 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8458 : Index := Scalar.indexCast v5205
  let c2752_2898 : Index := 2752#32
  let c0_2899 : Index := 0#32
  ![v8458.toNat, 2752, 0]
def k0_off300 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8490 : Index := Scalar.indexCast v5206
  let c2784_2908 : Index := 2784#32
  let c0_2909 : Index := 0#32
  ![v8490.toNat, 2784, 0]
def k0_off301 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8499 : Index := Scalar.indexCast v5205
  let c2784_2913 : Index := 2784#32
  let c0_2914 : Index := 0#32
  ![v8499.toNat, 2784, 0]
def k0_off302 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8531 : Index := Scalar.indexCast v5206
  let c2816_2923 : Index := 2816#32
  let c0_2924 : Index := 0#32
  ![v8531.toNat, 2816, 0]
def k0_off303 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8536 : Index := Scalar.indexCast v5205
  let c2816_2925 : Index := 2816#32
  let c0_2926 : Index := 0#32
  ![v8536.toNat, 2816, 0]
def k0_off304 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8568 : Index := Scalar.indexCast v5206
  let c2848_2935 : Index := 2848#32
  let c0_2936 : Index := 0#32
  ![v8568.toNat, 2848, 0]
def k0_off305 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8573 : Index := Scalar.indexCast v5205
  let c2848_2937 : Index := 2848#32
  let c0_2938 : Index := 0#32
  ![v8573.toNat, 2848, 0]
def k0_off306 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8605 : Index := Scalar.indexCast v5206
  let c2880_2947 : Index := 2880#32
  let c0_2948 : Index := 0#32
  ![v8605.toNat, 2880, 0]
def k0_off307 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8610 : Index := Scalar.indexCast v5205
  let c2880_2949 : Index := 2880#32
  let c0_2950 : Index := 0#32
  ![v8610.toNat, 2880, 0]
def k0_off308 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8642 : Index := Scalar.indexCast v5206
  let c2912_2959 : Index := 2912#32
  let c0_2960 : Index := 0#32
  ![v8642.toNat, 2912, 0]
def k0_off309 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8647 : Index := Scalar.indexCast v5205
  let c2912_2961 : Index := 2912#32
  let c0_2962 : Index := 0#32
  ![v8647.toNat, 2912, 0]
def k0_off310 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8679 : Index := Scalar.indexCast v5206
  let c2944_2971 : Index := 2944#32
  let c0_2972 : Index := 0#32
  ![v8679.toNat, 2944, 0]
def k0_off311 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8684 : Index := Scalar.indexCast v5205
  let c2944_2973 : Index := 2944#32
  let c0_2974 : Index := 0#32
  ![v8684.toNat, 2944, 0]
def k0_off312 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8716 : Index := Scalar.indexCast v5206
  let c2976_2983 : Index := 2976#32
  let c0_2984 : Index := 0#32
  ![v8716.toNat, 2976, 0]
def k0_off313 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8721 : Index := Scalar.indexCast v5205
  let c2976_2985 : Index := 2976#32
  let c0_2986 : Index := 0#32
  ![v8721.toNat, 2976, 0]
def k0_off314 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8753 : Index := Scalar.indexCast v5206
  let c3008_2995 : Index := 3008#32
  let c0_2996 : Index := 0#32
  ![v8753.toNat, 3008, 0]
def k0_off315 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8758 : Index := Scalar.indexCast v5205
  let c3008_2997 : Index := 3008#32
  let c0_2998 : Index := 0#32
  ![v8758.toNat, 3008, 0]
def k0_off316 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8790 : Index := Scalar.indexCast v5206
  let c3040_3007 : Index := 3040#32
  let c0_3008 : Index := 0#32
  ![v8790.toNat, 3040, 0]
def k0_off317 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8799 : Index := Scalar.indexCast v5205
  let c3040_3012 : Index := 3040#32
  let c0_3013 : Index := 0#32
  ![v8799.toNat, 3040, 0]
def k0_off318 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8831 : Index := Scalar.indexCast v5206
  let c3072_3022 : Index := 3072#32
  let c0_3023 : Index := 0#32
  ![v8831.toNat, 3072, 0]
def k0_off319 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8836 : Index := Scalar.indexCast v5205
  let c3072_3024 : Index := 3072#32
  let c0_3025 : Index := 0#32
  ![v8836.toNat, 3072, 0]
def k0_off320 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8868 : Index := Scalar.indexCast v5206
  let c3104_3034 : Index := 3104#32
  let c0_3035 : Index := 0#32
  ![v8868.toNat, 3104, 0]
def k0_off321 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8873 : Index := Scalar.indexCast v5205
  let c3104_3036 : Index := 3104#32
  let c0_3037 : Index := 0#32
  ![v8873.toNat, 3104, 0]
def k0_off322 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8905 : Index := Scalar.indexCast v5206
  let c3136_3046 : Index := 3136#32
  let c0_3047 : Index := 0#32
  ![v8905.toNat, 3136, 0]
def k0_off323 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8910 : Index := Scalar.indexCast v5205
  let c3136_3048 : Index := 3136#32
  let c0_3049 : Index := 0#32
  ![v8910.toNat, 3136, 0]
def k0_off324 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8942 : Index := Scalar.indexCast v5206
  let c3168_3058 : Index := 3168#32
  let c0_3059 : Index := 0#32
  ![v8942.toNat, 3168, 0]
def k0_off325 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8947 : Index := Scalar.indexCast v5205
  let c3168_3060 : Index := 3168#32
  let c0_3061 : Index := 0#32
  ![v8947.toNat, 3168, 0]
def k0_off326 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v8979 : Index := Scalar.indexCast v5206
  let c3200_3070 : Index := 3200#32
  let c0_3071 : Index := 0#32
  ![v8979.toNat, 3200, 0]
def k0_off327 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v8984 : Index := Scalar.indexCast v5205
  let c3200_3072 : Index := 3200#32
  let c0_3073 : Index := 0#32
  ![v8984.toNat, 3200, 0]
def k0_off328 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9016 : Index := Scalar.indexCast v5206
  let c3232_3082 : Index := 3232#32
  let c0_3083 : Index := 0#32
  ![v9016.toNat, 3232, 0]
def k0_off329 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9021 : Index := Scalar.indexCast v5205
  let c3232_3084 : Index := 3232#32
  let c0_3085 : Index := 0#32
  ![v9021.toNat, 3232, 0]
def k0_off330 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9053 : Index := Scalar.indexCast v5206
  let c3264_3094 : Index := 3264#32
  let c0_3095 : Index := 0#32
  ![v9053.toNat, 3264, 0]
def k0_off331 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9058 : Index := Scalar.indexCast v5205
  let c3264_3096 : Index := 3264#32
  let c0_3097 : Index := 0#32
  ![v9058.toNat, 3264, 0]
def k0_off332 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9090 : Index := Scalar.indexCast v5206
  let c3296_3106 : Index := 3296#32
  let c0_3107 : Index := 0#32
  ![v9090.toNat, 3296, 0]
def k0_off333 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9099 : Index := Scalar.indexCast v5205
  let c3296_3111 : Index := 3296#32
  let c0_3112 : Index := 0#32
  ![v9099.toNat, 3296, 0]
def k0_off334 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9131 : Index := Scalar.indexCast v5206
  let c3328_3121 : Index := 3328#32
  let c0_3122 : Index := 0#32
  ![v9131.toNat, 3328, 0]
def k0_off335 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9136 : Index := Scalar.indexCast v5205
  let c3328_3123 : Index := 3328#32
  let c0_3124 : Index := 0#32
  ![v9136.toNat, 3328, 0]
def k0_off336 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9168 : Index := Scalar.indexCast v5206
  let c3360_3133 : Index := 3360#32
  let c0_3134 : Index := 0#32
  ![v9168.toNat, 3360, 0]
def k0_off337 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9173 : Index := Scalar.indexCast v5205
  let c3360_3135 : Index := 3360#32
  let c0_3136 : Index := 0#32
  ![v9173.toNat, 3360, 0]
def k0_off338 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9205 : Index := Scalar.indexCast v5206
  let c3392_3145 : Index := 3392#32
  let c0_3146 : Index := 0#32
  ![v9205.toNat, 3392, 0]
def k0_off339 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9210 : Index := Scalar.indexCast v5205
  let c3392_3147 : Index := 3392#32
  let c0_3148 : Index := 0#32
  ![v9210.toNat, 3392, 0]
def k0_off340 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9242 : Index := Scalar.indexCast v5206
  let c3424_3157 : Index := 3424#32
  let c0_3158 : Index := 0#32
  ![v9242.toNat, 3424, 0]
def k0_off341 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9247 : Index := Scalar.indexCast v5205
  let c3424_3159 : Index := 3424#32
  let c0_3160 : Index := 0#32
  ![v9247.toNat, 3424, 0]
def k0_off342 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9279 : Index := Scalar.indexCast v5206
  let c3456_3169 : Index := 3456#32
  let c0_3170 : Index := 0#32
  ![v9279.toNat, 3456, 0]
def k0_off343 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9284 : Index := Scalar.indexCast v5205
  let c3456_3171 : Index := 3456#32
  let c0_3172 : Index := 0#32
  ![v9284.toNat, 3456, 0]
def k0_off344 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9316 : Index := Scalar.indexCast v5206
  let c3488_3181 : Index := 3488#32
  let c0_3182 : Index := 0#32
  ![v9316.toNat, 3488, 0]
def k0_off345 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9321 : Index := Scalar.indexCast v5205
  let c3488_3183 : Index := 3488#32
  let c0_3184 : Index := 0#32
  ![v9321.toNat, 3488, 0]
def k0_off346 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9353 : Index := Scalar.indexCast v5206
  let c3520_3193 : Index := 3520#32
  let c0_3194 : Index := 0#32
  ![v9353.toNat, 3520, 0]
def k0_off347 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9358 : Index := Scalar.indexCast v5205
  let c3520_3195 : Index := 3520#32
  let c0_3196 : Index := 0#32
  ![v9358.toNat, 3520, 0]
def k0_off348 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9390 : Index := Scalar.indexCast v5206
  let c3552_3205 : Index := 3552#32
  let c0_3206 : Index := 0#32
  ![v9390.toNat, 3552, 0]
def k0_off349 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c6_i32_1814 : BitVec 32 := 6#32
  let v5205 : BitVec 32 := Scalar.remsi arg23 c6_i32_1814
  let v9399 : Index := Scalar.indexCast v5205
  let c3552_3210 : Index := 3552#32
  let c0_3211 : Index := 0#32
  ![v9399.toNat, 3552, 0]
def k0_off350 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let v9427 : Index := Scalar.indexCast v5206
  let c0_3218 : Index := 0#32
  let c0_3219 : Index := 0#32
  ![v9427.toNat, 0, 0]
def k0_mult12 (k0_t1 : Fin k0_t1_loop.trips) : BitVec 32 :=
  let c1_i32_1051 : BitVec 32 := 1#32
  let c1_i32_1052 : BitVec 32 := 1#32
  let arg23 : BitVec 32 := Scf.iv c1_i32_1051 c1_i32_1052 k0_t1
  let c1_i32_3220 : BitVec 32 := 1#32
  let v9431 : BitVec 32 := Scalar.subi arg23 c1_i32_3220
  let c256_i32_3221 : BitVec 32 := 256#32
  let v9432 : BitVec 32 := Scalar.muli v9431 c256_i32_3221
  v9432
def k0_off351 (k0_t1 : Fin k0_t1_loop.trips) : Fin 1 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  ![v5206.toNat]
def k0_off352 (k0_t1 : Fin k0_t1_loop.trips) : Fin 2 → Nat :=
  let c0_i32_3222 : BitVec 32 := 0#32
  let c1_i32_1051 : BitVec 32 := 1#32
  let c1_i32_1052 : BitVec 32 := 1#32
  let arg23 : BitVec 32 := Scf.iv c1_i32_1051 c1_i32_1052 k0_t1
  let c1_i32_3220 : BitVec 32 := 1#32
  let v9431 : BitVec 32 := Scalar.subi arg23 c1_i32_3220
  let c256_i32_3221 : BitVec 32 := 256#32
  let v9432 : BitVec 32 := Scalar.muli v9431 c256_i32_3221
  let v9433 : BitVec 32 := v9432
  ![0, v9433.toNat]
def k0_off353 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let c0_i32_3223 : BitVec 32 := 0#32
  let c0_i32_3224 : BitVec 32 := 0#32
  ![v5206.toNat, 0, 0]
def k0_mult13 (k0_t1 : Fin k0_t1_loop.trips) : BitVec 32 :=
  let c1_i32_1051 : BitVec 32 := 1#32
  let c1_i32_1052 : BitVec 32 := 1#32
  let arg23 : BitVec 32 := Scf.iv c1_i32_1051 c1_i32_1052 k0_t1
  let c1_i32_3225 : BitVec 32 := 1#32
  let v9439 : BitVec 32 := Scalar.subi arg23 c1_i32_3225
  let c256_i32_3226 : BitVec 32 := 256#32
  let v9440 : BitVec 32 := Scalar.muli v9439 c256_i32_3226
  v9440
def k0_off354 (k0_t1 : Fin k0_t1_loop.trips) : Fin 2 → Nat :=
  let c0_i32_3227 : BitVec 32 := 0#32
  let c1_i32_1051 : BitVec 32 := 1#32
  let c1_i32_1052 : BitVec 32 := 1#32
  let arg23 : BitVec 32 := Scf.iv c1_i32_1051 c1_i32_1052 k0_t1
  let c1_i32_3225 : BitVec 32 := 1#32
  let v9439 : BitVec 32 := Scalar.subi arg23 c1_i32_3225
  let c256_i32_3226 : BitVec 32 := 256#32
  let v9440 : BitVec 32 := Scalar.muli v9439 c256_i32_3226
  let v9441 : BitVec 32 := v9440
  ![0, v9441.toNat]
def k0_off355 (k0_t1 : Fin k0_t1_loop.trips) : Fin 3 → Nat :=
  let c1_i32_1051 : BitVec 32 := 1#32
  let c1_i32_1052 : BitVec 32 := 1#32
  let arg23 : BitVec 32 := Scf.iv c1_i32_1051 c1_i32_1052 k0_t1
  let c2_i32_1815 : BitVec 32 := 2#32
  let v5206 : BitVec 32 := Scalar.remsi arg23 c2_i32_1815
  let c0_i32_3228 : BitVec 32 := 0#32
  let c0_i32_3229 : BitVec 32 := 0#32
  ![v5206.toNat, 0, 0]
def k0_off356 (k0_t1 : Fin k0_t1_loop.trips) : Fin 2 → Nat :=
  let c1_i32_1051 : BitVec 32 := 1#32
  let c1_i32_1052 : BitVec 32 := 1#32
  let arg23 : BitVec 32 := Scf.iv c1_i32_1051 c1_i32_1052 k0_t1
  let v9464 : Index := Scalar.indexCast arg23
  let c0_3239 : Index := 0#32
  ![v9464.toNat, 0]
def k0_mult14 : BitVec 32 :=
  let c18176_i32 : BitVec 32 := 18176#32
  c18176_i32
def k0_off357 : Fin 1 → Nat :=
  let c74_i32 : BitVec 32 := 74#32
  let c2_i32_1054 : BitVec 32 := 2#32
  let v3409 : BitVec 32 := Scalar.remsi c74_i32 c2_i32_1054
  ![v3409.toNat]
def k0_off358 : Fin 3 → Nat :=
  let c74_i32 : BitVec 32 := 74#32
  let c2_i32_1054 : BitVec 32 := 2#32
  let v3409 : BitVec 32 := Scalar.remsi c74_i32 c2_i32_1054
  let c0_i32_1056 : BitVec 32 := 0#32
  let c0_i32_1057 : BitVec 32 := 0#32
  ![v3409.toNat, 0, 0]
def k0_mult15 : BitVec 32 :=
  let c18176_i32_1058 : BitVec 32 := 18176#32
  c18176_i32_1058
def k0_off359 : Fin 3 → Nat :=
  let c74_i32 : BitVec 32 := 74#32
  let c2_i32_1054 : BitVec 32 := 2#32
  let v3409 : BitVec 32 := Scalar.remsi c74_i32 c2_i32_1054
  let c0_i32_1060 : BitVec 32 := 0#32
  let c0_i32_1061 : BitVec 32 := 0#32
  ![v3409.toNat, 0, 0]
def k0_off360 : Fin 3 → Nat :=
  let c74_i32 : BitVec 32 := 74#32
  let c2_i32_1054 : BitVec 32 := 2#32
  let v3409 : BitVec 32 := Scalar.remsi c74_i32 c2_i32_1054
  let v3434 : Index := Scalar.indexCast v3409
  let c0_1070 : Index := 0#32
  let c0_1071 : Index := 0#32
  ![v3434.toNat, 0, 0]
def k0_off361 : Fin 3 → Nat :=
  let c74_i32 : BitVec 32 := 74#32
  let c2_i32_1054 : BitVec 32 := 2#32
  let v3409 : BitVec 32 := Scalar.remsi c74_i32 c2_i32_1054
  let v3449 : Index := Scalar.indexCast v3409
  let c32_1076 : Index := 32#32
  let c0_1077 : Index := 0#32
  ![v3449.toNat, 32, 0]
def k0_off362 : Fin 3 → Nat :=
  let c74_i32 : BitVec 32 := 74#32
  let c2_i32_1054 : BitVec 32 := 2#32
  let v3409 : BitVec 32 := Scalar.remsi c74_i32 c2_i32_1054
  let v3464 : Index := Scalar.indexCast v3409
  let c64_1082 : Index := 64#32
  let c0_1083 : Index := 0#32
  ![v3464.toNat, 64, 0]
def k0_off363 : Fin 3 → Nat :=
  let c74_i32 : BitVec 32 := 74#32
  let c2_i32_1054 : BitVec 32 := 2#32
  let v3409 : BitVec 32 := Scalar.remsi c74_i32 c2_i32_1054
  let v3479 : Index := Scalar.indexCast v3409
  let c96_1088 : Index := 96#32
  let c0_1089 : Index := 0#32
  ![v3479.toNat, 96, 0]
def k0_off364 : Fin 3 → Nat :=
  let c74_i32 : BitVec 32 := 74#32
  let c2_i32_1054 : BitVec 32 := 2#32
  let v3409 : BitVec 32 := Scalar.remsi c74_i32 c2_i32_1054
  let v3494 : Index := Scalar.indexCast v3409
  let c128_1094 : Index := 128#32
  let c0_1095 : Index := 0#32
  ![v3494.toNat, 128, 0]
def k0_off365 : Fin 3 → Nat :=
  let c74_i32 : BitVec 32 := 74#32
  let c2_i32_1054 : BitVec 32 := 2#32
  let v3409 : BitVec 32 := Scalar.remsi c74_i32 c2_i32_1054
  let v3509 : Index := Scalar.indexCast v3409
  let c160_1100 : Index := 160#32
  let c0_1101 : Index := 0#32
  ![v3509.toNat, 160, 0]
def k0_off366 : Fin 3 → Nat :=
  let c74_i32 : BitVec 32 := 74#32
  let c2_i32_1054 : BitVec 32 := 2#32
  let v3409 : BitVec 32 := Scalar.remsi c74_i32 c2_i32_1054
  let v3524 : Index := Scalar.indexCast v3409
  let c192_1106 : Index := 192#32
  let c0_1107 : Index := 0#32
  ![v3524.toNat, 192, 0]
def k0_off367 : Fin 3 → Nat :=
  let c74_i32 : BitVec 32 := 74#32
  let c2_i32_1054 : BitVec 32 := 2#32
  let v3409 : BitVec 32 := Scalar.remsi c74_i32 c2_i32_1054
  let v3539 : Index := Scalar.indexCast v3409
  let c224_1112 : Index := 224#32
  let c0_1113 : Index := 0#32
  ![v3539.toNat, 224, 0]
def k0_off368 : Fin 3 → Nat :=
  let c74_i32 : BitVec 32 := 74#32
  let c2_i32_1054 : BitVec 32 := 2#32
  let v3409 : BitVec 32 := Scalar.remsi c74_i32 c2_i32_1054
  let v3557 : Index := Scalar.indexCast v3409
  let c256_1121 : Index := 256#32
  let c0_1122 : Index := 0#32
  ![v3557.toNat, 256, 0]
def k0_off369 : Fin 3 → Nat :=
  let c74_i32 : BitVec 32 := 74#32
  let c2_i32_1054 : BitVec 32 := 2#32
  let v3409 : BitVec 32 := Scalar.remsi c74_i32 c2_i32_1054
  let v3572 : Index := Scalar.indexCast v3409
  let c288_1127 : Index := 288#32
  let c0_1128 : Index := 0#32
  ![v3572.toNat, 288, 0]
def k0_off370 : Fin 3 → Nat :=
  let c74_i32 : BitVec 32 := 74#32
  let c2_i32_1054 : BitVec 32 := 2#32
  let v3409 : BitVec 32 := Scalar.remsi c74_i32 c2_i32_1054
  let v3587 : Index := Scalar.indexCast v3409
  let c320_1133 : Index := 320#32
  let c0_1134 : Index := 0#32
  ![v3587.toNat, 320, 0]
def k0_off371 : Fin 3 → Nat :=
  let c74_i32 : BitVec 32 := 74#32
  let c2_i32_1054 : BitVec 32 := 2#32
  let v3409 : BitVec 32 := Scalar.remsi c74_i32 c2_i32_1054
  let v3602 : Index := Scalar.indexCast v3409
  let c352_1139 : Index := 352#32
  let c0_1140 : Index := 0#32
  ![v3602.toNat, 352, 0]
def k0_off372 : Fin 3 → Nat :=
  let c74_i32 : BitVec 32 := 74#32
  let c2_i32_1054 : BitVec 32 := 2#32
  let v3409 : BitVec 32 := Scalar.remsi c74_i32 c2_i32_1054
  let v3617 : Index := Scalar.indexCast v3409
  let c384_1145 : Index := 384#32
  let c0_1146 : Index := 0#32
  ![v3617.toNat, 384, 0]
def k0_off373 : Fin 3 → Nat :=
  let c74_i32 : BitVec 32 := 74#32
  let c2_i32_1054 : BitVec 32 := 2#32
  let v3409 : BitVec 32 := Scalar.remsi c74_i32 c2_i32_1054
  let v3632 : Index := Scalar.indexCast v3409
  let c416_1151 : Index := 416#32
  let c0_1152 : Index := 0#32
  ![v3632.toNat, 416, 0]
def k0_off374 : Fin 3 → Nat :=
  let c74_i32 : BitVec 32 := 74#32
  let c2_i32_1054 : BitVec 32 := 2#32
  let v3409 : BitVec 32 := Scalar.remsi c74_i32 c2_i32_1054
  let v3647 : Index := Scalar.indexCast v3409
  let c448_1157 : Index := 448#32
  let c0_1158 : Index := 0#32
  ![v3647.toNat, 448, 0]
def k0_off375 : Fin 3 → Nat :=
  let c74_i32 : BitVec 32 := 74#32
  let c2_i32_1054 : BitVec 32 := 2#32
  let v3409 : BitVec 32 := Scalar.remsi c74_i32 c2_i32_1054
  let v3662 : Index := Scalar.indexCast v3409
  let c480_1163 : Index := 480#32
  let c0_1164 : Index := 0#32
  ![v3662.toNat, 480, 0]
def k0_off376 : Fin 3 → Nat :=
  let c74_i32 : BitVec 32 := 74#32
  let c2_i32_1054 : BitVec 32 := 2#32
  let v3409 : BitVec 32 := Scalar.remsi c74_i32 c2_i32_1054
  let v3681 : Index := Scalar.indexCast v3409
  let c512_1172 : Index := 512#32
  let c0_1173 : Index := 0#32
  ![v3681.toNat, 512, 0]
def k0_off377 : Fin 3 → Nat :=
  let c74_i32 : BitVec 32 := 74#32
  let c2_i32_1054 : BitVec 32 := 2#32
  let v3409 : BitVec 32 := Scalar.remsi c74_i32 c2_i32_1054
  let v3696 : Index := Scalar.indexCast v3409
  let c544_1178 : Index := 544#32
  let c0_1179 : Index := 0#32
  ![v3696.toNat, 544, 0]
def k0_off378 : Fin 3 → Nat :=
  let c74_i32 : BitVec 32 := 74#32
  let c2_i32_1054 : BitVec 32 := 2#32
  let v3409 : BitVec 32 := Scalar.remsi c74_i32 c2_i32_1054
  let v3711 : Index := Scalar.indexCast v3409
  let c576_1184 : Index := 576#32
  let c0_1185 : Index := 0#32
  ![v3711.toNat, 576, 0]
def k0_off379 : Fin 3 → Nat :=
  let c74_i32 : BitVec 32 := 74#32
  let c2_i32_1054 : BitVec 32 := 2#32
  let v3409 : BitVec 32 := Scalar.remsi c74_i32 c2_i32_1054
  let v3726 : Index := Scalar.indexCast v3409
  let c608_1190 : Index := 608#32
  let c0_1191 : Index := 0#32
  ![v3726.toNat, 608, 0]
def k0_off380 : Fin 3 → Nat :=
  let c74_i32 : BitVec 32 := 74#32
  let c2_i32_1054 : BitVec 32 := 2#32
  let v3409 : BitVec 32 := Scalar.remsi c74_i32 c2_i32_1054
  let v3741 : Index := Scalar.indexCast v3409
  let c640_1196 : Index := 640#32
  let c0_1197 : Index := 0#32
  ![v3741.toNat, 640, 0]
def k0_off381 : Fin 3 → Nat :=
  let c74_i32 : BitVec 32 := 74#32
  let c2_i32_1054 : BitVec 32 := 2#32
  let v3409 : BitVec 32 := Scalar.remsi c74_i32 c2_i32_1054
  let v3756 : Index := Scalar.indexCast v3409
  let c672_1202 : Index := 672#32
  let c0_1203 : Index := 0#32
  ![v3756.toNat, 672, 0]
def k0_off382 : Fin 3 → Nat :=
  let c74_i32 : BitVec 32 := 74#32
  let c2_i32_1054 : BitVec 32 := 2#32
  let v3409 : BitVec 32 := Scalar.remsi c74_i32 c2_i32_1054
  let v3771 : Index := Scalar.indexCast v3409
  let c704_1208 : Index := 704#32
  let c0_1209 : Index := 0#32
  ![v3771.toNat, 704, 0]
def k0_off383 : Fin 3 → Nat :=
  let c74_i32 : BitVec 32 := 74#32
  let c2_i32_1054 : BitVec 32 := 2#32
  let v3409 : BitVec 32 := Scalar.remsi c74_i32 c2_i32_1054
  let v3786 : Index := Scalar.indexCast v3409
  let c736_1214 : Index := 736#32
  let c0_1215 : Index := 0#32
  ![v3786.toNat, 736, 0]
def k0_off384 : Fin 3 → Nat :=
  let c74_i32 : BitVec 32 := 74#32
  let c2_i32_1054 : BitVec 32 := 2#32
  let v3409 : BitVec 32 := Scalar.remsi c74_i32 c2_i32_1054
  let v3805 : Index := Scalar.indexCast v3409
  let c768_1223 : Index := 768#32
  let c0_1224 : Index := 0#32
  ![v3805.toNat, 768, 0]
def k0_off385 : Fin 3 → Nat :=
  let c74_i32 : BitVec 32 := 74#32
  let c2_i32_1054 : BitVec 32 := 2#32
  let v3409 : BitVec 32 := Scalar.remsi c74_i32 c2_i32_1054
  let v3820 : Index := Scalar.indexCast v3409
  let c800_1229 : Index := 800#32
  let c0_1230 : Index := 0#32
  ![v3820.toNat, 800, 0]
def k0_off386 : Fin 3 → Nat :=
  let c74_i32 : BitVec 32 := 74#32
  let c2_i32_1054 : BitVec 32 := 2#32
  let v3409 : BitVec 32 := Scalar.remsi c74_i32 c2_i32_1054
  let v3835 : Index := Scalar.indexCast v3409
  let c832_1235 : Index := 832#32
  let c0_1236 : Index := 0#32
  ![v3835.toNat, 832, 0]
def k0_off387 : Fin 3 → Nat :=
  let c74_i32 : BitVec 32 := 74#32
  let c2_i32_1054 : BitVec 32 := 2#32
  let v3409 : BitVec 32 := Scalar.remsi c74_i32 c2_i32_1054
  let v3850 : Index := Scalar.indexCast v3409
  let c864_1241 : Index := 864#32
  let c0_1242 : Index := 0#32
  ![v3850.toNat, 864, 0]
def k0_off388 : Fin 3 → Nat :=
  let c74_i32 : BitVec 32 := 74#32
  let c2_i32_1054 : BitVec 32 := 2#32
  let v3409 : BitVec 32 := Scalar.remsi c74_i32 c2_i32_1054
  let v3865 : Index := Scalar.indexCast v3409
  let c896_1247 : Index := 896#32
  let c0_1248 : Index := 0#32
  ![v3865.toNat, 896, 0]
def k0_off389 : Fin 3 → Nat :=
  let c74_i32 : BitVec 32 := 74#32
  let c2_i32_1054 : BitVec 32 := 2#32
  let v3409 : BitVec 32 := Scalar.remsi c74_i32 c2_i32_1054
  let v3880 : Index := Scalar.indexCast v3409
  let c928_1253 : Index := 928#32
  let c0_1254 : Index := 0#32
  ![v3880.toNat, 928, 0]
def k0_off390 : Fin 3 → Nat :=
  let c74_i32 : BitVec 32 := 74#32
  let c2_i32_1054 : BitVec 32 := 2#32
  let v3409 : BitVec 32 := Scalar.remsi c74_i32 c2_i32_1054
  let v3895 : Index := Scalar.indexCast v3409
  let c960_1259 : Index := 960#32
  let c0_1260 : Index := 0#32
  ![v3895.toNat, 960, 0]
def k0_off391 : Fin 3 → Nat :=
  let c74_i32 : BitVec 32 := 74#32
  let c2_i32_1054 : BitVec 32 := 2#32
  let v3409 : BitVec 32 := Scalar.remsi c74_i32 c2_i32_1054
  let v3910 : Index := Scalar.indexCast v3409
  let c992_1265 : Index := 992#32
  let c0_1266 : Index := 0#32
  ![v3910.toNat, 992, 0]
def k0_off392 : Fin 3 → Nat :=
  let c74_i32 : BitVec 32 := 74#32
  let c2_i32_1054 : BitVec 32 := 2#32
  let v3409 : BitVec 32 := Scalar.remsi c74_i32 c2_i32_1054
  let v3929 : Index := Scalar.indexCast v3409
  let c1024_1274 : Index := 1024#32
  let c0_1275 : Index := 0#32
  ![v3929.toNat, 1024, 0]
def k0_off393 : Fin 3 → Nat :=
  let c74_i32 : BitVec 32 := 74#32
  let c2_i32_1054 : BitVec 32 := 2#32
  let v3409 : BitVec 32 := Scalar.remsi c74_i32 c2_i32_1054
  let v3944 : Index := Scalar.indexCast v3409
  let c1056_1280 : Index := 1056#32
  let c0_1281 : Index := 0#32
  ![v3944.toNat, 1056, 0]
def k0_off394 : Fin 3 → Nat :=
  let c74_i32 : BitVec 32 := 74#32
  let c2_i32_1054 : BitVec 32 := 2#32
  let v3409 : BitVec 32 := Scalar.remsi c74_i32 c2_i32_1054
  let v3959 : Index := Scalar.indexCast v3409
  let c1088_1286 : Index := 1088#32
  let c0_1287 : Index := 0#32
  ![v3959.toNat, 1088, 0]
def k0_off395 : Fin 3 → Nat :=
  let c74_i32 : BitVec 32 := 74#32
  let c2_i32_1054 : BitVec 32 := 2#32
  let v3409 : BitVec 32 := Scalar.remsi c74_i32 c2_i32_1054
  let v3974 : Index := Scalar.indexCast v3409
  let c1120_1292 : Index := 1120#32
  let c0_1293 : Index := 0#32
  ![v3974.toNat, 1120, 0]
def k0_off396 : Fin 3 → Nat :=
  let c74_i32 : BitVec 32 := 74#32
  let c2_i32_1054 : BitVec 32 := 2#32
  let v3409 : BitVec 32 := Scalar.remsi c74_i32 c2_i32_1054
  let v3989 : Index := Scalar.indexCast v3409
  let c1152_1298 : Index := 1152#32
  let c0_1299 : Index := 0#32
  ![v3989.toNat, 1152, 0]
def k0_off397 : Fin 3 → Nat :=
  let c74_i32 : BitVec 32 := 74#32
  let c2_i32_1054 : BitVec 32 := 2#32
  let v3409 : BitVec 32 := Scalar.remsi c74_i32 c2_i32_1054
  let v4004 : Index := Scalar.indexCast v3409
  let c1184_1304 : Index := 1184#32
  let c0_1305 : Index := 0#32
  ![v4004.toNat, 1184, 0]
def k0_off398 : Fin 3 → Nat :=
  let c74_i32 : BitVec 32 := 74#32
  let c2_i32_1054 : BitVec 32 := 2#32
  let v3409 : BitVec 32 := Scalar.remsi c74_i32 c2_i32_1054
  let v4019 : Index := Scalar.indexCast v3409
  let c1216_1310 : Index := 1216#32
  let c0_1311 : Index := 0#32
  ![v4019.toNat, 1216, 0]
def k0_off399 : Fin 3 → Nat :=
  let c74_i32 : BitVec 32 := 74#32
  let c2_i32_1054 : BitVec 32 := 2#32
  let v3409 : BitVec 32 := Scalar.remsi c74_i32 c2_i32_1054
  let v4034 : Index := Scalar.indexCast v3409
  let c1248_1316 : Index := 1248#32
  let c0_1317 : Index := 0#32
  ![v4034.toNat, 1248, 0]
def k0_off400 : Fin 3 → Nat :=
  let c74_i32 : BitVec 32 := 74#32
  let c2_i32_1054 : BitVec 32 := 2#32
  let v3409 : BitVec 32 := Scalar.remsi c74_i32 c2_i32_1054
  let v4053 : Index := Scalar.indexCast v3409
  let c1280_1325 : Index := 1280#32
  let c0_1326 : Index := 0#32
  ![v4053.toNat, 1280, 0]
def k0_off401 : Fin 3 → Nat :=
  let c74_i32 : BitVec 32 := 74#32
  let c2_i32_1054 : BitVec 32 := 2#32
  let v3409 : BitVec 32 := Scalar.remsi c74_i32 c2_i32_1054
  let v4068 : Index := Scalar.indexCast v3409
  let c1312_1331 : Index := 1312#32
  let c0_1332 : Index := 0#32
  ![v4068.toNat, 1312, 0]
def k0_off402 : Fin 3 → Nat :=
  let c74_i32 : BitVec 32 := 74#32
  let c2_i32_1054 : BitVec 32 := 2#32
  let v3409 : BitVec 32 := Scalar.remsi c74_i32 c2_i32_1054
  let v4083 : Index := Scalar.indexCast v3409
  let c1344_1337 : Index := 1344#32
  let c0_1338 : Index := 0#32
  ![v4083.toNat, 1344, 0]
def k0_off403 : Fin 3 → Nat :=
  let c74_i32 : BitVec 32 := 74#32
  let c2_i32_1054 : BitVec 32 := 2#32
  let v3409 : BitVec 32 := Scalar.remsi c74_i32 c2_i32_1054
  let v4098 : Index := Scalar.indexCast v3409
  let c1376_1343 : Index := 1376#32
  let c0_1344 : Index := 0#32
  ![v4098.toNat, 1376, 0]
def k0_off404 : Fin 3 → Nat :=
  let c74_i32 : BitVec 32 := 74#32
  let c2_i32_1054 : BitVec 32 := 2#32
  let v3409 : BitVec 32 := Scalar.remsi c74_i32 c2_i32_1054
  let v4113 : Index := Scalar.indexCast v3409
  let c1408_1349 : Index := 1408#32
  let c0_1350 : Index := 0#32
  ![v4113.toNat, 1408, 0]
def k0_off405 : Fin 3 → Nat :=
  let c74_i32 : BitVec 32 := 74#32
  let c2_i32_1054 : BitVec 32 := 2#32
  let v3409 : BitVec 32 := Scalar.remsi c74_i32 c2_i32_1054
  let v4128 : Index := Scalar.indexCast v3409
  let c1440_1355 : Index := 1440#32
  let c0_1356 : Index := 0#32
  ![v4128.toNat, 1440, 0]
def k0_off406 : Fin 3 → Nat :=
  let c74_i32 : BitVec 32 := 74#32
  let c2_i32_1054 : BitVec 32 := 2#32
  let v3409 : BitVec 32 := Scalar.remsi c74_i32 c2_i32_1054
  let v4143 : Index := Scalar.indexCast v3409
  let c1472_1361 : Index := 1472#32
  let c0_1362 : Index := 0#32
  ![v4143.toNat, 1472, 0]
def k0_off407 : Fin 3 → Nat :=
  let c74_i32 : BitVec 32 := 74#32
  let c2_i32_1054 : BitVec 32 := 2#32
  let v3409 : BitVec 32 := Scalar.remsi c74_i32 c2_i32_1054
  let v4158 : Index := Scalar.indexCast v3409
  let c1504_1367 : Index := 1504#32
  let c0_1368 : Index := 0#32
  ![v4158.toNat, 1504, 0]
def k0_off408 : Fin 3 → Nat :=
  let c74_i32 : BitVec 32 := 74#32
  let c2_i32_1054 : BitVec 32 := 2#32
  let v3409 : BitVec 32 := Scalar.remsi c74_i32 c2_i32_1054
  let v4177 : Index := Scalar.indexCast v3409
  let c1536_1376 : Index := 1536#32
  let c0_1377 : Index := 0#32
  ![v4177.toNat, 1536, 0]
def k0_off409 : Fin 3 → Nat :=
  let c74_i32 : BitVec 32 := 74#32
  let c2_i32_1054 : BitVec 32 := 2#32
  let v3409 : BitVec 32 := Scalar.remsi c74_i32 c2_i32_1054
  let v4192 : Index := Scalar.indexCast v3409
  let c1568_1382 : Index := 1568#32
  let c0_1383 : Index := 0#32
  ![v4192.toNat, 1568, 0]
def k0_off410 : Fin 3 → Nat :=
  let c74_i32 : BitVec 32 := 74#32
  let c2_i32_1054 : BitVec 32 := 2#32
  let v3409 : BitVec 32 := Scalar.remsi c74_i32 c2_i32_1054
  let v4207 : Index := Scalar.indexCast v3409
  let c1600_1388 : Index := 1600#32
  let c0_1389 : Index := 0#32
  ![v4207.toNat, 1600, 0]
def k0_off411 : Fin 3 → Nat :=
  let c74_i32 : BitVec 32 := 74#32
  let c2_i32_1054 : BitVec 32 := 2#32
  let v3409 : BitVec 32 := Scalar.remsi c74_i32 c2_i32_1054
  let v4222 : Index := Scalar.indexCast v3409
  let c1632_1394 : Index := 1632#32
  let c0_1395 : Index := 0#32
  ![v4222.toNat, 1632, 0]
def k0_off412 : Fin 3 → Nat :=
  let c74_i32 : BitVec 32 := 74#32
  let c2_i32_1054 : BitVec 32 := 2#32
  let v3409 : BitVec 32 := Scalar.remsi c74_i32 c2_i32_1054
  let v4237 : Index := Scalar.indexCast v3409
  let c1664_1400 : Index := 1664#32
  let c0_1401 : Index := 0#32
  ![v4237.toNat, 1664, 0]
def k0_off413 : Fin 3 → Nat :=
  let c74_i32 : BitVec 32 := 74#32
  let c2_i32_1054 : BitVec 32 := 2#32
  let v3409 : BitVec 32 := Scalar.remsi c74_i32 c2_i32_1054
  let v4252 : Index := Scalar.indexCast v3409
  let c1696_1406 : Index := 1696#32
  let c0_1407 : Index := 0#32
  ![v4252.toNat, 1696, 0]
def k0_off414 : Fin 3 → Nat :=
  let c74_i32 : BitVec 32 := 74#32
  let c2_i32_1054 : BitVec 32 := 2#32
  let v3409 : BitVec 32 := Scalar.remsi c74_i32 c2_i32_1054
  let v4267 : Index := Scalar.indexCast v3409
  let c1728_1412 : Index := 1728#32
  let c0_1413 : Index := 0#32
  ![v4267.toNat, 1728, 0]
def k0_off415 : Fin 3 → Nat :=
  let c74_i32 : BitVec 32 := 74#32
  let c2_i32_1054 : BitVec 32 := 2#32
  let v3409 : BitVec 32 := Scalar.remsi c74_i32 c2_i32_1054
  let v4282 : Index := Scalar.indexCast v3409
  let c1760_1418 : Index := 1760#32
  let c0_1419 : Index := 0#32
  ![v4282.toNat, 1760, 0]
def k0_off416 : Fin 3 → Nat :=
  let c74_i32 : BitVec 32 := 74#32
  let c2_i32_1054 : BitVec 32 := 2#32
  let v3409 : BitVec 32 := Scalar.remsi c74_i32 c2_i32_1054
  let v4301 : Index := Scalar.indexCast v3409
  let c1792_1427 : Index := 1792#32
  let c0_1428 : Index := 0#32
  ![v4301.toNat, 1792, 0]
def k0_off417 : Fin 3 → Nat :=
  let c74_i32 : BitVec 32 := 74#32
  let c2_i32_1054 : BitVec 32 := 2#32
  let v3409 : BitVec 32 := Scalar.remsi c74_i32 c2_i32_1054
  let v4316 : Index := Scalar.indexCast v3409
  let c1824_1433 : Index := 1824#32
  let c0_1434 : Index := 0#32
  ![v4316.toNat, 1824, 0]
def k0_off418 : Fin 3 → Nat :=
  let c74_i32 : BitVec 32 := 74#32
  let c2_i32_1054 : BitVec 32 := 2#32
  let v3409 : BitVec 32 := Scalar.remsi c74_i32 c2_i32_1054
  let v4331 : Index := Scalar.indexCast v3409
  let c1856_1439 : Index := 1856#32
  let c0_1440 : Index := 0#32
  ![v4331.toNat, 1856, 0]
def k0_off419 : Fin 3 → Nat :=
  let c74_i32 : BitVec 32 := 74#32
  let c2_i32_1054 : BitVec 32 := 2#32
  let v3409 : BitVec 32 := Scalar.remsi c74_i32 c2_i32_1054
  let v4346 : Index := Scalar.indexCast v3409
  let c1888_1445 : Index := 1888#32
  let c0_1446 : Index := 0#32
  ![v4346.toNat, 1888, 0]
def k0_off420 : Fin 3 → Nat :=
  let c74_i32 : BitVec 32 := 74#32
  let c2_i32_1054 : BitVec 32 := 2#32
  let v3409 : BitVec 32 := Scalar.remsi c74_i32 c2_i32_1054
  let v4361 : Index := Scalar.indexCast v3409
  let c1920_1451 : Index := 1920#32
  let c0_1452 : Index := 0#32
  ![v4361.toNat, 1920, 0]
def k0_off421 : Fin 3 → Nat :=
  let c74_i32 : BitVec 32 := 74#32
  let c2_i32_1054 : BitVec 32 := 2#32
  let v3409 : BitVec 32 := Scalar.remsi c74_i32 c2_i32_1054
  let v4376 : Index := Scalar.indexCast v3409
  let c1952_1457 : Index := 1952#32
  let c0_1458 : Index := 0#32
  ![v4376.toNat, 1952, 0]
def k0_off422 : Fin 3 → Nat :=
  let c74_i32 : BitVec 32 := 74#32
  let c2_i32_1054 : BitVec 32 := 2#32
  let v3409 : BitVec 32 := Scalar.remsi c74_i32 c2_i32_1054
  let v4391 : Index := Scalar.indexCast v3409
  let c1984_1463 : Index := 1984#32
  let c0_1464 : Index := 0#32
  ![v4391.toNat, 1984, 0]
def k0_off423 : Fin 3 → Nat :=
  let c74_i32 : BitVec 32 := 74#32
  let c2_i32_1054 : BitVec 32 := 2#32
  let v3409 : BitVec 32 := Scalar.remsi c74_i32 c2_i32_1054
  let v4406 : Index := Scalar.indexCast v3409
  let c2016_1469 : Index := 2016#32
  let c0_1470 : Index := 0#32
  ![v4406.toNat, 2016, 0]
def k0_off424 : Fin 3 → Nat :=
  let c74_i32 : BitVec 32 := 74#32
  let c2_i32_1054 : BitVec 32 := 2#32
  let v3409 : BitVec 32 := Scalar.remsi c74_i32 c2_i32_1054
  let v4425 : Index := Scalar.indexCast v3409
  let c2048_1478 : Index := 2048#32
  let c0_1479 : Index := 0#32
  ![v4425.toNat, 2048, 0]
def k0_off425 : Fin 3 → Nat :=
  let c74_i32 : BitVec 32 := 74#32
  let c2_i32_1054 : BitVec 32 := 2#32
  let v3409 : BitVec 32 := Scalar.remsi c74_i32 c2_i32_1054
  let v4440 : Index := Scalar.indexCast v3409
  let c2080_1484 : Index := 2080#32
  let c0_1485 : Index := 0#32
  ![v4440.toNat, 2080, 0]
def k0_off426 : Fin 3 → Nat :=
  let c74_i32 : BitVec 32 := 74#32
  let c2_i32_1054 : BitVec 32 := 2#32
  let v3409 : BitVec 32 := Scalar.remsi c74_i32 c2_i32_1054
  let v4455 : Index := Scalar.indexCast v3409
  let c2112_1490 : Index := 2112#32
  let c0_1491 : Index := 0#32
  ![v4455.toNat, 2112, 0]
def k0_off427 : Fin 3 → Nat :=
  let c74_i32 : BitVec 32 := 74#32
  let c2_i32_1054 : BitVec 32 := 2#32
  let v3409 : BitVec 32 := Scalar.remsi c74_i32 c2_i32_1054
  let v4470 : Index := Scalar.indexCast v3409
  let c2144_1496 : Index := 2144#32
  let c0_1497 : Index := 0#32
  ![v4470.toNat, 2144, 0]
def k0_off428 : Fin 3 → Nat :=
  let c74_i32 : BitVec 32 := 74#32
  let c2_i32_1054 : BitVec 32 := 2#32
  let v3409 : BitVec 32 := Scalar.remsi c74_i32 c2_i32_1054
  let v4485 : Index := Scalar.indexCast v3409
  let c2176_1502 : Index := 2176#32
  let c0_1503 : Index := 0#32
  ![v4485.toNat, 2176, 0]
def k0_off429 : Fin 3 → Nat :=
  let c74_i32 : BitVec 32 := 74#32
  let c2_i32_1054 : BitVec 32 := 2#32
  let v3409 : BitVec 32 := Scalar.remsi c74_i32 c2_i32_1054
  let v4500 : Index := Scalar.indexCast v3409
  let c2208_1508 : Index := 2208#32
  let c0_1509 : Index := 0#32
  ![v4500.toNat, 2208, 0]
def k0_off430 : Fin 3 → Nat :=
  let c74_i32 : BitVec 32 := 74#32
  let c2_i32_1054 : BitVec 32 := 2#32
  let v3409 : BitVec 32 := Scalar.remsi c74_i32 c2_i32_1054
  let v4515 : Index := Scalar.indexCast v3409
  let c2240_1514 : Index := 2240#32
  let c0_1515 : Index := 0#32
  ![v4515.toNat, 2240, 0]
def k0_off431 : Fin 3 → Nat :=
  let c74_i32 : BitVec 32 := 74#32
  let c2_i32_1054 : BitVec 32 := 2#32
  let v3409 : BitVec 32 := Scalar.remsi c74_i32 c2_i32_1054
  let v4530 : Index := Scalar.indexCast v3409
  let c2272_1520 : Index := 2272#32
  let c0_1521 : Index := 0#32
  ![v4530.toNat, 2272, 0]
def k0_off432 : Fin 3 → Nat :=
  let c74_i32 : BitVec 32 := 74#32
  let c2_i32_1054 : BitVec 32 := 2#32
  let v3409 : BitVec 32 := Scalar.remsi c74_i32 c2_i32_1054
  let v4549 : Index := Scalar.indexCast v3409
  let c2304_1529 : Index := 2304#32
  let c0_1530 : Index := 0#32
  ![v4549.toNat, 2304, 0]
def k0_off433 : Fin 3 → Nat :=
  let c74_i32 : BitVec 32 := 74#32
  let c2_i32_1054 : BitVec 32 := 2#32
  let v3409 : BitVec 32 := Scalar.remsi c74_i32 c2_i32_1054
  let v4564 : Index := Scalar.indexCast v3409
  let c2336_1535 : Index := 2336#32
  let c0_1536 : Index := 0#32
  ![v4564.toNat, 2336, 0]
def k0_off434 : Fin 3 → Nat :=
  let c74_i32 : BitVec 32 := 74#32
  let c2_i32_1054 : BitVec 32 := 2#32
  let v3409 : BitVec 32 := Scalar.remsi c74_i32 c2_i32_1054
  let v4579 : Index := Scalar.indexCast v3409
  let c2368_1541 : Index := 2368#32
  let c0_1542 : Index := 0#32
  ![v4579.toNat, 2368, 0]
def k0_off435 : Fin 3 → Nat :=
  let c74_i32 : BitVec 32 := 74#32
  let c2_i32_1054 : BitVec 32 := 2#32
  let v3409 : BitVec 32 := Scalar.remsi c74_i32 c2_i32_1054
  let v4594 : Index := Scalar.indexCast v3409
  let c2400_1547 : Index := 2400#32
  let c0_1548 : Index := 0#32
  ![v4594.toNat, 2400, 0]
def k0_off436 : Fin 3 → Nat :=
  let c74_i32 : BitVec 32 := 74#32
  let c2_i32_1054 : BitVec 32 := 2#32
  let v3409 : BitVec 32 := Scalar.remsi c74_i32 c2_i32_1054
  let v4609 : Index := Scalar.indexCast v3409
  let c2432_1553 : Index := 2432#32
  let c0_1554 : Index := 0#32
  ![v4609.toNat, 2432, 0]
def k0_off437 : Fin 3 → Nat :=
  let c74_i32 : BitVec 32 := 74#32
  let c2_i32_1054 : BitVec 32 := 2#32
  let v3409 : BitVec 32 := Scalar.remsi c74_i32 c2_i32_1054
  let v4624 : Index := Scalar.indexCast v3409
  let c2464_1559 : Index := 2464#32
  let c0_1560 : Index := 0#32
  ![v4624.toNat, 2464, 0]
def k0_off438 : Fin 3 → Nat :=
  let c74_i32 : BitVec 32 := 74#32
  let c2_i32_1054 : BitVec 32 := 2#32
  let v3409 : BitVec 32 := Scalar.remsi c74_i32 c2_i32_1054
  let v4639 : Index := Scalar.indexCast v3409
  let c2496_1565 : Index := 2496#32
  let c0_1566 : Index := 0#32
  ![v4639.toNat, 2496, 0]
def k0_off439 : Fin 3 → Nat :=
  let c74_i32 : BitVec 32 := 74#32
  let c2_i32_1054 : BitVec 32 := 2#32
  let v3409 : BitVec 32 := Scalar.remsi c74_i32 c2_i32_1054
  let v4654 : Index := Scalar.indexCast v3409
  let c2528_1571 : Index := 2528#32
  let c0_1572 : Index := 0#32
  ![v4654.toNat, 2528, 0]
def k0_off440 : Fin 3 → Nat :=
  let c74_i32 : BitVec 32 := 74#32
  let c2_i32_1054 : BitVec 32 := 2#32
  let v3409 : BitVec 32 := Scalar.remsi c74_i32 c2_i32_1054
  let v4673 : Index := Scalar.indexCast v3409
  let c2560_1580 : Index := 2560#32
  let c0_1581 : Index := 0#32
  ![v4673.toNat, 2560, 0]
def k0_off441 : Fin 3 → Nat :=
  let c74_i32 : BitVec 32 := 74#32
  let c2_i32_1054 : BitVec 32 := 2#32
  let v3409 : BitVec 32 := Scalar.remsi c74_i32 c2_i32_1054
  let v4688 : Index := Scalar.indexCast v3409
  let c2592_1586 : Index := 2592#32
  let c0_1587 : Index := 0#32
  ![v4688.toNat, 2592, 0]
def k0_off442 : Fin 3 → Nat :=
  let c74_i32 : BitVec 32 := 74#32
  let c2_i32_1054 : BitVec 32 := 2#32
  let v3409 : BitVec 32 := Scalar.remsi c74_i32 c2_i32_1054
  let v4703 : Index := Scalar.indexCast v3409
  let c2624_1592 : Index := 2624#32
  let c0_1593 : Index := 0#32
  ![v4703.toNat, 2624, 0]
def k0_off443 : Fin 3 → Nat :=
  let c74_i32 : BitVec 32 := 74#32
  let c2_i32_1054 : BitVec 32 := 2#32
  let v3409 : BitVec 32 := Scalar.remsi c74_i32 c2_i32_1054
  let v4718 : Index := Scalar.indexCast v3409
  let c2656_1598 : Index := 2656#32
  let c0_1599 : Index := 0#32
  ![v4718.toNat, 2656, 0]
def k0_off444 : Fin 3 → Nat :=
  let c74_i32 : BitVec 32 := 74#32
  let c2_i32_1054 : BitVec 32 := 2#32
  let v3409 : BitVec 32 := Scalar.remsi c74_i32 c2_i32_1054
  let v4733 : Index := Scalar.indexCast v3409
  let c2688_1604 : Index := 2688#32
  let c0_1605 : Index := 0#32
  ![v4733.toNat, 2688, 0]
def k0_off445 : Fin 3 → Nat :=
  let c74_i32 : BitVec 32 := 74#32
  let c2_i32_1054 : BitVec 32 := 2#32
  let v3409 : BitVec 32 := Scalar.remsi c74_i32 c2_i32_1054
  let v4748 : Index := Scalar.indexCast v3409
  let c2720_1610 : Index := 2720#32
  let c0_1611 : Index := 0#32
  ![v4748.toNat, 2720, 0]
def k0_off446 : Fin 3 → Nat :=
  let c74_i32 : BitVec 32 := 74#32
  let c2_i32_1054 : BitVec 32 := 2#32
  let v3409 : BitVec 32 := Scalar.remsi c74_i32 c2_i32_1054
  let v4763 : Index := Scalar.indexCast v3409
  let c2752_1616 : Index := 2752#32
  let c0_1617 : Index := 0#32
  ![v4763.toNat, 2752, 0]
def k0_off447 : Fin 3 → Nat :=
  let c74_i32 : BitVec 32 := 74#32
  let c2_i32_1054 : BitVec 32 := 2#32
  let v3409 : BitVec 32 := Scalar.remsi c74_i32 c2_i32_1054
  let v4778 : Index := Scalar.indexCast v3409
  let c2784_1622 : Index := 2784#32
  let c0_1623 : Index := 0#32
  ![v4778.toNat, 2784, 0]
def k0_off448 : Fin 3 → Nat :=
  let c74_i32 : BitVec 32 := 74#32
  let c2_i32_1054 : BitVec 32 := 2#32
  let v3409 : BitVec 32 := Scalar.remsi c74_i32 c2_i32_1054
  let v4797 : Index := Scalar.indexCast v3409
  let c2816_1631 : Index := 2816#32
  let c0_1632 : Index := 0#32
  ![v4797.toNat, 2816, 0]
def k0_off449 : Fin 3 → Nat :=
  let c74_i32 : BitVec 32 := 74#32
  let c2_i32_1054 : BitVec 32 := 2#32
  let v3409 : BitVec 32 := Scalar.remsi c74_i32 c2_i32_1054
  let v4812 : Index := Scalar.indexCast v3409
  let c2848_1637 : Index := 2848#32
  let c0_1638 : Index := 0#32
  ![v4812.toNat, 2848, 0]
def k0_off450 : Fin 3 → Nat :=
  let c74_i32 : BitVec 32 := 74#32
  let c2_i32_1054 : BitVec 32 := 2#32
  let v3409 : BitVec 32 := Scalar.remsi c74_i32 c2_i32_1054
  let v4827 : Index := Scalar.indexCast v3409
  let c2880_1643 : Index := 2880#32
  let c0_1644 : Index := 0#32
  ![v4827.toNat, 2880, 0]
def k0_off451 : Fin 3 → Nat :=
  let c74_i32 : BitVec 32 := 74#32
  let c2_i32_1054 : BitVec 32 := 2#32
  let v3409 : BitVec 32 := Scalar.remsi c74_i32 c2_i32_1054
  let v4842 : Index := Scalar.indexCast v3409
  let c2912_1649 : Index := 2912#32
  let c0_1650 : Index := 0#32
  ![v4842.toNat, 2912, 0]
def k0_off452 : Fin 3 → Nat :=
  let c74_i32 : BitVec 32 := 74#32
  let c2_i32_1054 : BitVec 32 := 2#32
  let v3409 : BitVec 32 := Scalar.remsi c74_i32 c2_i32_1054
  let v4857 : Index := Scalar.indexCast v3409
  let c2944_1655 : Index := 2944#32
  let c0_1656 : Index := 0#32
  ![v4857.toNat, 2944, 0]
def k0_off453 : Fin 3 → Nat :=
  let c74_i32 : BitVec 32 := 74#32
  let c2_i32_1054 : BitVec 32 := 2#32
  let v3409 : BitVec 32 := Scalar.remsi c74_i32 c2_i32_1054
  let v4872 : Index := Scalar.indexCast v3409
  let c2976_1661 : Index := 2976#32
  let c0_1662 : Index := 0#32
  ![v4872.toNat, 2976, 0]
def k0_off454 : Fin 3 → Nat :=
  let c74_i32 : BitVec 32 := 74#32
  let c2_i32_1054 : BitVec 32 := 2#32
  let v3409 : BitVec 32 := Scalar.remsi c74_i32 c2_i32_1054
  let v4887 : Index := Scalar.indexCast v3409
  let c3008_1667 : Index := 3008#32
  let c0_1668 : Index := 0#32
  ![v4887.toNat, 3008, 0]
def k0_off455 : Fin 3 → Nat :=
  let c74_i32 : BitVec 32 := 74#32
  let c2_i32_1054 : BitVec 32 := 2#32
  let v3409 : BitVec 32 := Scalar.remsi c74_i32 c2_i32_1054
  let v4902 : Index := Scalar.indexCast v3409
  let c3040_1673 : Index := 3040#32
  let c0_1674 : Index := 0#32
  ![v4902.toNat, 3040, 0]
def k0_off456 : Fin 3 → Nat :=
  let c74_i32 : BitVec 32 := 74#32
  let c2_i32_1054 : BitVec 32 := 2#32
  let v3409 : BitVec 32 := Scalar.remsi c74_i32 c2_i32_1054
  let v4921 : Index := Scalar.indexCast v3409
  let c3072_1682 : Index := 3072#32
  let c0_1683 : Index := 0#32
  ![v4921.toNat, 3072, 0]
def k0_off457 : Fin 3 → Nat :=
  let c74_i32 : BitVec 32 := 74#32
  let c2_i32_1054 : BitVec 32 := 2#32
  let v3409 : BitVec 32 := Scalar.remsi c74_i32 c2_i32_1054
  let v4936 : Index := Scalar.indexCast v3409
  let c3104_1688 : Index := 3104#32
  let c0_1689 : Index := 0#32
  ![v4936.toNat, 3104, 0]
def k0_off458 : Fin 3 → Nat :=
  let c74_i32 : BitVec 32 := 74#32
  let c2_i32_1054 : BitVec 32 := 2#32
  let v3409 : BitVec 32 := Scalar.remsi c74_i32 c2_i32_1054
  let v4951 : Index := Scalar.indexCast v3409
  let c3136_1694 : Index := 3136#32
  let c0_1695 : Index := 0#32
  ![v4951.toNat, 3136, 0]
def k0_off459 : Fin 3 → Nat :=
  let c74_i32 : BitVec 32 := 74#32
  let c2_i32_1054 : BitVec 32 := 2#32
  let v3409 : BitVec 32 := Scalar.remsi c74_i32 c2_i32_1054
  let v4966 : Index := Scalar.indexCast v3409
  let c3168_1700 : Index := 3168#32
  let c0_1701 : Index := 0#32
  ![v4966.toNat, 3168, 0]
def k0_off460 : Fin 3 → Nat :=
  let c74_i32 : BitVec 32 := 74#32
  let c2_i32_1054 : BitVec 32 := 2#32
  let v3409 : BitVec 32 := Scalar.remsi c74_i32 c2_i32_1054
  let v4981 : Index := Scalar.indexCast v3409
  let c3200_1706 : Index := 3200#32
  let c0_1707 : Index := 0#32
  ![v4981.toNat, 3200, 0]
def k0_off461 : Fin 3 → Nat :=
  let c74_i32 : BitVec 32 := 74#32
  let c2_i32_1054 : BitVec 32 := 2#32
  let v3409 : BitVec 32 := Scalar.remsi c74_i32 c2_i32_1054
  let v4996 : Index := Scalar.indexCast v3409
  let c3232_1712 : Index := 3232#32
  let c0_1713 : Index := 0#32
  ![v4996.toNat, 3232, 0]
def k0_off462 : Fin 3 → Nat :=
  let c74_i32 : BitVec 32 := 74#32
  let c2_i32_1054 : BitVec 32 := 2#32
  let v3409 : BitVec 32 := Scalar.remsi c74_i32 c2_i32_1054
  let v5011 : Index := Scalar.indexCast v3409
  let c3264_1718 : Index := 3264#32
  let c0_1719 : Index := 0#32
  ![v5011.toNat, 3264, 0]
def k0_off463 : Fin 3 → Nat :=
  let c74_i32 : BitVec 32 := 74#32
  let c2_i32_1054 : BitVec 32 := 2#32
  let v3409 : BitVec 32 := Scalar.remsi c74_i32 c2_i32_1054
  let v5026 : Index := Scalar.indexCast v3409
  let c3296_1724 : Index := 3296#32
  let c0_1725 : Index := 0#32
  ![v5026.toNat, 3296, 0]
def k0_off464 : Fin 3 → Nat :=
  let c74_i32 : BitVec 32 := 74#32
  let c2_i32_1054 : BitVec 32 := 2#32
  let v3409 : BitVec 32 := Scalar.remsi c74_i32 c2_i32_1054
  let v5045 : Index := Scalar.indexCast v3409
  let c3328_1733 : Index := 3328#32
  let c0_1734 : Index := 0#32
  ![v5045.toNat, 3328, 0]
def k0_off465 : Fin 3 → Nat :=
  let c74_i32 : BitVec 32 := 74#32
  let c2_i32_1054 : BitVec 32 := 2#32
  let v3409 : BitVec 32 := Scalar.remsi c74_i32 c2_i32_1054
  let v5060 : Index := Scalar.indexCast v3409
  let c3360_1739 : Index := 3360#32
  let c0_1740 : Index := 0#32
  ![v5060.toNat, 3360, 0]
def k0_off466 : Fin 3 → Nat :=
  let c74_i32 : BitVec 32 := 74#32
  let c2_i32_1054 : BitVec 32 := 2#32
  let v3409 : BitVec 32 := Scalar.remsi c74_i32 c2_i32_1054
  let v5075 : Index := Scalar.indexCast v3409
  let c3392_1745 : Index := 3392#32
  let c0_1746 : Index := 0#32
  ![v5075.toNat, 3392, 0]
def k0_off467 : Fin 3 → Nat :=
  let c74_i32 : BitVec 32 := 74#32
  let c2_i32_1054 : BitVec 32 := 2#32
  let v3409 : BitVec 32 := Scalar.remsi c74_i32 c2_i32_1054
  let v5090 : Index := Scalar.indexCast v3409
  let c3424_1751 : Index := 3424#32
  let c0_1752 : Index := 0#32
  ![v5090.toNat, 3424, 0]
def k0_off468 : Fin 3 → Nat :=
  let c74_i32 : BitVec 32 := 74#32
  let c2_i32_1054 : BitVec 32 := 2#32
  let v3409 : BitVec 32 := Scalar.remsi c74_i32 c2_i32_1054
  let v5105 : Index := Scalar.indexCast v3409
  let c3456_1757 : Index := 3456#32
  let c0_1758 : Index := 0#32
  ![v5105.toNat, 3456, 0]
def k0_off469 : Fin 3 → Nat :=
  let c74_i32 : BitVec 32 := 74#32
  let c2_i32_1054 : BitVec 32 := 2#32
  let v3409 : BitVec 32 := Scalar.remsi c74_i32 c2_i32_1054
  let v5120 : Index := Scalar.indexCast v3409
  let c3488_1763 : Index := 3488#32
  let c0_1764 : Index := 0#32
  ![v5120.toNat, 3488, 0]
def k0_off470 : Fin 3 → Nat :=
  let c74_i32 : BitVec 32 := 74#32
  let c2_i32_1054 : BitVec 32 := 2#32
  let v3409 : BitVec 32 := Scalar.remsi c74_i32 c2_i32_1054
  let v5135 : Index := Scalar.indexCast v3409
  let c3520_1769 : Index := 3520#32
  let c0_1770 : Index := 0#32
  ![v5135.toNat, 3520, 0]
def k0_off471 : Fin 3 → Nat :=
  let c74_i32 : BitVec 32 := 74#32
  let c2_i32_1054 : BitVec 32 := 2#32
  let v3409 : BitVec 32 := Scalar.remsi c74_i32 c2_i32_1054
  let v5150 : Index := Scalar.indexCast v3409
  let c3552_1775 : Index := 3552#32
  let c0_1776 : Index := 0#32
  ![v5150.toNat, 3552, 0]
def k0_off472 : Fin 3 → Nat :=
  let c74_i32 : BitVec 32 := 74#32
  let c2_i32_1054 : BitVec 32 := 2#32
  let v3409 : BitVec 32 := Scalar.remsi c74_i32 c2_i32_1054
  let v5165 : Index := Scalar.indexCast v3409
  let c0_1782 : Index := 0#32
  let c0_1783 : Index := 0#32
  ![v5165.toNat, 0, 0]
def k0_mult16 : BitVec 32 :=
  let c18688_i32 : BitVec 32 := 18688#32
  c18688_i32
def k0_mult17 : BitVec 32 :=
  let c18688_i32_1787 : BitVec 32 := 18688#32
  c18688_i32_1787
def k0_mult18 : BitVec 32 :=
  let c18432_i32 : BitVec 32 := 18432#32
  c18432_i32
def k0_mult19 : BitVec 32 :=
  let c18432_i32_1796 : BitVec 32 := 18432#32
  c18432_i32_1796
def k0_mult20 : BitVec 32 :=
  let c18688_i32_1802 : BitVec 32 := 18688#32
  c18688_i32_1802
def k0_mult21 : BitVec 32 :=
  let c18688_i32_1808 : BitVec 32 := 18688#32
  c18688_i32_1808
abbrev stage0_0 : Fin 1 → Memref sig .tc .vmem S1x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S74x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x3584 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x128x3584 : Shape := ⟨3, ![2, 128, 3584]⟩
abbrev S3584x18944 : Shape := ⟨2, ![3584, 18944]⟩
abbrev S3584 : Shape := ⟨1, ![3584]⟩
abbrev S256x3584 : Shape := ⟨2, ![256, 3584]⟩
abbrev S1x3584 : Shape := ⟨2, ![1, 3584]⟩
abbrev S2x128x18944 : Shape := ⟨3, ![2, 128, 18944]⟩
abbrev S18944 : Shape := ⟨1, ![18944]⟩
abbrev S2x128 : Shape := ⟨2, ![2, 128]⟩
abbrev S3584x1 : Shape := ⟨2, ![3584, 1]⟩
abbrev S1x18944 : Shape := ⟨2, ![1, 18944]⟩
abbrev S256 : Shape := ⟨1, ![256]⟩
abbrev S256x1 : Shape := ⟨2, ![256, 1]⟩
abbrev S256x18944 : Shape := ⟨2, ![256, 18944]⟩

abbrev nBuf : Space → Nat
  | .hbm => 11
  | .vmem => 9
  | .smem => 0
  | _ => 0

abbrev bufTy : (tb : Table) → Fin (tcTables nBuf tb) → BufTy
  | .hbm, ⟨0, _⟩ => ⟨S2x128x3584, .bf16⟩
  | .hbm, ⟨1, _⟩ => ⟨S3584x18944, .bf16⟩
  | .hbm, ⟨2, _⟩ => ⟨S3584, .f32⟩
  | .hbm, ⟨3, _⟩ => ⟨S256x3584, .bf16⟩
  | .hbm, ⟨4, _⟩ => ⟨S1x3584, .f32⟩
  | .hbm, ⟨5, _⟩ => ⟨S2x128x18944, .bf16⟩
  | .hbm, ⟨6, _⟩ => ⟨S3584, .f32⟩
  | .hbm, ⟨7, _⟩ => ⟨S3584x18944, .i8⟩
  | .hbm, ⟨8, _⟩ => ⟨S18944, .f32⟩
  | .hbm, ⟨9, _⟩ => ⟨S2x128x3584, .i8⟩
  | .hbm, ⟨10, _⟩ => ⟨S2x128, .f32⟩
  | .local _ .vmem, ⟨0, _⟩ => ⟨S256x3584, .bf16⟩
  | .local _ .vmem, ⟨1, _⟩ => ⟨S3584x18944, .bf16⟩
  | .local _ .vmem, ⟨2, _⟩ => ⟨S1x3584, .f32⟩
  | .local _ .vmem, ⟨3, _⟩ => ⟨S2x128x18944, .bf16⟩
  | .local _ .vmem, ⟨4, _⟩ => ⟨S3584, .f32⟩
  | .local _ .vmem, ⟨5, _⟩ => ⟨S3584x18944, .i8⟩
  | .local _ .vmem, ⟨6, _⟩ => ⟨S18944, .f32⟩
  | .local _ .vmem, ⟨7, _⟩ => ⟨S2x128x3584, .i8⟩
  | .local _ .vmem, ⟨8, _⟩ => ⟨S2x128, .f32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584x18944 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18944 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x3584 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Model.lean ====
/- The kernel's body written a second time, as loops over chunks: one definition for a chunk of 32 rows of a weight block
   being scaled, one for a chunk of codes, and recursions that run them. Each takes what is to be run afterwards as
   its last argument. `Proof/Same.lean` proves that the printed body is this one. -/
module

public import proofs.«01_k».proof.Kernel
public import proofs.«01_k».proof.Proof.Gen.Kernel
public import proofs.«01_k».proof.Proof.Gen.Kernel.Points

@[expose] public section

noncomputable section

namespace Cert.Kernel.Model

open Idealize.ShloMosaic Idealize.ShloMosaic.TcCoe
open Idealize.SL Idealize.SL.Sem
open Cert.Kernel Cert.Kernel.Gen

variable {F : FTy → Type} [FloatOps F]

/-! ## The values -/

/-- The codes of a chunk of scaled weights, from the inverses of the columns' scales. -/
def codesOf (ws : Vec F S32x256 .f32) (inv : Vec F S1x256 .f32) : IVec S32x256 8 :=
  trunci 8 (fptosi 32 (minimumf (broadcast S32x256 (Scalar.ofBits .f32 0x42FE0000#32))
    (maximumf (broadcast S32x256 (Scalar.ofBits .f32 0xC2FE0000#32))
      (roundeven (mulf ws (broadcastTo S32x256 inv broadcasts_S1x256_S32x256)))))) natLt_8_32

/-- A chunk of weights times the rows' smoothing factors. -/
def wsOf (wv : Vec F S1x32x256 .bf16) (sb : Vec F S32x128 .f32) : FVec F S32x256 .f32 :=
  mulf (extf .f32 (shapeCast S32x256 wv shapeCasts_S1x32x256_S32x256) bitsLt_bf16_f32)
    (concatenate S32x256 1 [⟨S32x128, sb⟩, ⟨S32x128, sb⟩] concatenates_S32x128_S32x128_S32x256_d1)

/-- The two running maxima of absolute values, by groups of eight rows: none before the first chunk. -/
abbrev Amax (F : FTy → Type) [FloatOps F] := Option (FVec F S8x256 .f32 × FVec F S8x256 .f32)

/-- The absolute values of rows 0 to 7, 8 to 15, 16 to 23 and 24 to 31 of a chunk. -/
def abs0 (w : FVec F S32x256 .f32) : FVec F S8x256 .f32 := absf (extractStridedSlice S8x256 ![0, 0] w slices_S32x256_o0_0_S8x256)
@[inherit_doc abs0] def abs1 (w : FVec F S32x256 .f32) : FVec F S8x256 .f32 := absf (extractStridedSlice S8x256 ![8, 0] w slices_S32x256_o8_0_S8x256)
@[inherit_doc abs0] def abs2 (w : FVec F S32x256 .f32) : FVec F S8x256 .f32 := absf (extractStridedSlice S8x256 ![16, 0] w slices_S32x256_o16_0_S8x256)
@[inherit_doc abs0] def abs3 (w : FVec F S32x256 .f32) : FVec F S8x256 .f32 := absf (extractStridedSlice S8x256 ![24, 0] w slices_S32x256_o24_0_S8x256)

/-- The running maxima after one more chunk. -/
def amaxStep (a : Amax F) (w : FVec F S32x256 .f32) : Amax F :=
  match a with
  | none => some (maximumf (abs0 w) (abs2 w), maximumf (abs1 w) (abs3 w))
  | some (p, q) => some (maximumf (maximumf p (abs0 w)) (abs2 w), maximumf (maximumf q (abs1 w)) (abs3 w))

/-- A block's scales from its columns' largest absolute values: one where a column is zero. -/
def scaleOfMax (m : FVec F S1x256 .f32) : FVec F S1x256 .f32 :=
  select (cmpf .oeq m (broadcast S1x256 (Scalar.ofBits .f32 0x00000000#32)))
    (broadcast S1x256 (Scalar.ofBits .f32 0x3F800000#32)) (divf m (broadcast S1x256 (Scalar.ofBits .f32 0x42FE0000#32)))

/-- A block's scales from the running maxima after its last chunk. -/
def scaleOf (a : Amax F) : FVec F S1x256 .f32 :=
  match a with
  | none => broadcast S1x256 (Scalar.ofBits .f32 0x3F800000#32)
  | some (p, q) => scaleOfMax (shapeCast S1x256 (multiReduction .maximumf [0] S256 (maximumf p q) 0xFF800000#32 reduces_S8x256_S256 (.inl rfl) rfl) shapeCasts_S256_S1x256)

/-- The inverses of a block's scales. -/
def invOf (s : FVec F S1x256 .f32) : FVec F S1x256 .f32 := divf (broadcast S1x256 (Scalar.ofBits .f32 0x3F800000#32)) s

/-- One product of 256 rows of codes with the activations' codes. -/
def dotOf (xq : Vec F S256x256 .bf16) (p0 p1 p2 p3 p4 p5 p6 p7 : IVec S32x256 8) : FVec F S256x256 .f32 :=
  matmul dot_S256x256_S256x256_S256x256_1_0_0_1_n_n none xq
    (concatenate S256x256 0 [⟨S32x256, (sitofp .bf16 p0 : FVec F S32x256 .bf16)⟩, ⟨S32x256, (sitofp .bf16 p1 : FVec F S32x256 .bf16)⟩, ⟨S32x256, (sitofp .bf16 p2 : FVec F S32x256 .bf16)⟩,
      ⟨S32x256, (sitofp .bf16 p3 : FVec F S32x256 .bf16)⟩, ⟨S32x256, (sitofp .bf16 p4 : FVec F S32x256 .bf16)⟩, ⟨S32x256, (sitofp .bf16 p5 : FVec F S32x256 .bf16)⟩,
      ⟨S32x256, (sitofp .bf16 p6 : FVec F S32x256 .bf16)⟩, ⟨S32x256, (sitofp .bf16 p7 : FVec F S32x256 .bf16)⟩]
      concatenates_S32x256_S32x256_S32x256_S32x256_S32x256_S32x256_S32x256_S32x256_S256x256_d0)
    (constant S256x256 .f32 0x00000000#32)

/-- The running sum of the products: none before the first. -/
abbrev Acc (F : FTy → Type) [FloatOps F] := Option (FVec F S256x256 .f32)

/-- The running sum after one more product. -/
def accStep (acc : Acc F) (d : FVec F S256x256 .f32) : Acc F :=
  match acc with
  | none => some d
  | some c => some (addf c d)

/-- A block of the product, rescaled and rounded to bf16. -/
def yOf (acc : Acc F) (xs : Vec F S256x128 .f32) (scale : Vec F S1x256 .f32) : FVec F S256x256 .bf16 :=
  match acc with
  | none => truncf .bf16 (constant S256x256 .f32 0x00000000#32) bitsLt_bf16_f32
  | some c => truncf .bf16 (mulf (mulf c (concatenate S256x256 1 [⟨S256x128, xs⟩, ⟨S256x128, xs⟩] concatenates_S256x128_S256x128_S256x256_d1))
      (broadcastTo S256x256 scale broadcasts_S1x256_S256x256)) bitsLt_bf16_f32

/-- The smoothing factors of 128 columns of the activations. -/
def sOf (xv : Vec F S256x128 .bf16) (wa : Vec F S1x128 .f32) : FVec F S1x128 .f32 :=
  divf (sqrt (maximumf (shapeCast S1x128 (multiReduction .maximumf [0] S128 (absf (extf .f32 xv bitsLt_bf16_f32)) 0xFF800000#32 reduces_S256x128_S128 (.inl rfl) rfl) shapeCasts_S128_S1x128)
      (broadcast S1x128 (Scalar.ofBits .f32 0x3727C5AC#32))))
    (sqrt (maximumf (shapeCast S1x128 wa shapeCasts_S1x128_S1x128) (broadcast S1x128 (Scalar.ofBits .f32 0x3727C5AC#32))))

/-- The same factors with one row each, repeated along the lanes. -/
def sbOf (s : FVec F S1x128 .f32) : FVec F S128x128 .f32 :=
  transpose S128x128 [1, 0] (broadcastTo S128x128 (shapeCast S1x128 s shapeCasts_S1x128_S1x128) broadcasts_S1x128_S128x128) transposes_S128x128_p1_0_S128x128

/-- A chunk of 32 rows of activations over the smoothing factors. -/
def xsOf (xv : Vec F S32x3584 .bf16) (s : Vec F S1x3584 .f32) : FVec F S32x3584 .f32 :=
  divf (extf .f32 xv bitsLt_bf16_f32) (broadcastTo S32x3584 (shapeCast S1x3584 s shapeCasts_S1x3584_S1x3584) broadcasts_S1x3584_S32x3584)

/-- The rows' scales from their largest absolute values. -/
def xScaleOfMax (m : FVec F S32x1 .f32) : FVec F S32x1 .f32 :=
  select (cmpf .oeq m (broadcast S32x1 (Scalar.ofBits .f32 0x00000000#32)))
    (broadcast S32x1 (Scalar.ofBits .f32 0x3F800000#32)) (divf m (broadcast S32x1 (Scalar.ofBits .f32 0x42FE0000#32)))

/-- The rows' scales. -/
def xScaleOf (x : FVec F S32x3584 .f32) : FVec F S32x1 .f32 :=
  xScaleOfMax (shapeCast S32x1 (multiReduction .maximumf [1] S32 (absf x) 0xFF800000#32 reduces_S32x3584_S32 (.inl rfl) rfl) shapeCasts_S32_S32x1)

/-- The rows' codes. -/
def xCodesOf (x : FVec F S32x3584 .f32) : IVec S32x3584 8 :=
  trunci 8 (fptosi 32 (minimumf (broadcast S32x3584 (Scalar.ofBits .f32 0x42FE0000#32))
    (maximumf (broadcast S32x3584 (Scalar.ofBits .f32 0xC2FE0000#32))
      (roundeven (mulf x (broadcastTo S32x3584 (divf (broadcast S32x1 (Scalar.ofBits .f32 0x3F800000#32)) (xScaleOf x)) broadcasts_S32x1_S32x3584)))))) natLt_8_32

/-! ## The buffers -/

abbrev mX : Memref sig .tc .hbm S256x3584 .bf16 := Memref.whole main_v0
abbrev mW : Memref sig .tc .hbm S3584x18944 .bf16 := Memref.whole main_arg1
abbrev mWabs : Memref sig .tc .vmem S1x3584 .f32 := Memref.whole cc0_stg0_0
abbrev mY : Memref sig .tc .hbm S256x18944 .bf16 := Memref.whole main_v2_0
abbrev mS : Memref sig .tc .vmem S1x3584 .f32 := Memref.whole cc0_stg1_0
abbrev mC : Memref sig .tc .hbm S3584x18944 .i8 := Memref.whole main_v2_2
abbrev mWsc : Memref sig .tc .vmem S74x256 .f32 := Memref.whole cc0_stg2_0
abbrev mXc : Memref sig .tc .vmem S256x3584 .i8 := Memref.whole cc0_stg3_0
abbrev mXsc : Memref sig .tc .vmem S2x128 .f32 := Memref.whole cc0_stg4_0
abbrev mXv : Memref sig .tc .vmem S256x3584 .bf16 := Memref.whole cc0_scratch0
abbrev mXq : Memref sig .tc .vmem S256x3584 .bf16 := Memref.whole cc0_scratch1
abbrev mXsb : Memref sig .tc .vmem S256x128 .f32 := Memref.whole cc0_scratch2
abbrev mSb : Memref sig .tc .vmem S3584x128 .f32 := Memref.whole cc0_scratch3
abbrev mWs : Memref sig .tc .vmem S3584x256 .f32 := Memref.whole cc0_scratch4
abbrev mInv : Memref sig .tc .vmem S1x256 .f32 := Memref.whole cc0_scratch5
abbrev mScale : Memref sig .tc .vmem S1x256 .f32 := Memref.whole cc0_scratch6
abbrev mWr : Memref sig .tc .vmem S6x3584x256 .bf16 := Memref.whole cc0_scratch7
abbrev mCr : Memref sig .tc .vmem S2x3584x256 .i8 := Memref.whole cc0_scratch8
abbrev mYr : Memref sig .tc .vmem S2x256x256 .bf16 := Memref.whole cc0_scratch9

/-- A statement about the first two or three axes, from its cases. -/
theorem forall2 {P : Fin 2 → Prop} (h0 : P 0) (h1 : P 1) : ∀ a, P a := fun a => by
  match a with
  | 0 => exact h0
  | 1 => exact h1
@[inherit_doc forall2] theorem forall3 {P : Fin 3 → Prop} (h0 : P 0) (h1 : P 1) (h2 : P 2) : ∀ a, P a := fun a => by
  match a with
  | 0 => exact h0
  | 1 => exact h1
  | 2 => exact h2

section
variable {r : ℕ}

/-- The chunk's rows of a buffer. -/
abbrev rWs (r : ℕ) (h : r < 112) : Rect S3584x256 :=
  Rect.unit (s := S3584x256) ![32 * r, 0] S32x256.size (forall2 (by show 32 * r + 32 ≤ 3584; omega) (by show 0 + 256 ≤ 256; omega))
@[inherit_doc rWs] abbrev rSb (r : ℕ) (h : r < 112) : Rect S3584x128 :=
  Rect.unit (s := S3584x128) ![32 * r, 0] S32x128.size (forall2 (by show 32 * r + 32 ≤ 3584; omega) (by show 0 + 128 ≤ 128; omega))
@[inherit_doc rWs] abbrev rWr (sl : ℕ) (hs : sl < 6) (r : ℕ) (h : r < 112) : Rect S6x3584x256 :=
  Rect.unit (s := S6x3584x256) ![sl, 32 * r, 0] S1x32x256.size
    (forall3 (by show sl + 1 ≤ 6; omega) (by show 32 * r + 32 ≤ 3584; omega) (by show 0 + 256 ≤ 256; omega))
@[inherit_doc rWs] abbrev rCr (so : ℕ) (hs : so < 2) (r : ℕ) (h : r < 112) : Rect S2x3584x256 :=
  Rect.unit (s := S2x3584x256) ![so, 32 * r, 0] S1x32x256.size
    (forall3 (by show so + 1 ≤ 2; omega) (by show 32 * r + 32 ≤ 3584; omega) (by show 0 + 256 ≤ 256; omega))
/-- 256 columns of the activations' codes. -/
abbrev rXq (g : ℕ) (h : g < 14) : Rect S256x3584 :=
  Rect.unit (s := S256x3584) ![0, 256 * g] S256x256.size (forall2 (by show 0 + 256 ≤ 256; omega) (by show 256 * g + 256 ≤ 3584; omega))
/-- One slot of the ring of result blocks. -/
abbrev rYr (so : ℕ) (hs : so < 2) : Rect S2x256x256 :=
  Rect.unit (s := S2x256x256) ![so, 0, 0] S1x256x256.size
    (forall3 (by show so + 1 ≤ 2; omega) (by show 0 + 256 ≤ 256; omega) (by show 0 + 256 ≤ 256; omega))
/-- One row of the block scales. -/
abbrev rWsc (i : ℕ) (h : i < 74) : Rect S74x256 :=
  Rect.unit (s := S74x256) ![i, 0] S1x256.size (forall2 (by show i + 1 ≤ 74; omega) (by show 0 + 256 ≤ 256; omega))
/-- All of a 1×256 row. -/
abbrev rRow : Rect S1x256 := Rect.unit (s := S1x256) ![0, 0] S1x256.size inb_S1x256_S1x256_0_0
/-- All of the activations' scales. -/
abbrev rXsb : Rect S256x128 := Rect.unit (s := S256x128) ![0, 0] S256x128.size inb_S256x128_S256x128_0_0
/-- 128 columns, 128 rows, or 32 rows of a buffer. -/
abbrev rXcol (c : ℕ) (h : c < 28) : Rect S256x3584 :=
  Rect.unit (s := S256x3584) ![0, 128 * c] S256x128.size (forall2 (by show 0 + 256 ≤ 256; omega) (by show 128 * c + 128 ≤ 3584; omega))
@[inherit_doc rXcol] abbrev rS (c : ℕ) (h : c < 28) : Rect S1x3584 :=
  Rect.unit (s := S1x3584) ![0, 128 * c] S1x128.size (forall2 (by show 0 + 1 ≤ 1; omega) (by show 128 * c + 128 ≤ 3584; omega))
@[inherit_doc rXcol] abbrev rSbBlk (c : ℕ) (h : c < 28) : Rect S3584x128 :=
  Rect.unit (s := S3584x128) ![128 * c, 0] S128x128.size (forall2 (by show 128 * c + 128 ≤ 3584; omega) (by show 0 + 128 ≤ 128; omega))
@[inherit_doc rXcol] abbrev rXrow (c : ℕ) (h : c < 8) : Rect S256x3584 :=
  Rect.unit (s := S256x3584) ![32 * c, 0] S32x3584.size (forall2 (by show 32 * c + 32 ≤ 256; omega) (by show 0 + 3584 ≤ 3584; omega))
@[inherit_doc rXcol] abbrev rXsbRow (c : ℕ) (h : c < 8) : Rect S256x128 :=
  Rect.unit (s := S256x128) ![32 * c, 0] S32x128.size (forall2 (by show 32 * c + 32 ≤ 256; omega) (by show 0 + 128 ≤ 128; omega))
@[inherit_doc rXcol] abbrev rXsbBlk (c : ℕ) (h : c < 2) : Rect S256x128 :=
  Rect.unit (s := S256x128) ![128 * c, 0] S128x128.size (forall2 (by show 128 * c + 128 ≤ 256; omega) (by show 0 + 128 ≤ 128; omega))
@[inherit_doc rXcol] abbrev rXsc (c : ℕ) (h : c < 2) : Rect S2x128 :=
  Rect.unit (s := S2x128) ![c, 0] S1x128.size (forall2 (by show c + 1 ≤ 2; omega) (by show 0 + 128 ≤ 128; omega))
/-- All of the smoothing factors. -/
abbrev rSall : Rect S1x3584 := Rect.unit (s := S1x3584) ![0, 0] S1x3584.size inb_S1x3584_S1x3584_0_0

theorem packed_rCr (so : ℕ) (hs : so < 2) (r : ℕ) (h : r < 112) : (rCr so hs r h).PackedRows (EltTy.packing .i8) :=
  .inr ⟨by decide, rfl, .inl ⟨⟨8 * r, by show 32 * r = 4 * (8 * r); omega⟩, ⟨8, rfl⟩⟩⟩
theorem packed_rYr (so : ℕ) (hs : so < 2) : (rYr so hs).PackedRows (EltTy.packing .bf16) :=
  .inr ⟨by decide, rfl, .inl ⟨⟨0, rfl⟩, ⟨128, rfl⟩⟩⟩
theorem packed_rXrow_i8 (c : ℕ) (h : c < 8) : (rXrow c h).PackedRows (EltTy.packing .i8) :=
  .inr ⟨by decide, rfl, .inl ⟨⟨8 * c, by show 32 * c = 4 * (8 * c); omega⟩, ⟨8, rfl⟩⟩⟩
theorem packed_rXrow_bf16 (c : ℕ) (h : c < 8) : (rXrow c h).PackedRows (EltTy.packing .bf16) :=
  .inr ⟨by decide, rfl, .inl ⟨⟨16 * c, by show 32 * c = 2 * (16 * c); omega⟩, ⟨16, rfl⟩⟩⟩
end

/-! ## The steps -/

/-- A program of the kernel. -/
abbrev P (F : FTy → Type) [FloatOps F] (α : Type := PUnit) := Prog (TpuEff nD τ sig (Elt F) Λ₀ .tc) α

variable {α : Type}

/-- One chunk of scaled weights turned into codes and written to slot `so` of the ring of codes. -/
def qPart (so : ℕ) (hso : so < 2) (inv : Vec F S1x256 .f32) (r : ℕ) (h : r < 112) (k : IVec S32x256 8 → P F α) : P F α :=
  .op (.load mWs (rWs r h).toLoadRect (View.loadsAt_vmem h_S32x256)) fun ws =>
  .op (.load mCr (rCr so hso r h).toLoadRect (View.loadsAt_vmem h_S1x32x256)) fun _ =>
  .op (.store mCr (rCr so hso r h) (shapeCast S1x32x256 (codesOf ws inv) shapeCasts_S32x256_S1x32x256) Finset.univ
    (View.stores_vmem h_S1x32x256 (View.storeExact_slice_whole_of_packedRows cc0_scratch8 rfl _ (packed_rCr so hso r h)) (fun _ => rfl)) (.inl rfl)) fun _ =>
  k (codesOf ws inv)

/-- One chunk of weights of slot `sl` of the ring scaled, and its largest absolute values taken up. -/
def wPart (sl : ℕ) (hsl : sl < 6) (r : ℕ) (h : r < 112) (a : Amax F) (k : Amax F → P F α) : P F α :=
  .op (.load mWr (rWr sl hsl r h).toLoadRect (View.loadsAt_vmem h_S1x32x256)) fun wv =>
  .op (.load mSb (rSb r h).toLoadRect (View.loadsAt_vmem h_S32x128)) fun sb =>
  .op (.load mWs (rWs r h).toLoadRect (View.loadsAt_vmem h_S32x256)) fun _ =>
  .op (.store mWs (rWs r h) (shapeCast S32x256 (wsOf wv sb) shapeCasts_S32x256_S32x256) Finset.univ (View.stores_vmem_bits_univ h_S32x256 rfl) (.inl rfl)) fun _ =>
  k (amaxStep a (wsOf wv sb))

/-- Chunks `r` to 111 of a block scaled. -/
def wRun (sl : ℕ) (hsl : sl < 6) : (n r : ℕ) → r + n = 112 → Amax F → (Amax F → P F α) → P F α
  | 0, _, _, a, k => k a
  | n + 1, r, h, a, k => wPart sl hsl r (by omega) a fun a => wRun sl hsl n (r + 1) (by omega) a k

/-- What is done with chunk `r` of the next block while a block is turned into codes. -/
abbrev Next (F : FTy → Type) [FloatOps F] (α : Type) := (r : ℕ) → r < 112 → Amax F → (Amax F → P F α) → P F α

/-- Nothing: there is no next block. -/
def noNext : Next F α := fun _ _ a k => k a

/-- Eight chunks turned into codes, the next block's chunk scaled after each, and the eight multiplied in. -/
def group (W : Next F α) (so : ℕ) (hso : so < 2) (inv : Vec F S1x256 .f32) (g : ℕ) (h : g < 14) (a : Amax F) (acc : Acc F)
    (k : Amax F → Acc F → P F α) : P F α :=
  qPart so hso inv (8 * g) (by omega) fun p0 => W (8 * g) (by omega) a fun a =>
  qPart so hso inv (8 * g + 1) (by omega) fun p1 => W (8 * g + 1) (by omega) a fun a =>
  qPart so hso inv (8 * g + 2) (by omega) fun p2 => W (8 * g + 2) (by omega) a fun a =>
  qPart so hso inv (8 * g + 3) (by omega) fun p3 => W (8 * g + 3) (by omega) a fun a =>
  qPart so hso inv (8 * g + 4) (by omega) fun p4 => W (8 * g + 4) (by omega) a fun a =>
  qPart so hso inv (8 * g + 5) (by omega) fun p5 => W (8 * g + 5) (by omega) a fun a =>
  qPart so hso inv (8 * g + 6) (by omega) fun p6 => W (8 * g + 6) (by omega) a fun a =>
  qPart so hso inv (8 * g + 7) (by omega) fun p7 =>
  .op (.load mXq (rXq g h).toLoadRect (View.loadsAt_vmem h_S256x256)) fun xq =>
  W (8 * g + 7) (by omega) a fun a =>
  k a (accStep acc (dotOf xq p0 p1 p2 p3 p4 p5 p6 p7))

/-- Groups `g` to `g + n - 1`. -/
def groups (W : Next F α) (so : ℕ) (hso : so < 2) (inv : Vec F S1x256 .f32) : (n g : ℕ) → g + n ≤ 14 → Amax F → Acc F → (Amax F → Acc F → P F α) → P F α
  | 0, _, _, a, acc, k => k a acc
  | n + 1, g, h, a, acc, k => group W so hso inv g (by omega) a acc fun a acc => groups W so hso inv n (g + 1) (by omega) a acc k

/-- The scales, their inverses and row `i` of the block scales written. -/
def putScale (s : FVec F S1x256 .f32) (i : ℕ) (h : i < 74) (k : P F α) : P F α :=
  .op (.load mScale rRow.toLoadRect (View.loadsAt_vmem h_S1x256)) fun _ =>
  .op (.store mScale rRow (shapeCast S1x256 s shapeCasts_S1x256_S1x256) Finset.univ (View.stores_vmem_bits_univ h_S1x256 rfl) (.inl rfl)) fun _ =>
  .op (.load mInv rRow.toLoadRect (View.loadsAt_vmem h_S1x256)) fun _ =>
  .op (.store mInv rRow (shapeCast S1x256 (invOf s) shapeCasts_S1x256_S1x256) Finset.univ (View.stores_vmem_bits_univ h_S1x256 rfl) (.inl rfl)) fun _ =>
  .op (.load mWsc (rWsc i h).toLoadRect (View.loadsAt_vmem h_S1x256)) fun _ =>
  .op (.store mWsc (rWsc i h) s Finset.univ (View.stores_vmem_bits_univ h_S1x256 rfl) (.inl rfl)) fun _ => k

/-- A block of the product written to slot `so` of its ring. -/
def putY (so : ℕ) (hso : so < 2) (acc : Acc F) (scale : Vec F S1x256 .f32) (k : P F α) : P F α :=
  .op (.load mXsb rXsb.toLoadRect (View.loadsAt_vmem h_S256x128)) fun xs =>
  .op (.load mYr (rYr so hso).toLoadRect (View.loadsAt_vmem h_S1x256x256)) fun _ =>
  .op (.store mYr (rYr so hso) (shapeCast S1x256x256 (yOf acc xs scale) shapeCasts_S256x256_S1x256x256) Finset.univ
    (View.stores_vmem h_S1x256x256 (View.storeExact_slice_whole_of_packedRows cc0_scratch9 rfl _ (packed_rYr so hso)) (fun _ => rfl)) (.inl rfl)) fun _ => k

/-! ## The copies -/

/-- A block of weights, of codes, or of the product in the arrays: 256 columns from column `o` on. -/
abbrev rBig (o : ℕ) (h : o + 256 ≤ 18944) : Rect S3584x18944 :=
  Rect.unit (s := S3584x18944) ![0, o] S3584x256.size (forall2 (by show 0 + 3584 ≤ 3584; omega) h)
@[inherit_doc rBig] abbrev rBigY (o : ℕ) (h : o + 256 ≤ 18944) : Rect S256x18944 :=
  Rect.unit (s := S256x18944) ![0, o] S256x256.size (forall2 (by show 0 + 256 ≤ 256; omega) h)
abbrev rWrS (sl : ℕ) (hs : sl < 6) : Rect S6x3584x256 :=
  Rect.unit (s := S6x3584x256) ![sl, 0, 0] S1x3584x256.size (forall3 (by show sl + 1 ≤ 6; omega) (by show 0 + 3584 ≤ 3584; omega) (by show 0 + 256 ≤ 256; omega))
abbrev rCrS (so : ℕ) (hs : so < 2) : Rect S2x3584x256 :=
  Rect.unit (s := S2x3584x256) ![so, 0, 0] S1x3584x256.size (forall3 (by show so + 1 ≤ 2; omega) (by show 0 + 3584 ≤ 3584; omega) (by show 0 + 256 ≤ 256; omega))
abbrev wBlk (o : ℕ) (h : o + 256 ≤ 18944) : Memref sig .tc .hbm S3584x256 .bf16 := mW.slice (rBig o h) (fun _ => rfl)
abbrev cBlk (o : ℕ) (h : o + 256 ≤ 18944) : Memref sig .tc .hbm S3584x256 .i8 := mC.slice (rBig o h) (fun _ => rfl)
abbrev yBlk (o : ℕ) (h : o + 256 ≤ 18944) : Memref sig .tc .hbm S256x256 .bf16 := mY.slice (rBigY o h) (fun _ => rfl)
abbrev wSlot (sl : ℕ) (hs : sl < 6) : Memref sig .tc .vmem S3584x256 .bf16 := (mWr.slice (rWrS sl hs) (fun _ => rfl)).squeeze S3584x256 squeezes_S1x3584x256_S3584x256
abbrev cSlot (so : ℕ) (hs : so < 2) : Memref sig .tc .vmem S3584x256 .i8 := (mCr.slice (rCrS so hs) (fun _ => rfl)).squeeze S3584x256 squeezes_S1x3584x256_S3584x256
abbrev ySlot (so : ℕ) (hs : so < 2) : Memref sig .tc .vmem S256x256 .bf16 := (mYr.slice (rYr so hs) (fun _ => rfl)).squeeze S256x256 squeezes_S1x256x256_S256x256
abbrev wSem (sl : ℕ) (hs : sl < 6) : DmaSem sig :=
  ((cc0_scratch11.slice (Rect.unit (s := S6) ![sl] S1.size (fun a => by match a with | 0 => show sl + 1 ≤ 6; omega))).squeeze S_ squeezes_S1_S_).sem
abbrev cSem (so : ℕ) (hs : so < 2) : DmaSem sig :=
  ((cc0_scratch12.slice (Rect.unit (s := S2) ![so] S1.size (fun a => by match a with | 0 => show so + 1 ≤ 2; omega))).squeeze S_ squeezes_S1_S_).sem
abbrev ySem (so : ℕ) (hs : so < 2) : DmaSem sig :=
  ((cc0_scratch13.slice (Rect.unit (s := S2) ![so] S1.size (fun a => by match a with | 0 => show so + 1 ≤ 2; omega))).squeeze S_ squeezes_S1_S_).sem

theorem we_wBlk (o : ℕ) (h : o + 256 ≤ 18944) : (wBlk o h).view.WordExact :=
  View.wordExact_slice_whole_of_packedRows main_arg1 rfl _ (.inr ⟨by decide, rfl, .inl ⟨⟨0, rfl⟩, ⟨1792, rfl⟩⟩⟩)
theorem we_cBlk (o : ℕ) (h : o + 256 ≤ 18944) : (cBlk o h).view.WordExact :=
  View.wordExact_slice_whole_of_packedRows main_v2_2 rfl _ (.inr ⟨by decide, rfl, .inl ⟨⟨0, rfl⟩, ⟨896, rfl⟩⟩⟩)
theorem we_yBlk (o : ℕ) (h : o + 256 ≤ 18944) : (yBlk o h).view.WordExact :=
  View.wordExact_slice_whole_of_packedRows main_v2_0 rfl _ (.inr ⟨by decide, rfl, .inl ⟨⟨0, rfl⟩, ⟨128, rfl⟩⟩⟩)
theorem we_wSlot (sl : ℕ) (hs : sl < 6) : (wSlot sl hs).view.WordExact :=
  (View.wordExact_slice_whole_of_packedRows cc0_scratch7 rfl (rWrS sl hs) (.inr ⟨by decide, rfl, .inl ⟨⟨0, rfl⟩, ⟨1792, rfl⟩⟩⟩)).reshape _ _
theorem we_cSlot (so : ℕ) (hs : so < 2) : (cSlot so hs).view.WordExact :=
  (View.wordExact_slice_whole_of_packedRows cc0_scratch8 rfl (rCrS so hs) (.inr ⟨by decide, rfl, .inl ⟨⟨0, rfl⟩, ⟨896, rfl⟩⟩⟩)).reshape _ _
theorem we_ySlot (so : ℕ) (hs : so < 2) : (ySlot so hs).view.WordExact :=
  (View.wordExact_slice_whole_of_packedRows cc0_scratch9 rfl (rYr so hs) (.inr ⟨by decide, rfl, .inl ⟨⟨0, rfl⟩, ⟨128, rfl⟩⟩⟩)).reshape _ _

/-- A copy started. -/
def startW (sl : ℕ) (hs : sl < 6) (o : ℕ) (h : o + 256 ≤ 18944) (k : P F α) : P F α :=
  .op (.enqueueDma (wBlk o h) (.here (wSlot sl hs)) (.dma (wSem sl hs)) (we_wBlk o h) (we_wSlot sl hs) ⟨Or.inl rfl, trivial⟩) fun _ => k
@[inherit_doc startW] def startC (so : ℕ) (hs : so < 2) (o : ℕ) (h : o + 256 ≤ 18944) (k : P F α) : P F α :=
  .op (.enqueueDma (cSlot so hs) (.here (cBlk o h)) (.dma (cSem so hs)) (we_cSlot so hs) (we_cBlk o h) ⟨Or.inl rfl, trivial⟩) fun _ => k
@[inherit_doc startW] def startY (so : ℕ) (hs : so < 2) (o : ℕ) (h : o + 256 ≤ 18944) (k : P F α) : P F α :=
  .op (.enqueueDma (ySlot so hs) (.here (yBlk o h)) (.dma (ySem so hs)) (we_ySlot so hs) (we_yBlk o h) ⟨Or.inl rfl, trivial⟩) fun _ => k

/-- A copy waited for. -/
def waitW (sl : ℕ) (hs : sl < 6) (o : ℕ) (h : o + 256 ≤ 18944) (k : P F α) : P F α :=
  .op (.waitDma2 (wSem sl hs) (wBlk o h) (wSlot sl hs) (we_wBlk o h) (we_wSlot sl hs)) fun _ => k
@[inherit_doc waitW] def waitC (so : ℕ) (hs : so < 2) (o : ℕ) (h : o + 256 ≤ 18944) (k : P F α) : P F α :=
  .op (.waitDma2 (cSem so hs) (cSlot so hs) (cBlk o h) (we_cSlot so hs) (we_cBlk o h)) fun _ => k
@[inherit_doc waitW] def waitY (so : ℕ) (hs : so < 2) (o : ℕ) (h : o + 256 ≤ 18944) (k : P F α) : P F α :=
  .op (.waitDma2 (ySem so hs) (ySlot so hs) (yBlk o h) (we_ySlot so hs) (we_yBlk o h)) fun _ => k

/-! ## The activations -/

/-- The smoothing factors of 128 columns computed and written. -/
def colPart (c : ℕ) (h : c < 28) (k : P F α) : P F α :=
  .op (.load mXv (rXcol c h).toLoadRect (View.loadsAt_vmem h_S256x128)) fun xv =>
  .op (.load mWabs (rS c h).toLoadRect (View.loadsAt_vmem h_S1x128)) fun wa =>
  .op (.load mS (rS c h).toLoadRect (View.loadsAt_vmem h_S1x128)) fun _ =>
  .op (.store mS (rS c h) (sOf xv wa) Finset.univ (View.stores_vmem_bits_univ h_S1x128 rfl) (.inl rfl)) fun _ =>
  .op (.load mSb (rSbBlk c h).toLoadRect (View.loadsAt_vmem h_S128x128)) fun _ =>
  .op (.store mSb (rSbBlk c h) (shapeCast S128x128 (sbOf (sOf xv wa)) shapeCasts_S128x128_S128x128) Finset.univ (View.stores_vmem_bits_univ h_S128x128 rfl) (.inl rfl)) fun _ => k

/-- Columns' chunks `c` to 27. -/
def colRun : (n c : ℕ) → c + n = 28 → P F α → P F α
  | 0, _, _, k => k
  | n + 1, c, h, k => colPart c (by omega) (colRun n (c + 1) (by omega) k)

/-- 32 rows of the activations smoothed and turned into codes. -/
def rowPart (c : ℕ) (h : c < 8) (k : P F α) : P F α :=
  .op (.load mXv (rXrow c h).toLoadRect (View.loadsAt_vmem h_S32x3584)) fun xv =>
  .op (.load mS rSall.toLoadRect (View.loadsAt_vmem h_S1x3584)) fun s =>
  .op (.load mXc (rXrow c h).toLoadRect (View.loadsAt_vmem h_S32x3584)) fun _ =>
  .op (.store mXc (rXrow c h) (xCodesOf (xsOf xv s)) Finset.univ
    (View.stores_vmem h_S32x3584 (View.storeExact_slice_whole_of_packedRows cc0_stg3_0 rfl _ (packed_rXrow_i8 c h)) (fun _ => rfl)) (.inl rfl)) fun _ =>
  .op (.load mXq (rXrow c h).toLoadRect (View.loadsAt_vmem h_S32x3584)) fun _ =>
  .op (.store mXq (rXrow c h) (shapeCast S32x3584 (sitofp .bf16 (xCodesOf (xsOf xv s)) : FVec F S32x3584 .bf16) shapeCasts_S32x3584_S32x3584) Finset.univ
    (View.stores_vmem h_S32x3584 (View.storeExact_slice_whole_of_packedRows cc0_scratch1 rfl _ (packed_rXrow_bf16 c h)) (fun _ => rfl)) (.inl rfl)) fun _ =>
  .op (.load mXsb (rXsbRow c h).toLoadRect (View.loadsAt_vmem h_S32x128)) fun _ =>
  .op (.store mXsb (rXsbRow c h) (shapeCast S32x128 (broadcastTo S32x128 (shapeCast S32x1 (xScaleOf (xsOf xv s)) shapeCasts_S32x1_S32x1) broadcasts_S32x1_S32x128) shapeCasts_S32x128_S32x128)
    Finset.univ (View.stores_vmem_bits_univ h_S32x128 rfl) (.inl rfl)) fun _ => k

/-- Rows' chunks `c` to 7. -/
def rowRun : (n c : ℕ) → c + n = 8 → P F α → P F α
  | 0, _, _, k => k
  | n + 1, c, h, k => rowPart c (by omega) (rowRun n (c + 1) (by omega) k)

/-- The scales of 128 rows of the activations written along the lanes. -/
def xscPart (c : ℕ) (h : c < 2) (k : P F α) : P F α :=
  .op (.load mXsb (rXsbBlk c h).toLoadRect (View.loadsAt_vmem h_S128x128)) fun v =>
  .op (.load mXsc (rXsc c h).toLoadRect (View.loadsAt_vmem h_S1x128)) fun _ =>
  .op (.store mXsc (rXsc c h) (extractStridedSlice S1x128 ![0, 0] (transpose S128x128 [1, 0] v transposes_S128x128_p1_0_S128x128) slices_S128x128_o0_0_S1x128) Finset.univ
    (View.stores_vmem_bits_univ h_S1x128 rfl) (.inl rfl)) fun _ => k

/-! ## The whole body -/

/-- Everything before the loop. -/
def pre (k : P F α) : P F α :=
  .op (.enqueueDma mX (.here mXv) (.dma cc0_scratch10.sem) (Memref.isWhole_whole _).wordExact (Memref.isWhole_whole _).wordExact ⟨Or.inl rfl, trivial⟩) fun _ =>
  startW 0 (by omega) 0 (by omega) <| startW 1 (by omega) 256 (by omega) <| startW 2 (by omega) 512 (by omega) <|
  startW 3 (by omega) 768 (by omega) <| startW 4 (by omega) 1024 (by omega) <|
  .op (.waitDma2 cc0_scratch10.sem mX mXv (Memref.isWhole_whole _).wordExact (Memref.isWhole_whole _).wordExact) fun _ =>
  colRun 28 0 rfl <| rowRun 8 0 rfl <| xscPart 0 (by omega) <| xscPart 1 (by omega) <|
  waitW 0 (by omega) 0 (by omega) <| startW 5 (by omega) 1280 (by omega) <|
  wRun 0 (by omega) 112 0 rfl none fun a => putScale (scaleOf a) 0 (by omega) k

/-- What follows the copies at the start of a step `i` of the loop: the block before turned into codes, multiplied and
    sent, the block itself scaled. -/
def stepRest (so : ℕ) (hso : so < 2) (sl : ℕ) (hsl : sl < 6) (so' : ℕ) (hso' : so' < 2) (o : ℕ) (ho : o + 256 ≤ 18944) (i : ℕ) (hi : i < 74) (k : P F α) : P F α :=
  .op (.load mInv rRow.toLoadRect (View.loadsAt_vmem h_S1x256)) fun inv =>
  .op (.load mScale rRow.toLoadRect (View.loadsAt_vmem h_S1x256)) fun scale =>
  groups (wPart sl hsl) so hso inv 14 0 (by omega) none none fun a acc =>
  putY so hso acc scale <| startC so' hso' o ho <| startY so' hso' o ho <| putScale (scaleOf a) i hi k

/-- Everything after the loop. -/
def post : P F :=
  waitC 0 (by omega) 18176 (by omega) <| waitY 0 (by omega) 18176 (by omega) <|
  .op (.load mInv rRow.toLoadRect (View.loadsAt_vmem h_S1x256)) fun inv =>
  .op (.load mScale rRow.toLoadRect (View.loadsAt_vmem h_S1x256)) fun scale =>
  groups noNext 0 (by omega) inv 14 0 (by omega) none none fun _ acc =>
  putY 0 (by omega) acc scale <| startC 0 (by omega) 18688 (by omega) <| startY 0 (by omega) 18688 (by omega) <|
  waitC 1 (by omega) 18432 (by omega) <| waitY 1 (by omega) 18432 (by omega) <|
  waitC 0 (by omega) 18688 (by omega) <| waitY 0 (by omega) 18688 (by omega) <| .ret ⟨⟩

end Cert.Kernel.Model

end
-- ==== Proof.Spec.lean ====
/- What the kernel computes, as functions of its three arrays: the smoothing factors, the activations' codes and scales,
   every block's scaled weights, scales, codes and product, and the arrays these are written to. -/
module

public import proofs.«01_k».proof.Proof.Model
public import Idealize.ShloMosaic.Lib.ValueIdx

@[expose] public section

noncomputable section

namespace Cert.Kernel.Model

open Idealize.ShloMosaic Idealize.ShloMosaic.TcCoe
open Idealize.SL Idealize.SL.Sem
open Cert.Kernel Cert.Kernel.Gen
open Idealize.ShloMosaic.ValueIdx (ix1 ix2 ix3)

/-! ## Arrays made of blocks of rows or columns -/

section
variable {α : Type}

/-- An array made of blocks of `k` rows. -/
def glue0 (k n m N : ℕ) (hk : 0 < k) (hm : m ≤ k * N) (ch : (c : ℕ) → c < N → (⟨2, ![k, n]⟩ : Shape).Idx → α) :
    (⟨2, ![m, n]⟩ : Shape).Idx → α := fun j =>
  ch ((j 0).val / k) (Nat.div_lt_of_lt_mul (lt_of_lt_of_le (j 0).isLt hm)) (ix2 ⟨(j 0).val % k, Nat.mod_lt _ hk⟩ (j 1))

/-- An array made of blocks of `k` columns. -/
def glue1 (k n m N : ℕ) (hk : 0 < k) (hm : m ≤ k * N) (ch : (c : ℕ) → c < N → (⟨2, ![n, k]⟩ : Shape).Idx → α) :
    (⟨2, ![n, m]⟩ : Shape).Idx → α := fun j =>
  ch ((j 1).val / k) (Nat.div_lt_of_lt_mul (lt_of_lt_of_le (j 1).isLt hm)) (ix2 (j 0) ⟨(j 1).val % k, Nat.mod_lt _ hk⟩)

/-- A piece read at equal places. -/
theorem ch_congr {N : ℕ} {s : Shape} (ch : (c : ℕ) → c < N → s.Idx → α) {c c' : ℕ} {h : c < N} {h' : c' < N} {x x' : s.Idx}
    (e : c = c') (ex : x = x') : ch c h x = ch c' h' x' := by subst e ex; rfl

/-- Two indices of a matrix with equal coordinates are equal. -/
theorem ext2 {m n : ℕ} {i j : (⟨2, ![m, n]⟩ : Shape).Idx} (h0 : (i 0).val = (j 0).val) (h1 : (i 1).val = (j 1).val) : i = j :=
  funext fun a => by
    match a with
    | 0 => exact Fin.ext h0
    | 1 => exact Fin.ext h1

@[inherit_doc ext2] theorem ext3 {l m n : ℕ} {i j : (⟨3, ![l, m, n]⟩ : Shape).Idx} (h0 : (i 0).val = (j 0).val) (h1 : (i 1).val = (j 1).val)
    (h2 : (i 2).val = (j 2).val) : i = j :=
  funext fun a => by
    match a with
    | 0 => exact Fin.ext h0
    | 1 => exact Fin.ext h1
    | 2 => exact Fin.ext h2

/-- An array made of blocks of rows, read in block `c`. -/
theorem glue0_apply {k n m N : ℕ} (hk : 0 < k) (hm : m ≤ k * N) (ch : (c : ℕ) → c < N → (⟨2, ![k, n]⟩ : Shape).Idx → α)
    {c : ℕ} (h : c < N) (x : (⟨2, ![k, n]⟩ : Shape).Idx) (j : (⟨2, ![m, n]⟩ : Shape).Idx)
    (h0 : (j 0).val = k * c + (x 0).val) (h1 : (j 1).val = (x 1).val) : glue0 k n m N hk hm ch j = ch c h x := by
  have hx : (x 0).val < k := (x 0).isLt
  refine ch_congr ch ?_ (ext2 ?_ h1)
  · rw [h0, Nat.mul_add_div hk, Nat.div_eq_of_lt hx, Nat.add_zero]
  · show (j 0).val % k = _
    rw [h0, Nat.mul_add_mod, Nat.mod_eq_of_lt hx]

/-- An array made of blocks of columns, read in block `c`. -/
theorem glue1_apply {k n m N : ℕ} (hk : 0 < k) (hm : m ≤ k * N) (ch : (c : ℕ) → c < N → (⟨2, ![n, k]⟩ : Shape).Idx → α)
    {c : ℕ} (h : c < N) (x : (⟨2, ![n, k]⟩ : Shape).Idx) (j : (⟨2, ![n, m]⟩ : Shape).Idx)
    (h1 : (j 1).val = k * c + (x 1).val) (h0 : (j 0).val = (x 0).val) : glue1 k n m N hk hm ch j = ch c h x := by
  have hx : (x 1).val < k := (x 1).isLt
  refine ch_congr ch ?_ (ext2 h0 ?_)
  · rw [h1, Nat.mul_add_div hk, Nat.div_eq_of_lt hx, Nat.add_zero]
  · show (j 1).val % k = _
    rw [h1, Nat.mul_add_mod, Nat.mod_eq_of_lt hx]

/-- An array whose blocks of rows are given is the array made of them. -/
theorem eq_glue0 {k n m N : ℕ} (hk : 0 < k) (hm : m ≤ k * N) (ch : (c : ℕ) → c < N → (⟨2, ![k, n]⟩ : Shape).Idx → α)
    (f : (⟨2, ![m, n]⟩ : Shape).Idx → α) (E : (c : ℕ) → c < N → (⟨2, ![k, n]⟩ : Shape).Idx → (⟨2, ![m, n]⟩ : Shape).Idx)
    (hf : ∀ c h x, f (E c h x) = ch c h x) (h0 : ∀ c h x, (E c h x 0).val = k * c + (x 0).val)
    (h1 : ∀ c h x, (E c h x 1).val = (x 1).val) : f = glue0 k n m N hk hm ch := funext fun j => by
  unfold glue0
  rw [← hf]
  refine congrArg f (ext2 ?_ ?_)
  · rw [h0]; exact (Nat.div_add_mod _ _).symm
  · refine ((h1 _ _ _).trans ?_).symm; rfl

@[inherit_doc eq_glue0] theorem eq_glue1 {k n m N : ℕ} (hk : 0 < k) (hm : m ≤ k * N) (ch : (c : ℕ) → c < N → (⟨2, ![n, k]⟩ : Shape).Idx → α)
    (f : (⟨2, ![n, m]⟩ : Shape).Idx → α) (E : (c : ℕ) → c < N → (⟨2, ![n, k]⟩ : Shape).Idx → (⟨2, ![n, m]⟩ : Shape).Idx)
    (hf : ∀ c h x, f (E c h x) = ch c h x) (h1 : ∀ c h x, (E c h x 1).val = k * c + (x 1).val)
    (h0 : ∀ c h x, (E c h x 0).val = (x 0).val) : f = glue1 k n m N hk hm ch := funext fun j => by
  unfold glue1
  rw [← hf]
  refine congrArg f (ext2 ?_ ?_)
  · refine ((h0 _ _ _).trans ?_).symm; rfl
  · rw [h1]; exact (Nat.div_add_mod _ _).symm

end

/-! ## The values -/

variable {F : FTy → Type} [FloatOps F] (X : Vec F S256x3584 .bf16) (W : Vec F S3584x18944 .bf16) (A : Vec F S1x3584 .f32)

/-- The smoothing factors of 128 columns. -/
def sCh (c : ℕ) (h : c < 28) : FVec F S1x128 .f32 :=
  sOf (fun x => X ((rXcol c h).emb x)) (fun x => A ((rS c h).emb x))
/-- All smoothing factors. -/
def sAll : Vec F S1x3584 .f32 := glue1 128 1 3584 28 (by omega) (by omega) (sCh X A)
/-- The smoothing factors repeated along the lanes. -/
def sbAll : Vec F S3584x128 .f32 :=
  glue0 128 128 3584 28 (by omega) (by omega) fun c h => shapeCast S128x128 (sbOf (sCh X A c h)) shapeCasts_S128x128_S128x128
/-- 32 rows of the activations over the smoothing factors. -/
def xsCh (c : ℕ) (h : c < 8) : FVec F S32x3584 .f32 :=
  xsOf (fun x => X ((rXrow c h).emb x)) (fun x => sAll X A (rSall.emb x))
/-- The activations' codes. -/
def xcAll : Vec F S256x3584 .i8 := glue0 32 3584 256 8 (by omega) (by omega) fun c h => xCodesOf (xsCh X A c h)
/-- The activations' codes as bf16. -/
def xqAll : Vec F S256x3584 .bf16 := glue0 32 3584 256 8 (by omega) (by omega) fun c h =>
  shapeCast S32x3584 (sitofp .bf16 (xCodesOf (xsCh X A c h)) : FVec F S32x3584 .bf16) shapeCasts_S32x3584_S32x3584
/-- The activations' scales repeated along the lanes. -/
def xsbAll : Vec F S256x128 .f32 := glue0 32 128 256 8 (by omega) (by omega) fun c h =>
  shapeCast S32x128 (broadcastTo S32x128 (shapeCast S32x1 (xScaleOf (xsCh X A c h)) shapeCasts_S32x1_S32x1) broadcasts_S32x1_S32x128) shapeCasts_S32x128_S32x128
/-- The activations' scales, 128 to a row. -/
def xscAll : Vec F S2x128 .f32 := glue0 1 128 2 2 (by omega) (by omega) fun c h =>
  extractStridedSlice S1x128 ![0, 0] (transpose S128x128 [1, 0] (fun x => xsbAll X A ((rXsbBlk c h).emb x)) transposes_S128x128_p1_0_S128x128) slices_S128x128_o0_0_S1x128

/-- A chunk of 32 rows of a block of the weights. -/
def wvCh (i : ℕ) (hi : i < 74) (r : ℕ) (h : r < 112) : Vec F S1x32x256 .bf16 := fun x =>
  W (ix2 ⟨32 * r + (x 1).val, by have h : (x 1).val < 32 := (x 1).isLt; omega⟩
    ⟨256 * i + (x 2).val, by have h : (x 2).val < 256 := (x 2).isLt; omega⟩)
/-- The chunk scaled. -/
def wsCh (i : ℕ) (hi : i < 74) (r : ℕ) (h : r < 112) : FVec F S32x256 .f32 :=
  wsOf (wvCh W i hi r h) (fun x => sbAll X A ((rSb r h).emb x))
/-- The scaled chunk as written. -/
def wsSt (i : ℕ) (hi : i < 74) (r : ℕ) (h : r < 112) : FVec F S32x256 .f32 :=
  shapeCast S32x256 (wsCh X W A i hi r h) shapeCasts_S32x256_S32x256
/-- A block's running maxima after `n` chunks. -/
def amaxSt (i : ℕ) (hi : i < 74) : (n : ℕ) → n ≤ 112 → Amax F
  | 0, _ => none
  | n + 1, h => amaxStep (amaxSt i hi n (by omega)) (wsCh X W A i hi n h)
/-- A block's scales. -/
def scaleB (i : ℕ) (hi : i < 74) : FVec F S1x256 .f32 := scaleOf (amaxSt X W A i hi 112 (Nat.le_refl _))
/-- A block's scales and their inverses as written. -/
def scaleSt (i : ℕ) (hi : i < 74) : FVec F S1x256 .f32 := shapeCast S1x256 (scaleB X W A i hi) shapeCasts_S1x256_S1x256
@[inherit_doc scaleSt] def invSt (i : ℕ) (hi : i < 74) : FVec F S1x256 .f32 := shapeCast S1x256 (invOf (scaleB X W A i hi)) shapeCasts_S1x256_S1x256
/-- All blocks' scales. -/
def wscAll : Vec F S74x256 .f32 := glue0 1 256 74 74 (by omega) (by omega) (scaleB X W A)
/-- A chunk of a block's codes. -/
def codes (i : ℕ) (hi : i < 74) (r : ℕ) (h : r < 112) : IVec S32x256 8 := codesOf (wsSt X W A i hi r h) (invSt X W A i hi)
/-- One product of 256 rows of a block's codes. -/
def dotG (i : ℕ) (hi : i < 74) (g : ℕ) (h : g < 14) : FVec F S256x256 .f32 :=
  dotOf (fun x => xqAll X A ((rXq g h).emb x)) (codes X W A i hi (8 * g) (by omega)) (codes X W A i hi (8 * g + 1) (by omega))
    (codes X W A i hi (8 * g + 2) (by omega)) (codes X W A i hi (8 * g + 3) (by omega)) (codes X W A i hi (8 * g + 4) (by omega))
    (codes X W A i hi (8 * g + 5) (by omega)) (codes X W A i hi (8 * g + 6) (by omega)) (codes X W A i hi (8 * g + 7) (by omega))
/-- A block's running sum after `n` products. -/
def accSt (i : ℕ) (hi : i < 74) : (n : ℕ) → n ≤ 14 → Acc F
  | 0, _ => none
  | n + 1, h => accStep (accSt i hi n (by omega)) (dotG X W A i hi n h)
/-- A block of the product. -/
def yB (i : ℕ) (hi : i < 74) : FVec F S256x256 .bf16 :=
  yOf (accSt X W A i hi 14 (Nat.le_refl _)) (fun x => xsbAll X A (rXsb.emb x)) (scaleSt X W A i hi)
/-- A block's codes. -/
def cB (i : ℕ) (hi : i < 74) : Vec F S3584x256 .i8 := glue0 32 256 3584 112 (by omega) (by omega) (codes X W A i hi)
/-- The product. -/
def yG : Vec F S256x18944 .bf16 := glue1 256 256 18944 74 (by omega) (by omega) (yB X W A)
/-- The weights' codes. -/
def cG : Vec F S3584x18944 .i8 := glue1 256 3584 18944 74 (by omega) (by omega) (cB X W A)

end Cert.Kernel.Model

end
-- ==== Proof.Access.lean ====
/- Reads and writes of one buffer of the kernel, and the parts of it that a copy holds: loads and stores through a
   rectangle, stated by what the buffer holds afterwards at every index, and the splitting of a buffer into blocks. -/
module

public import proofs.«01_k».proof.Proof.Spec
public import proofs.«01_k».proof.Proof.Gen.Kernel.Launch
public import Idealize.ShloMosaic.Lib.Pipeline.FrameBody
public import Idealize.ShloMosaic.Lib.Ring
public import Idealize.ShloMosaic.Lib.Pipeline.Value
public import Idealize.ShloMosaic.Lib.Tactic

@[expose] public section

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (Pipeline.UD sig nD τ) ℕ

/-! ## One access -/

section
variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V)
local notation "𝕄'" => MT nD τ sig Ix Val Name U Lvl
variable {α : Type} {cs : CoreSpace} {s : Shape} {e : EltTy} {m : Memref sig c.2.kind cs s e} {r : Rect s}
  {S : Finset (Idx (m.view.loc c))} {f : Buf Val (m.view.loc c)}

/-- A load through a rectangle reads the buffer's elements there. -/
theorem wp_ld {hl : m.view.LoadsAt r.toLoadRect} {k : (r.shape.Idx → Val e) → Prog (TpuEff nD τ sig Val Λ c.2) α} {Q : α → sProp 𝕄'}
    (hS : ∀ x, (m.access r).emb x ∈ S) (v : r.shape.Idx → Val e) (hv : (m.access r).read Val f = v) :
    (m.view.loc c ↦[S]{fullShare} f : sProp 𝕄') ⊢ iprop(((m.view.loc c ↦[S]{fullShare} f) -∗ wp frame (wpE defs 𝒱 c bd) Set.univ (k v) Q)
      -∗ wp frame (wpE defs 𝒱 c bd) Set.univ (.op (.load m r.toLoadRect hl) k) Q) := by
  subst hv
  refine wp_load_rect (Ix := Ix) (Name := Name) (U := U) (Lvl := Lvl) (defs := defs) (hl := hl) (k := k) (Q := Q) (f := f) 𝒱 c bd Set.univ ?_
  intro i hi
  obtain ⟨x, -, rfl⟩ := Finset.mem_map.mp hi
  exact hS x

/-- A store through a rectangle leaves its values there and the other elements unchanged. -/
theorem wp_st {w : r.shape.Idx → Val e} {hx : (m.access r).Stores Finset.univ} {hm : (Finset.univ : Finset r.shape.Idx) = Finset.univ ∨ ∀ a, r.stride a = 1}
    {k : PUnit → Prog (TpuEff nD τ sig Val Λ c.2) α} {Q : α → sProp 𝕄'} (hS : ∀ x, (m.access r).emb x ∈ S) :
    (m.view.loc c ↦[S]{fullShare} f : sProp 𝕄') ⊢ iprop((∀ f' : Buf Val (m.view.loc c), ⌜(∀ x, f' ((m.access r).emb x) = cast (congrArg Val (m.access r).elt_eq.symm) (w x))
        ∧ ∀ i, (∀ x, (m.access r).emb x ≠ i) → f' i = f i⌝ -∗ (m.view.loc c ↦[S]{fullShare} f') -∗ wp frame (wpE defs 𝒱 c bd) Set.univ (k ⟨⟩) Q)
      -∗ wp frame (wpE defs 𝒱 c bd) Set.univ (.op (.store m r w Finset.univ hx hm) k) Q) := by
  have hS' : (m.access r).setOn Finset.univ ⊆ S := by
    rw [View.setOn_univ]
    intro i hi
    obtain ⟨x, -, rfl⟩ := Finset.mem_map.mp hi
    exact hS x
  refine (wp_store (Ix := Ix) (Name := Name) (U := U) (Lvl := Lvl) (defs := defs) (hx := hx) (hm := hm) (k := k) (Q := Q) (f := f) 𝒱 c bd Set.univ hS').trans (wand_mono_left ?_)
  iintro Hk H
  iapply Hk $$ %((m.access r).write Val f w Finset.univ) []
  · ipureintro
    refine ⟨fun x => View.write_emb_of_mem _ _ (Finset.mem_univ _), fun i hi => View.write_of_not_mem _ _ _ ?_⟩
    rw [View.setOn_univ]
    intro h
    obtain ⟨x, -, h⟩ := Finset.mem_map.mp h
    exact hi x h
  iexact H

end

/-! ## One core -/

variable (c : Dev nD)

/-- The elements `S` of a buffer held in full with contents `f`. -/
abbrev O {sp : Space} {s : Shape} {e : EltTy} (m : Memref sig .tc sp s e) (S : Finset (Idx (m.view.loc (c : Thread nD τ))))
    (f : Buf (Elt F) (m.view.loc (c : Thread nD τ))) : sProp 𝕄 :=
  m.view.loc (c : Thread nD τ) ↦[S]{fullShare} f

/-- The kernel's program judgement. -/
abbrev Wp {α : Type} (p : P F α) (Q : α → sProp 𝕄) : sProp 𝕄 :=
  wp frame (wpE (defs₀ (F := F)) Variants.none (c : Thread nD τ) none) Set.univ p Q

/-- Elements of two rectangles that differ in a coordinate differ. -/
theorem emb_ne {s : Shape} {r r' : Rect s} (a : Fin s.rank) {x : r.shape.Idx} {y : r'.shape.Idx}
    (h : (r.emb x a).val ≠ (r'.emb y a).val) : r.emb x ≠ r'.emb y := fun e => h (by rw [e])

/-! ## Blocks of a buffer along one axis -/

section
variable {s : Shape} (a : Fin s.rank) (k : ℕ)

/-- The indices of block `n` of `k` along axis `a`, of the blocks before it, and of it and those after. -/
def blk (n : ℕ) : Finset s.Idx := Finset.univ.filter fun i => k * n ≤ (i a).val ∧ (i a).val < k * (n + 1)
@[inherit_doc blk] def lo (n : ℕ) : Finset s.Idx := Finset.univ.filter fun i => (i a).val < k * n
@[inherit_doc blk] def hi (n : ℕ) : Finset s.Idx := Finset.univ.filter fun i => k * n ≤ (i a).val

theorem mem_blk {n : ℕ} {i : s.Idx} : i ∈ blk a k n ↔ k * n ≤ (i a).val ∧ (i a).val < k * (n + 1) := by simp [blk]
theorem mem_lo {n : ℕ} {i : s.Idx} : i ∈ lo a k n ↔ (i a).val < k * n := by simp [lo]
theorem mem_hi {n : ℕ} {i : s.Idx} : i ∈ hi a k n ↔ k * n ≤ (i a).val := by simp [hi]

theorem hi_zero : hi a k 0 = Finset.univ := by ext i; simp [mem_hi]
theorem lo_zero : lo a k 0 = ∅ := by ext i; simp [mem_lo]
theorem hi_top {n : ℕ} (h : s.size a ≤ k * n) : hi a k n = ∅ := by
  ext i; have : (i a).val < s.size a := (i a).isLt; simp only [mem_hi, Finset.notMem_empty, iff_false]; omega
theorem lo_top {n : ℕ} (h : s.size a ≤ k * n) : lo a k n = Finset.univ := by
  ext i; have : (i a).val < s.size a := (i a).isLt; simp only [mem_lo, Finset.mem_univ, iff_true]; omega
theorem hi_eq (n : ℕ) : hi a k n = blk a k n ∪ hi a k (n + 1) := by
  ext i; rw [Finset.mem_union, mem_hi, mem_blk, mem_hi]
  have : k * n ≤ k * (n + 1) := Nat.mul_le_mul_left _ (Nat.le_succ _)
  omega
theorem lo_eq (n : ℕ) : lo a k (n + 1) = lo a k n ∪ blk a k n := by
  ext i; rw [Finset.mem_union, mem_lo, mem_blk, mem_lo]
  have : k * n ≤ k * (n + 1) := Nat.mul_le_mul_left _ (Nat.le_succ _)
  omega
theorem blk_hi (n : ℕ) : Disjoint (blk a k n) (hi a k (n + 1)) := Finset.disjoint_left.mpr fun i h h' => by
  rw [mem_blk] at h; rw [mem_hi] at h'; omega
theorem lo_blk (n : ℕ) : Disjoint (lo a k n) (blk a k n) := Finset.disjoint_left.mpr fun i h h' => by
  rw [mem_lo] at h; rw [mem_blk] at h'; omega
end

section
variable {ℓ : Loc nD τ sig} (a : Fin ℓ.ty.shape.rank) (k n : ℕ) (f : Buf (Elt F) ℓ)

/-- The first of the remaining blocks taken. -/
theorem take_blk : (ℓ ↦[hi a k n]{fullShare} f : sProp 𝕄) ⊢ iprop((ℓ ↦[blk a k n]{fullShare} f) ∗ ℓ ↦[hi a k (n + 1)]{fullShare} f) := by
  rw [hi_eq]; exact (pointsTo_union (blk_hi a k n)).1

/-- A block put behind those already there. -/
theorem give_blk : iprop((ℓ ↦[lo a k n]{fullShare} f) ∗ ℓ ↦[blk a k n]{fullShare} f) ⊢ (ℓ ↦[lo a k (n + 1)]{fullShare} f : sProp 𝕄) := by
  rw [lo_eq]; exact (pointsTo_union (lo_blk a k n)).2

/-- The same whatever the contents. -/
theorem give_blk_ex : iprop((∃ f : Buf (Elt F) ℓ, ℓ ↦[lo a k n]{fullShare} f) ∗ ∃ f : Buf (Elt F) ℓ, ℓ ↦[blk a k n]{fullShare} f)
    ⊢ iprop(∃ f : Buf (Elt F) ℓ, (ℓ ↦[lo a k (n + 1)]{fullShare} f : sProp 𝕄)) := by
  iintro ⟨⟨%f, H⟩, ⟨%g, H'⟩⟩
  iexists _
  rw [lo_eq]
  iapply (pointsTo_join (lo_blk a k n))
  isplitl [H]; · iexact H
  iexact H'
end

end Cert.Kernel.Model

end
-- ==== Proof.Chunks.lean ====
/- The steps of the kernel on one chunk, and the runs of them: what each leaves in the buffers it writes. -/
module

public import proofs.«01_k».proof.Proof.Access

@[expose] public section

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (Pipeline.UD sig nD τ) ℕ

variable {c : Dev nD} {α : Type}

/-! ## Different chunks are apart -/

theorem rWs_ne {r r' : ℕ} {h : r < 112} {h' : r' < 112} (hn : r ≠ r') (x : S32x256.Idx) (y : S32x256.Idx) : (rWs r h).emb x ≠ (rWs r' h').emb y :=
  emb_ne 0 (by
    have h0 : (x 0).val < 32 := (x 0).isLt
    have h1 : (y 0).val < 32 := (y 0).isLt
    show 32 * r + 1 * (x 0).val ≠ 32 * r' + 1 * (y 0).val
    omega)

theorem rCr_ne {so : ℕ} {hs : so < 2} {r r' : ℕ} {h : r < 112} {h' : r' < 112} (hn : r ≠ r') (x : S1x32x256.Idx) (y : S1x32x256.Idx) :
    (rCr so hs r h).emb x ≠ (rCr so hs r' h').emb y :=
  emb_ne 1 (by
    have h0 : (x 1).val < 32 := (x 1).isLt
    have h1 : (y 1).val < 32 := (y 1).isLt
    show 32 * r + 1 * (x 1).val ≠ 32 * r' + 1 * (y 1).val
    omega)

theorem rCr_mem {so : ℕ} {hs : so < 2} {r : ℕ} {h : r < 112} (x : S1x32x256.Idx) : (rCr so hs r h).emb x ∈ blk (s := S2x3584x256) 0 1 so := by
  rw [mem_blk]
  have h0 : (x 0).val < 1 := (x 0).isLt
  show 1 * so ≤ so + 1 * (x 0).val ∧ so + 1 * (x 0).val < 1 * (so + 1)
  omega

theorem rWr_mem {sl : ℕ} {hs : sl < 6} {r : ℕ} {h : r < 112} (x : S1x32x256.Idx) : (rWr sl hs r h).emb x ∈ blk (s := S6x3584x256) 0 1 sl := by
  rw [mem_blk]
  have h0 : (x 0).val < 1 := (x 0).isLt
  show 1 * sl ≤ sl + 1 * (x 0).val ∧ sl + 1 * (x 0).val < 1 * (sl + 1)
  omega

/-! ## Codes -/

/-- A chunk of scaled weights turned into codes. -/
theorem wp_q {Q : α → sProp 𝕄} {so : ℕ} {hso : so < 2} {inv : Vec F S1x256 .f32} {r : ℕ} {h : r < 112} {k : IVec S32x256 8 → P F α}
    {f : S3584x256.Idx → Elt F .f32} {g : S2x3584x256.Idx → Elt F .i8} {ws : Vec F S32x256 .f32} (hf : ∀ x, f ((rWs r h).emb x) = ws x) :
    iprop(O c mWs Finset.univ f ∗ O c mCr (blk (s := S2x3584x256) 0 1 so) g) ⊢ iprop((∀ g' : S2x3584x256.Idx → Elt F .i8,
      ⌜(∀ x : S1x32x256.Idx, g' ((rCr so hso r h).emb x) = codesOf ws inv fun a => x a.succ) ∧ ∀ i, (∀ x, (rCr so hso r h).emb x ≠ i) → g' i = g i⌝
      -∗ O c mWs Finset.univ f -∗ O c mCr (blk (s := S2x3584x256) 0 1 so) g' -∗ Wp c (k (codesOf ws inv)) Q) -∗ Wp c (qPart so hso inv r h k) Q) := by
  iintro ⟨Hw, Hc⟩ Hk
  unfold qPart
  iapply (wp_ld Variants.none (c : Thread nD τ) none (m := mWs) (r := rWs r h) (fun _ => Finset.mem_univ _) ws (funext hf)) $$ Hw
  iintro Hw
  iapply (wp_ld Variants.none (c : Thread nD τ) none (m := mCr) (r := rCr so hso r h) (fun x => rCr_mem x) _ rfl) $$ Hc
  iintro Hc
  iapply (wp_st Variants.none (c : Thread nD τ) none (m := mCr) (r := rCr so hso r h) (fun x => rCr_mem x)) $$ Hc
  iintro %g' %hg Hc
  iapply Hk $$ %g' [] Hw Hc
  ipureintro
  exact ⟨fun x => (hg.1 x).trans (shapeCast_addUnit_apply (n := 2) ![32, 256] (codesOf ws inv) shapeCasts_S32x256_S1x32x256 x), hg.2⟩

/-- Chunks 0 to `n - 1` of a slot of the ring of codes hold a block's codes. -/
def Cd (so : ℕ) (hso : so < 2) (ws : (r : ℕ) → r < 112 → Vec F S32x256 .f32) (inv : Vec F S1x256 .f32) (n : ℕ) (g : S2x3584x256.Idx → Elt F .i8) : Prop :=
  ∀ r (h : r < 112), r < n → ∀ x : S1x32x256.Idx, g ((rCr so hso r h).emb x) = codesOf (ws r h) inv fun a => x a.succ

/-- Writing chunk `n` leaves chunks 0 to `n` right. -/
theorem Cd_succ {so : ℕ} {hso : so < 2} {ws : (r : ℕ) → r < 112 → Vec F S32x256 .f32} {inv : Vec F S1x256 .f32} {n : ℕ} {h : n < 112}
    {g g' : S2x3584x256.Idx → Elt F .i8} (hg : Cd so hso ws inv n g)
    (h1 : ∀ x : S1x32x256.Idx, g' ((rCr so hso n h).emb x) = codesOf (ws n h) inv fun a => x a.succ)
    (h2 : ∀ i, (∀ x, (rCr so hso n h).emb x ≠ i) → g' i = g i) : Cd so hso ws inv (n + 1) g' := fun r hr hn x => by
  rcases Nat.lt_succ_iff_lt_or_eq.mp hn with hn | rfl
  · rw [h2 _ fun y => rCr_ne (by omega) y x]; exact hg r hr hn x
  · exact h1 x

/-! ## Scaling a chunk of weights -/

/-- A chunk of weights scaled. -/
theorem wp_w {Q : α → sProp 𝕄} {sl : ℕ} {hsl : sl < 6} {r : ℕ} {h : r < 112} {a : Amax F} {k : Amax F → P F α}
    {fr : S6x3584x256.Idx → Elt F .bf16} {sb : S3584x128.Idx → Elt F .f32} {f : S3584x256.Idx → Elt F .f32}
    (wv : Vec F S1x32x256 .bf16) (hwv : ∀ x, fr ((rWr sl hsl r h).emb x) = wv x) :
    iprop(O c mWr (blk (s := S6x3584x256) 0 1 sl) fr ∗ O c mSb Finset.univ sb ∗ O c mWs Finset.univ f) ⊢ iprop((∀ f' : S3584x256.Idx → Elt F .f32,
      ⌜(∀ x, f' ((rWs r h).emb x) = shapeCast S32x256 (wsOf wv fun x => sb ((rSb r h).emb x)) shapeCasts_S32x256_S32x256 x)
        ∧ ∀ i, (∀ x, (rWs r h).emb x ≠ i) → f' i = f i⌝
      -∗ O c mWr (blk (s := S6x3584x256) 0 1 sl) fr -∗ O c mSb Finset.univ sb -∗ O c mWs Finset.univ f'
      -∗ Wp c (k (amaxStep a (wsOf wv fun x => sb ((rSb r h).emb x)))) Q) -∗ Wp c (wPart sl hsl r h a k) Q) := by
  iintro ⟨Hr, Hb, Hw⟩ Hk
  unfold wPart
  iapply (wp_ld Variants.none (c : Thread nD τ) none (m := mWr) (r := rWr sl hsl r h) (fun x => rWr_mem x) wv (funext hwv)) $$ Hr
  iintro Hr
  iapply (wp_ld Variants.none (c : Thread nD τ) none (m := mSb) (r := rSb r h) (fun _ => Finset.mem_univ _) (fun x => sb ((rSb r h).emb x)) rfl) $$ Hb
  iintro Hb
  iapply (wp_ld Variants.none (c : Thread nD τ) none (m := mWs) (r := rWs r h) (fun _ => Finset.mem_univ _) _ rfl) $$ Hw
  iintro Hw
  iapply (wp_st Variants.none (c : Thread nD τ) none (m := mWs) (r := rWs r h) (fun _ => Finset.mem_univ _)) $$ Hw
  iintro %f' %hf Hw
  iapply Hk $$ %f' [] Hr Hb Hw
  ipureintro
  exact hf

section
variable (X : Vec F S256x3584 .bf16) (W : Vec F S3584x18944 .bf16) (A : Vec F S1x3584 .f32)

/-- Chunks of the buffer of scaled weights for which `p` holds are block `i`'s. -/
def WsIs (i : ℕ) (hi : i < 74) (p : ℕ → Prop) (f : S3584x256.Idx → Elt F .f32) : Prop :=
  ∀ r (h : r < 112), p r → ∀ x, f ((rWs r h).emb x) = wsSt X W A i hi r h x

/-- A slot of the ring of weights holds block `i`. -/
def WrIs (sl : ℕ) (hsl : sl < 6) (i : ℕ) (hi : i < 74) (fr : S6x3584x256.Idx → Elt F .bf16) : Prop :=
  ∀ r (h : r < 112) x, fr ((rWr sl hsl r h).emb x) = wvCh W i hi r h x

variable {X W A}

theorem WsIs_succ {i : ℕ} {hi : i < 74} {n : ℕ} {h : n < 112} {f f' : S3584x256.Idx → Elt F .f32} (hf : WsIs X W A i hi (· < n) f)
    (h1 : ∀ x, f' ((rWs n h).emb x) = wsSt X W A i hi n h x) (h2 : ∀ i, (∀ x, (rWs n h).emb x ≠ i) → f' i = f i) :
    WsIs X W A i hi (· < n + 1) f' := fun r hr hn x => by
  rcases Nat.lt_succ_iff_lt_or_eq.mp hn with hn | rfl
  · rw [h2 _ fun y => rWs_ne (by omega) y x]; exact hf r hr hn x
  · exact h1 x

theorem WsIs_keep {i : ℕ} {hi : i < 74} {n : ℕ} {h : n < 112} {f f' : S3584x256.Idx → Elt F .f32} (hf : WsIs X W A i hi (n ≤ ·) f)
    (h2 : ∀ i, (∀ x, (rWs n h).emb x ≠ i) → f' i = f i) : WsIs X W A i hi (n + 1 ≤ ·) f' := fun r hr hn x => by
  have hn : n + 1 ≤ r := hn
  rw [h2 _ fun y => rWs_ne (by omega) y x]; exact hf r hr (Nat.le_of_succ_le hn) x

/-- A block scaled, chunk after chunk. -/
theorem wp_wRun {Q : α → sProp 𝕄} {sl : ℕ} {hsl : sl < 6} {i : ℕ} {hi : i < 74} {fr : S6x3584x256.Idx → Elt F .bf16} (hfr : WrIs W sl hsl i hi fr) {k : Amax F → P F α} :
    (n r : ℕ) → (h : r + n = 112) → (f : S3584x256.Idx → Elt F .f32) → (hf : WsIs X W A i hi (· < r) f) →
    iprop(O c mWr (blk (s := S6x3584x256) 0 1 sl) fr ∗ O c mSb Finset.univ (sbAll X A) ∗ O c mWs Finset.univ f) ⊢
    iprop((∀ f' : S3584x256.Idx → Elt F .f32, ⌜WsIs X W A i hi (· < 112) f'⌝
      -∗ O c mWr (blk (s := S6x3584x256) 0 1 sl) fr -∗ O c mSb Finset.univ (sbAll X A) -∗ O c mWs Finset.univ f'
      -∗ Wp c (k (amaxSt X W A i hi 112 (Nat.le_refl _))) Q) -∗ Wp c (wRun sl hsl n r h (amaxSt X W A i hi r (by omega)) k) Q)
  | 0, r, h, f, hf => by
    obtain rfl : r = 112 := by omega
    iintro ⟨Hr, Hb, Hw⟩ Hk
    unfold wRun
    iapply Hk $$ %f [] Hr Hb Hw
    ipureintro; exact hf
  | n + 1, r, h, f, hf => by
    iintro ⟨Hr, Hb, Hw⟩ Hk
    unfold wRun
    iapply (wp_w (wvCh W i hi r _) (hfr r _)) $$ [Hr Hb Hw]
    · isplitl [Hr]; · iexact Hr
      isplitl [Hb]; · iexact Hb
      iexact Hw
    iintro %f' %hf' Hr Hb Hw
    iapply (wp_wRun hfr n (r + 1) (by omega) f' (WsIs_succ hf hf'.1 hf'.2)) $$ [Hr Hb Hw] Hk
    isplitl [Hr]; · iexact Hr
    isplitl [Hb]; · iexact Hb
    iexact Hw

/-! ## Groups of chunks turned into codes -/

/-- What the steps between the chunks need: before chunk `r` the state lends the buffer of scaled weights with the
    chunk in it, and the step on chunk `r` leads to the state before the next chunk. -/
structure NextOk (N : Next F α) (St : ℕ → Amax F → sProp 𝕄) (ws : (r : ℕ) → r < 112 → Vec F S32x256 .f32) (Q : α → sProp 𝕄) : Prop where
  lend : ∀ r h a, St r a ⊢ iprop(∃ f : S3584x256.Idx → Elt F .f32, ⌜∀ x, f ((rWs r h).emb x) = ws r h x⌝ ∗ O c mWs Finset.univ f ∗ (O c mWs Finset.univ f -∗ St r a))
  next : ∀ r h a k, St r a ⊢ iprop((∀ a', St (r + 1) a' -∗ Wp c (k a') Q) -∗ Wp c (N r h a k) Q)

/-- A chunk turned into codes, from the state. -/
theorem wp_qSt {N : Next F α} {St : ℕ → Amax F → sProp 𝕄} {ws : (r : ℕ) → r < 112 → Vec F S32x256 .f32} {Q : α → sProp 𝕄} (hN : NextOk (c := c) N St ws Q) {so : ℕ} {hso : so < 2} {inv : Vec F S1x256 .f32} {r : ℕ} {h : r < 112} {k : IVec S32x256 8 → P F α} {a : Amax F}
    {g : S2x3584x256.Idx → Elt F .i8} (hg : Cd so hso ws inv r g) :
    iprop(St r a ∗ O c mCr (blk (s := S2x3584x256) 0 1 so) g) ⊢ iprop((∀ g' : S2x3584x256.Idx → Elt F .i8, ⌜Cd so hso ws inv (r + 1) g'⌝
      -∗ St r a -∗ O c mCr (blk (s := S2x3584x256) 0 1 so) g' -∗ Wp c (k (codesOf (ws r h) inv)) Q) -∗ Wp c (qPart so hso inv r h k) Q) := by
  iintro ⟨HS, Hc⟩ Hk
  ihave HS := (hN.lend r h a) $$ HS
  icases HS with ⟨%f, %hf, Hw, HS⟩
  iapply (wp_q (h := h) hf) $$ [Hw Hc]
  · isplitl [Hw]; · iexact Hw
    iexact Hc
  iintro %g' %hg' Hw Hc
  ihave HS := HS $$ Hw
  iapply Hk $$ %g' [] HS Hc
  ipureintro
  exact Cd_succ hg hg'.1 hg'.2

/-- A chunk turned into codes and the step after it. -/
theorem wp_qw {N : Next F α} {St : ℕ → Amax F → sProp 𝕄} {ws : (r : ℕ) → r < 112 → Vec F S32x256 .f32} {Q : α → sProp 𝕄} (hN : NextOk (c := c) N St ws Q) {so : ℕ} {hso : so < 2} {inv : Vec F S1x256 .f32} {r : ℕ} {h : r < 112} {k : IVec S32x256 8 → Amax F → P F α} {a : Amax F}
    {g : S2x3584x256.Idx → Elt F .i8} (hg : Cd so hso ws inv r g) :
    iprop(St r a ∗ O c mCr (blk (s := S2x3584x256) 0 1 so) g) ⊢ iprop((∀ g' : S2x3584x256.Idx → Elt F .i8, ∀ a' : Amax F, ⌜Cd so hso ws inv (r + 1) g'⌝
      -∗ St (r + 1) a' -∗ O c mCr (blk (s := S2x3584x256) 0 1 so) g' -∗ Wp c (k (codesOf (ws r h) inv) a') Q)
      -∗ Wp c (qPart so hso inv r h fun p => N r h a (k p)) Q) := by
  iintro H Hk
  iapply (wp_qSt (h := h) (k := fun p => N r h a (k p)) hN hg) $$ H
  iintro %g' %hg' HS Hc
  iapply (hN.next r h a _) $$ HS
  iintro %a' HS
  iapply Hk $$ %g' %a' [] HS Hc
  ipureintro; exact hg'

/-- A group of eight chunks. -/
theorem wp_group {N : Next F α} {St : ℕ → Amax F → sProp 𝕄} {Q : α → sProp 𝕄} {i : ℕ} {hi : i < 74} (hN : NextOk (c := c) N St (wsSt X W A i hi) Q) {so : ℕ} {hso : so < 2} {n : ℕ} {h : n < 14} {a : Amax F} {acc : Acc F}
    {k : Amax F → Acc F → P F α} {g : S2x3584x256.Idx → Elt F .i8} (hg : Cd so hso (wsSt X W A i hi) (invSt X W A i hi) (8 * n) g) :
    iprop(St (8 * n) a ∗ O c mCr (blk (s := S2x3584x256) 0 1 so) g ∗ O c mXq Finset.univ (xqAll X A)) ⊢ iprop((∀ g' : S2x3584x256.Idx → Elt F .i8, ∀ a' : Amax F,
      ⌜Cd so hso (wsSt X W A i hi) (invSt X W A i hi) (8 * (n + 1)) g'⌝
      -∗ St (8 * (n + 1)) a' -∗ O c mCr (blk (s := S2x3584x256) 0 1 so) g' -∗ O c mXq Finset.univ (xqAll X A) -∗ Wp c (k a' (accStep acc (dotG X W A i hi n h))) Q)
      -∗ Wp c (group N so hso (invSt X W A i hi) n h a acc k) Q) := by
  iintro ⟨HS, Hc, Hx⟩ Hk
  unfold group
  iapply (wp_qw hN hg) $$ [HS Hc]
  · isplitl [HS]; · iexact HS
    iexact Hc
  iintro %g0 %a0 %hg0 HS Hc
  iapply (wp_qw hN hg0) $$ [HS Hc]
  · isplitl [HS]; · iexact HS
    iexact Hc
  iintro %g1 %a1 %hg1 HS Hc
  iapply (wp_qw hN hg1) $$ [HS Hc]
  · isplitl [HS]; · iexact HS
    iexact Hc
  iintro %g2 %a2 %hg2 HS Hc
  iapply (wp_qw hN hg2) $$ [HS Hc]
  · isplitl [HS]; · iexact HS
    iexact Hc
  iintro %g3 %a3 %hg3 HS Hc
  iapply (wp_qw hN hg3) $$ [HS Hc]
  · isplitl [HS]; · iexact HS
    iexact Hc
  iintro %g4 %a4 %hg4 HS Hc
  iapply (wp_qw hN hg4) $$ [HS Hc]
  · isplitl [HS]; · iexact HS
    iexact Hc
  iintro %g5 %a5 %hg5 HS Hc
  iapply (wp_qw hN hg5) $$ [HS Hc]
  · isplitl [HS]; · iexact HS
    iexact Hc
  iintro %g6 %a6 %hg6 HS Hc
  iapply (wp_qSt hN hg6) $$ [HS Hc]
  · isplitl [HS]; · iexact HS
    iexact Hc
  iintro %g7 %hg7 HS Hc
  iapply (wp_ld Variants.none (c : Thread nD τ) none (m := mXq) (r := rXq n h) (fun _ => Finset.mem_univ _) (fun x => xqAll X A ((rXq n h).emb x)) rfl) $$ Hx
  iintro Hx
  iapply (hN.next _ _ _ _) $$ HS
  iintro %a7 HS
  iapply Hk $$ %g7 %a7 [] HS Hc Hx
  ipureintro; exact hg7

/-- Groups, one after the other. -/
theorem wp_groups {N : Next F α} {St : ℕ → Amax F → sProp 𝕄} {Q : α → sProp 𝕄} {i : ℕ} {hi : i < 74} (hN : NextOk (c := c) N St (wsSt X W A i hi) Q) {so : ℕ} {hso : so < 2} {k : Amax F → Acc F → P F α} :
    (m n : ℕ) → (h : n + m ≤ 14) → (hm : n + m = 14) → (a : Amax F) → (g : S2x3584x256.Idx → Elt F .i8) → (hg : Cd so hso (wsSt X W A i hi) (invSt X W A i hi) (8 * n) g) →
    iprop(St (8 * n) a ∗ O c mCr (blk (s := S2x3584x256) 0 1 so) g ∗ O c mXq Finset.univ (xqAll X A)) ⊢ iprop((∀ g' : S2x3584x256.Idx → Elt F .i8, ∀ a' : Amax F,
      ⌜Cd so hso (wsSt X W A i hi) (invSt X W A i hi) 112 g'⌝
      -∗ St 112 a' -∗ O c mCr (blk (s := S2x3584x256) 0 1 so) g' -∗ O c mXq Finset.univ (xqAll X A) -∗ Wp c (k a' (accSt X W A i hi 14 (Nat.le_refl _))) Q)
      -∗ Wp c (groups N so hso (invSt X W A i hi) m n h a (accSt X W A i hi n (by omega)) k) Q)
  | 0, n, h, hm, a, g, hg => by
    obtain rfl : n = 14 := by omega
    iintro ⟨HS, Hc, Hx⟩ Hk
    unfold groups
    iapply Hk $$ %g %a [] HS Hc Hx
    ipureintro; exact hg
  | m + 1, n, h, hm, a, g, hg => by
    iintro H Hk
    unfold groups
    iapply (wp_group hN hg) $$ H
    iintro %g' %a' %hg' HS Hc Hx
    iapply (wp_groups hN m (n + 1) (by omega) (by omega) a' g' hg') $$ [HS Hc Hx] Hk
    isplitl [HS]; · iexact HS
    isplitl [Hc]; · iexact Hc
    iexact Hx

end

end Cert.Kernel.Model

end
-- ==== Proof.Rows.lean ====
/- The steps on the activations, and the writing of a block's scales and of its product: what each leaves in the buffers it
   writes. -/
module

public import proofs.«01_k».proof.Proof.Chunks

@[expose] public section

set_option maxHeartbeats 1000000

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (Pipeline.UD sig nD τ) ℕ

variable {c : Dev nD} {α : Type}

/-- The first `n` chunks of a buffer are the given ones. -/
def Is {N : ℕ} {s t : Shape} {β : Type} (E : (c : ℕ) → c < N → t.Idx → s.Idx) (ch : (c : ℕ) → c < N → t.Idx → β) (n : ℕ) (f : s.Idx → β) : Prop :=
  ∀ c (h : c < N), c < n → ∀ x, f (E c h x) = ch c h x

theorem Is_zero {N : ℕ} {s t : Shape} {β : Type} (E : (c : ℕ) → c < N → t.Idx → s.Idx) (ch : (c : ℕ) → c < N → t.Idx → β) (f : s.Idx → β) :
    Is E ch 0 f := fun _ _ h => absurd h (Nat.not_lt_zero _)

/-- Writing chunk `n` leaves the first `n + 1` right. -/
theorem Is_succ {N : ℕ} {s t : Shape} {β : Type} {E : (c : ℕ) → c < N → t.Idx → s.Idx} {ch : (c : ℕ) → c < N → t.Idx → β} {n : ℕ} {h : n < N} {f f' : s.Idx → β}
    (hE : ∀ c h c' h' x y, c ≠ c' → E c h x ≠ E c' h' y) (hf : Is E ch n f) (h1 : ∀ x, f' (E n h x) = ch n h x)
    (h2 : ∀ i, (∀ x, E n h x ≠ i) → f' i = f i) : Is E ch (n + 1) f' := fun c hc hn x => by
  rcases Nat.lt_succ_iff_lt_or_eq.mp hn with hn | rfl
  · rw [h2 _ fun y => hE _ _ _ _ _ _ (by omega)]; exact hf c hc hn x
  · exact h1 x

/-! ## The chunks' places -/

abbrev eS (c : ℕ) (h : c < 28) (x : S1x128.Idx) : S1x3584.Idx := (rS c h).emb x
abbrev eSb (c : ℕ) (h : c < 28) (x : S128x128.Idx) : S3584x128.Idx := (rSbBlk c h).emb x
abbrev eRow (c : ℕ) (h : c < 8) (x : S32x3584.Idx) : S256x3584.Idx := (rXrow c h).emb x
abbrev eXsb (c : ℕ) (h : c < 8) (x : S32x128.Idx) : S256x128.Idx := (rXsbRow c h).emb x
abbrev eXsc (c : ℕ) (h : c < 2) (x : S1x128.Idx) : S2x128.Idx := (rXsc c h).emb x
abbrev eWsc (i : ℕ) (h : i < 74) (x : S1x256.Idx) : S74x256.Idx := (rWsc i h).emb x

theorem eS_ne (c h c' h' x y) (hn : c ≠ c') : eS c h x ≠ eS c' h' y := emb_ne 1 (by
  have h0 : (x 1).val < 128 := (x 1).isLt
  have h1 : (y 1).val < 128 := (y 1).isLt
  show 128 * c + 1 * (x 1).val ≠ 128 * c' + 1 * (y 1).val
  omega)
theorem eSb_ne (c h c' h' x y) (hn : c ≠ c') : eSb c h x ≠ eSb c' h' y := emb_ne 0 (by
  have h0 : (x 0).val < 128 := (x 0).isLt
  have h1 : (y 0).val < 128 := (y 0).isLt
  show 128 * c + 1 * (x 0).val ≠ 128 * c' + 1 * (y 0).val
  omega)
theorem eRow_ne (c h c' h' x y) (hn : c ≠ c') : eRow c h x ≠ eRow c' h' y := emb_ne 0 (by
  have h0 : (x 0).val < 32 := (x 0).isLt
  have h1 : (y 0).val < 32 := (y 0).isLt
  show 32 * c + 1 * (x 0).val ≠ 32 * c' + 1 * (y 0).val
  omega)
theorem eXsb_ne (c h c' h' x y) (hn : c ≠ c') : eXsb c h x ≠ eXsb c' h' y := emb_ne 0 (by
  have h0 : (x 0).val < 32 := (x 0).isLt
  have h1 : (y 0).val < 32 := (y 0).isLt
  show 32 * c + 1 * (x 0).val ≠ 32 * c' + 1 * (y 0).val
  omega)
theorem eXsc_ne (c h c' h' x y) (hn : c ≠ c') : eXsc c h x ≠ eXsc c' h' y := emb_ne 0 (by
  have h0 : (x 0).val < 1 := (x 0).isLt
  have h1 : (y 0).val < 1 := (y 0).isLt
  show c + 1 * (x 0).val ≠ c' + 1 * (y 0).val
  omega)
theorem eWsc_ne (c h c' h' x y) (hn : c ≠ c') : eWsc c h x ≠ eWsc c' h' y := emb_ne 0 (by
  have h0 : (x 0).val < 1 := (x 0).isLt
  have h1 : (y 0).val < 1 := (y 0).isLt
  show c + 1 * (x 0).val ≠ c' + 1 * (y 0).val
  omega)

section
variable (X : Vec F S256x3584 .bf16) (W : Vec F S3584x18944 .bf16) (A : Vec F S1x3584 .f32)

/-- What the chunks of the smoothing factors repeated along the lanes are. -/
abbrev sbChF (c : ℕ) (h : c < 28) : Vec F S128x128 .f32 := shapeCast S128x128 (sbOf (sCh X A c h)) shapeCasts_S128x128_S128x128
/-- What the chunks of the activations' codes and scales are. -/
abbrev xcChF (c : ℕ) (h : c < 8) : Vec F S32x3584 .i8 := xCodesOf (xsCh X A c h)
@[inherit_doc xcChF] abbrev xqChF (c : ℕ) (h : c < 8) : Vec F S32x3584 .bf16 :=
  shapeCast S32x3584 (sitofp .bf16 (xCodesOf (xsCh X A c h)) : FVec F S32x3584 .bf16) shapeCasts_S32x3584_S32x3584
@[inherit_doc xcChF] abbrev xsbChF (c : ℕ) (h : c < 8) : Vec F S32x128 .f32 :=
  shapeCast S32x128 (broadcastTo S32x128 (shapeCast S32x1 (xScaleOf (xsCh X A c h)) shapeCasts_S32x1_S32x1) broadcasts_S32x1_S32x128) shapeCasts_S32x128_S32x128
@[inherit_doc xcChF] abbrev xscChF (c : ℕ) (h : c < 2) : Vec F S1x128 .f32 :=
  extractStridedSlice S1x128 ![0, 0] (transpose S128x128 [1, 0] (fun x => xsbAll X A ((rXsbBlk c h).emb x)) transposes_S128x128_p1_0_S128x128) slices_S128x128_o0_0_S1x128

variable {X W A}

theorem s_done {f : S1x3584.Idx → Elt F .f32} (hf : Is eS (sCh X A) 28 f) : f = sAll X A :=
  eq_glue1 _ _ _ f eS (fun c h x => hf c h h x) (fun c h x => by show 128 * c + 1 * (x 1).val = 128 * c + (x 1).val; omega)
    (fun c h x => by show 0 + 1 * (x 0).val = (x 0).val; omega)
theorem sb_done {f : S3584x128.Idx → Elt F .f32} (hf : Is eSb (sbChF X A) 28 f) : f = sbAll X A :=
  eq_glue0 _ _ _ f eSb (fun c h x => hf c h h x) (fun c h x => by show 128 * c + 1 * (x 0).val = 128 * c + (x 0).val; omega)
    (fun c h x => by show 0 + 1 * (x 1).val = (x 1).val; omega)
theorem xc_done {f : S256x3584.Idx → Elt F .i8} (hf : Is eRow (xcChF X A) 8 f) : f = xcAll X A :=
  eq_glue0 _ _ _ f eRow (fun c h x => hf c h h x) (fun c h x => by show 32 * c + 1 * (x 0).val = 32 * c + (x 0).val; omega)
    (fun c h x => by show 0 + 1 * (x 1).val = (x 1).val; omega)
theorem xq_done {f : S256x3584.Idx → Elt F .bf16} (hf : Is eRow (xqChF X A) 8 f) : f = xqAll X A :=
  eq_glue0 _ _ _ f eRow (fun c h x => hf c h h x) (fun c h x => by show 32 * c + 1 * (x 0).val = 32 * c + (x 0).val; omega)
    (fun c h x => by show 0 + 1 * (x 1).val = (x 1).val; omega)
theorem xsb_done {f : S256x128.Idx → Elt F .f32} (hf : Is eXsb (xsbChF X A) 8 f) : f = xsbAll X A :=
  eq_glue0 _ _ _ f eXsb (fun c h x => hf c h h x) (fun c h x => by show 32 * c + 1 * (x 0).val = 32 * c + (x 0).val; omega)
    (fun c h x => by show 0 + 1 * (x 1).val = (x 1).val; omega)
theorem xsc_done {f : S2x128.Idx → Elt F .f32} (hf : Is eXsc (xscChF X A) 2 f) : f = xscAll X A :=
  eq_glue0 _ _ _ f eXsc (fun c h x => hf c h h x) (fun c h x => by show c + 1 * (x 0).val = 1 * c + (x 0).val; omega)
    (fun c h x => by show 0 + 1 * (x 1).val = (x 1).val; omega)
theorem wsc_done {f : S74x256.Idx → Elt F .f32} (hf : Is eWsc (scaleB X W A) 74 f) : f = wscAll X W A :=
  eq_glue0 _ _ _ f eWsc (fun c h x => hf c h h x) (fun c h x => by show c + 1 * (x 0).val = 1 * c + (x 0).val; omega)
    (fun c h x => by show 0 + 1 * (x 1).val = (x 1).val; omega)

/-- The smoothing factors of 128 columns. -/
theorem wp_colPart {Q : α → sProp 𝕄} {k : P F α} {i : ℕ} {h : i < 28} {f : S1x3584.Idx → Elt F .f32} {g : S3584x128.Idx → Elt F .f32}
    (hf : Is eS (sCh X A) i f) (hg : Is eSb (sbChF X A) i g) :
    iprop(O c mXv Finset.univ X ∗ O c mWabs Finset.univ A ∗ O c mS Finset.univ f ∗ O c mSb Finset.univ g) ⊢
    iprop((∀ f' : S1x3584.Idx → Elt F .f32, ∀ g' : S3584x128.Idx → Elt F .f32, ⌜Is eS (sCh X A) (i + 1) f' ∧ Is eSb (sbChF X A) (i + 1) g'⌝
      -∗ O c mXv Finset.univ X -∗ O c mWabs Finset.univ A -∗ O c mS Finset.univ f' -∗ O c mSb Finset.univ g' -∗ Wp c k Q)
      -∗ Wp c (colPart i h k) Q) := by
  iintro ⟨H1, H2, H3, H4⟩ Hk
  unfold colPart
  iapply (wp_ld Variants.none (c : Thread nD τ) none (m := mXv) (r := rXcol i h) (fun _ => Finset.mem_univ _) (fun x => X ((rXcol i h).emb x)) rfl) $$ H1
  iintro H1
  iapply (wp_ld Variants.none (c : Thread nD τ) none (m := mWabs) (r := rS i h) (fun _ => Finset.mem_univ _) (fun x => A ((rS i h).emb x)) rfl) $$ H2
  iintro H2
  iapply (wp_ld Variants.none (c : Thread nD τ) none (m := mS) (r := rS i h) (fun _ => Finset.mem_univ _) _ rfl) $$ H3
  iintro H3
  iapply (wp_st Variants.none (c : Thread nD τ) none (m := mS) (r := rS i h) (fun _ => Finset.mem_univ _)) $$ H3
  iintro %f' %hf' H3
  iapply (wp_ld Variants.none (c : Thread nD τ) none (m := mSb) (r := rSbBlk i h) (fun _ => Finset.mem_univ _) _ rfl) $$ H4
  iintro H4
  iapply (wp_st Variants.none (c : Thread nD τ) none (m := mSb) (r := rSbBlk i h) (fun _ => Finset.mem_univ _)) $$ H4
  iintro %g' %hg' H4
  iapply Hk $$ %f' %g' [] H1 H2 H3 H4
  ipureintro
  exact ⟨Is_succ (h := h) eS_ne hf hf'.1 hf'.2, Is_succ (h := h) eSb_ne hg hg'.1 hg'.2⟩

/-- The smoothing factors, 128 columns after 128 columns. -/
theorem wp_colRun {Q : α → sProp 𝕄} {k : P F α} :
    (n i : ℕ) → (h : i + n = 28) → (f : S1x3584.Idx → Elt F .f32) → (g : S3584x128.Idx → Elt F .f32) → (hf : Is eS (sCh X A) i f) → (hg : Is eSb (sbChF X A) i g) →
    iprop(O c mXv Finset.univ X ∗ O c mWabs Finset.univ A ∗ O c mS Finset.univ f ∗ O c mSb Finset.univ g) ⊢
    iprop((O c mXv Finset.univ X -∗ O c mWabs Finset.univ A -∗ O c mS Finset.univ (sAll X A) -∗ O c mSb Finset.univ (sbAll X A) -∗ Wp c k Q)
      -∗ Wp c (colRun n i h k) Q)
  | 0, i, h, f, g, hf, hg => by
    obtain rfl : i = 28 := by omega
    obtain rfl := s_done hf
    obtain rfl := sb_done hg
    iintro ⟨H1, H2, H3, H4⟩ Hk
    unfold colRun
    iapply Hk $$ H1 H2 H3 H4
  | n + 1, i, h, f, g, hf, hg => by
    iintro H Hk
    unfold colRun
    iapply (wp_colPart hf hg) $$ H
    iintro %f' %g' %hn H1 H2 H3 H4
    have hh : i + 1 + n = 28 := by omega
    iapply (wp_colRun n (i + 1) hh f' g' hn.1 hn.2) $$ [H1 H2 H3 H4] Hk
    isplitl [H1]; · iexact H1
    isplitl [H2]; · iexact H2
    isplitl [H3]; · iexact H3
    iexact H4

/-- 32 rows of the activations. -/
theorem wp_rowPart {Q : α → sProp 𝕄} {k : P F α} {i : ℕ} {h : i < 8} {f : S256x3584.Idx → Elt F .i8} {g : S256x3584.Idx → Elt F .bf16} {b : S256x128.Idx → Elt F .f32}
    (hf : Is eRow (xcChF X A) i f) (hg : Is eRow (xqChF X A) i g) (hb : Is eXsb (xsbChF X A) i b) :
    iprop(O c mXv Finset.univ X ∗ O c mS Finset.univ (sAll X A) ∗ O c mXc Finset.univ f ∗ O c mXq Finset.univ g ∗ O c mXsb Finset.univ b) ⊢
    iprop((∀ f' : S256x3584.Idx → Elt F .i8, ∀ g' : S256x3584.Idx → Elt F .bf16, ∀ b' : S256x128.Idx → Elt F .f32,
      ⌜Is eRow (xcChF X A) (i + 1) f' ∧ Is eRow (xqChF X A) (i + 1) g' ∧ Is eXsb (xsbChF X A) (i + 1) b'⌝
      -∗ O c mXv Finset.univ X -∗ O c mS Finset.univ (sAll X A) -∗ O c mXc Finset.univ f' -∗ O c mXq Finset.univ g'
      -∗ O c mXsb Finset.univ b' -∗ Wp c k Q) -∗ Wp c (rowPart i h k) Q) := by
  iintro ⟨H1, H2, H3, H4, H5⟩ Hk
  unfold rowPart
  iapply (wp_ld Variants.none (c : Thread nD τ) none (m := mXv) (r := rXrow i h) (fun _ => Finset.mem_univ _) (fun x => X ((rXrow i h).emb x)) rfl) $$ H1
  iintro H1
  iapply (wp_ld Variants.none (c : Thread nD τ) none (m := mS) (r := rSall) (fun _ => Finset.mem_univ _) (fun x => sAll X A (rSall.emb x)) rfl) $$ H2
  iintro H2
  iapply (wp_ld Variants.none (c : Thread nD τ) none (m := mXc) (r := rXrow i h) (fun _ => Finset.mem_univ _) _ rfl) $$ H3
  iintro H3
  iapply (wp_st Variants.none (c : Thread nD τ) none (m := mXc) (r := rXrow i h) (fun _ => Finset.mem_univ _)) $$ H3
  iintro %f' %hf' H3
  iapply (wp_ld Variants.none (c : Thread nD τ) none (m := mXq) (r := rXrow i h) (fun _ => Finset.mem_univ _) _ rfl) $$ H4
  iintro H4
  iapply (wp_st Variants.none (c : Thread nD τ) none (m := mXq) (r := rXrow i h) (fun _ => Finset.mem_univ _)) $$ H4
  iintro %g' %hg' H4
  iapply (wp_ld Variants.none (c : Thread nD τ) none (m := mXsb) (r := rXsbRow i h) (fun _ => Finset.mem_univ _) _ rfl) $$ H5
  iintro H5
  iapply (wp_st Variants.none (c : Thread nD τ) none (m := mXsb) (r := rXsbRow i h) (fun _ => Finset.mem_univ _)) $$ H5
  iintro %b' %hb' H5
  iapply Hk $$ %f' %g' %b' [] H1 H2 H3 H4 H5
  ipureintro
  exact ⟨Is_succ (h := h) eRow_ne hf hf'.1 hf'.2, Is_succ (h := h) eRow_ne hg hg'.1 hg'.2, Is_succ (h := h) eXsb_ne hb hb'.1 hb'.2⟩

/-- The activations' codes, 32 rows after 32 rows. -/
theorem wp_rowRun {Q : α → sProp 𝕄} {k : P F α} :
    (n i : ℕ) → (h : i + n = 8) → (f : S256x3584.Idx → Elt F .i8) → (g : S256x3584.Idx → Elt F .bf16) → (b : S256x128.Idx → Elt F .f32) →
    (hf : Is eRow (xcChF X A) i f) → (hg : Is eRow (xqChF X A) i g) → (hb : Is eXsb (xsbChF X A) i b) →
    iprop(O c mXv Finset.univ X ∗ O c mS Finset.univ (sAll X A) ∗ O c mXc Finset.univ f ∗ O c mXq Finset.univ g ∗ O c mXsb Finset.univ b) ⊢
    iprop((O c mXv Finset.univ X -∗ O c mS Finset.univ (sAll X A) -∗ O c mXc Finset.univ (xcAll X A) -∗ O c mXq Finset.univ (xqAll X A)
      -∗ O c mXsb Finset.univ (xsbAll X A) -∗ Wp c k Q) -∗ Wp c (rowRun n i h k) Q)
  | 0, i, h, f, g, b, hf, hg, hb => by
    obtain rfl : i = 8 := by omega
    obtain rfl := xc_done hf
    obtain rfl := xq_done hg
    obtain rfl := xsb_done hb
    iintro ⟨H1, H2, H3, H4, H5⟩ Hk
    unfold rowRun
    iapply Hk $$ H1 H2 H3 H4 H5
  | n + 1, i, h, f, g, b, hf, hg, hb => by
    iintro H Hk
    unfold rowRun
    iapply (wp_rowPart hf hg hb) $$ H
    iintro %f' %g' %b' %hn H1 H2 H3 H4 H5
    have hh : i + 1 + n = 8 := by omega
    iapply (wp_rowRun n (i + 1) hh f' g' b' hn.1 hn.2.1 hn.2.2) $$ [H1 H2 H3 H4 H5] Hk
    isplitl [H1]; · iexact H1
    isplitl [H2]; · iexact H2
    isplitl [H3]; · iexact H3
    isplitl [H4]; · iexact H4
    iexact H5

/-- The scales of 128 rows of the activations. -/
theorem wp_xsc {Q : α → sProp 𝕄} {k : P F α} {i : ℕ} {h : i < 2} {f : S2x128.Idx → Elt F .f32} (hf : Is eXsc (xscChF X A) i f) :
    iprop(O c mXsb Finset.univ (xsbAll X A) ∗ O c mXsc Finset.univ f) ⊢ iprop((∀ f' : S2x128.Idx → Elt F .f32, ⌜Is eXsc (xscChF X A) (i + 1) f'⌝
      -∗ O c mXsb Finset.univ (xsbAll X A) -∗ O c mXsc Finset.univ f' -∗ Wp c k Q) -∗ Wp c (xscPart i h k) Q) := by
  iintro ⟨H1, H2⟩ Hk
  unfold xscPart
  iapply (wp_ld Variants.none (c : Thread nD τ) none (m := mXsb) (r := rXsbBlk i h) (fun _ => Finset.mem_univ _) (fun x => xsbAll X A ((rXsbBlk i h).emb x)) rfl) $$ H1
  iintro H1
  iapply (wp_ld Variants.none (c : Thread nD τ) none (m := mXsc) (r := rXsc i h) (fun _ => Finset.mem_univ _) _ rfl) $$ H2
  iintro H2
  iapply (wp_st Variants.none (c : Thread nD τ) none (m := mXsc) (r := rXsc i h) (fun _ => Finset.mem_univ _)) $$ H2
  iintro %f' %hf' H2
  iapply Hk $$ %f' [] H1 H2
  ipureintro
  exact Is_succ (h := h) eXsc_ne hf hf'.1 hf'.2

/-- The row buffers of a block's scales and inverses. -/
def RowIs (v : Vec F S1x256 .f32) (f : S1x256.Idx → Elt F .f32) : Prop := ∀ x, f (rRow.emb x) = v x

/-- A block's scales written. -/
theorem wp_putScale {Q : α → sProp 𝕄} {k : P F α} {i : ℕ} {hi : i < 74} {f g : S1x256.Idx → Elt F .f32} {b : S74x256.Idx → Elt F .f32} (hb : Is eWsc (scaleB X W A) i b) :
    iprop(O c mScale Finset.univ f ∗ O c mInv Finset.univ g ∗ O c mWsc Finset.univ b) ⊢ iprop((∀ f' : S1x256.Idx → Elt F .f32, ∀ g' : S1x256.Idx → Elt F .f32, ∀ b' : S74x256.Idx → Elt F .f32,
      ⌜RowIs (scaleSt X W A i hi) f' ∧ RowIs (invSt X W A i hi) g' ∧ Is eWsc (scaleB X W A) (i + 1) b'⌝
      -∗ O c mScale Finset.univ f' -∗ O c mInv Finset.univ g' -∗ O c mWsc Finset.univ b' -∗ Wp c k Q) -∗ Wp c (putScale (scaleB X W A i hi) i hi k) Q) := by
  iintro ⟨H1, H2, H3⟩ Hk
  unfold putScale
  iapply (wp_ld Variants.none (c : Thread nD τ) none (m := mScale) (r := rRow) (fun _ => Finset.mem_univ _) _ rfl) $$ H1
  iintro H1
  iapply (wp_st Variants.none (c : Thread nD τ) none (m := mScale) (r := rRow) (fun _ => Finset.mem_univ _)) $$ H1
  iintro %f' %hf' H1
  iapply (wp_ld Variants.none (c : Thread nD τ) none (m := mInv) (r := rRow) (fun _ => Finset.mem_univ _) _ rfl) $$ H2
  iintro H2
  iapply (wp_st Variants.none (c : Thread nD τ) none (m := mInv) (r := rRow) (fun _ => Finset.mem_univ _)) $$ H2
  iintro %g' %hg' H2
  iapply (wp_ld Variants.none (c : Thread nD τ) none (m := mWsc) (r := rWsc i hi) (fun _ => Finset.mem_univ _) _ rfl) $$ H3
  iintro H3
  iapply (wp_st Variants.none (c : Thread nD τ) none (m := mWsc) (r := rWsc i hi) (fun _ => Finset.mem_univ _)) $$ H3
  iintro %b' %hb' H3
  iapply Hk $$ %f' %g' %b' [] H1 H2 H3
  ipureintro
  exact ⟨hf'.1, hg'.1, Is_succ (h := hi) eWsc_ne hb hb'.1 hb'.2⟩

theorem rYr_mem {so : ℕ} {hs : so < 2} (x : S1x256x256.Idx) : (rYr so hs).emb x ∈ blk (s := S2x256x256) 0 1 so := by
  rw [mem_blk]
  have h0 : (x 0).val < 1 := (x 0).isLt
  show 1 * so ≤ so + 1 * (x 0).val ∧ so + 1 * (x 0).val < 1 * (so + 1)
  omega

/-- A block of the product written to its slot. -/
theorem wp_putY {Q : α → sProp 𝕄} {k : P F α} {so : ℕ} {hso : so < 2} {i : ℕ} {hi : i < 74} {g : S2x256x256.Idx → Elt F .bf16} :
    iprop(O c mXsb Finset.univ (xsbAll X A) ∗ O c mYr (blk (s := S2x256x256) 0 1 so) g) ⊢ iprop((∀ g' : S2x256x256.Idx → Elt F .bf16,
      ⌜∀ x : S1x256x256.Idx, g' ((rYr so hso).emb x) = yB X W A i hi fun a => x a.succ⌝
      -∗ O c mXsb Finset.univ (xsbAll X A) -∗ O c mYr (blk (s := S2x256x256) 0 1 so) g' -∗ Wp c k Q)
      -∗ Wp c (putY so hso (accSt X W A i hi 14 (Nat.le_refl _)) (scaleSt X W A i hi) k) Q) := by
  iintro ⟨H1, H2⟩ Hk
  unfold putY
  iapply (wp_ld Variants.none (c : Thread nD τ) none (m := mXsb) (r := rXsb) (fun _ => Finset.mem_univ _) (fun x => xsbAll X A (rXsb.emb x)) rfl) $$ H1
  iintro H1
  iapply (wp_ld Variants.none (c : Thread nD τ) none (m := mYr) (r := rYr so hso) (fun x => rYr_mem x) _ rfl) $$ H2
  iintro H2
  iapply (wp_st Variants.none (c : Thread nD τ) none (m := mYr) (r := rYr so hso) (fun x => rYr_mem x)) $$ H2
  iintro %g' %hg' H2
  iapply Hk $$ %g' [] H1 H2
  ipureintro
  exact fun x => (hg'.1 x).trans (shapeCast_addUnit_apply (n := 2) ![256, 256] (yB X W A i hi) shapeCasts_S256x256_S1x256x256 x)

end

end Cert.Kernel.Model

end
-- ==== Proof.Copies.lean ====
/- The kernel's copies: what is held while one is under way, and what starting one and waiting for one does. -/
module

public import proofs.«01_k».proof.Proof.Rows

@[expose] public section

set_option maxHeartbeats 1000000

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

/-! ## One copy -/

section
variable {nD : Nat} {τ : Topo} {sig : RefSig} {Ix : Type} [DecidableEq Ix]
variable {Val : EltTy → Type} {Name : Type} [DecidableEq Name]
variable {U : Type} [URA U]
variable {Lvl : Type} {Λ : Labels}
local notation "𝕄'" => MT nD τ sig Ix Val Name U Lvl
variable (EC : UEmb Counters (MT nD τ sig Ix Val Name U Lvl))
variable [Preorder Lvl] {defs : Defs nD τ sig Val Λ} (𝒱 : Variants) (c : Thread nD τ) (bd : Option 𝒱.V)
variable {α : Type} {sp sp' : Space} {s : Shape} {e : EltTy}

/-- A copy started: what it will deliver is the destination holding the source's elements, and the source back. -/
theorem wp_start [Infinite Name] [EC.LandsIn (upEmb : UEmb _ 𝕄')]
    {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} {Q : α → sProp 𝕄'} {fs : Buf Val (src.view.loc c)} {fd : Buf Val (dst.view.loc c)} (ι : Ix)
    (hn : 0 < s.numel) {Ss : Finset (Idx (src.view.loc c))} (hSs : src.view.set = Ss) {Sd : Finset (Idx (dst.view.loc c))} (hSd : dst.view.set = Sd)
    (g : Buf Val (dst.view.loc c)) (hg : ∀ y, g (dst.view.emb y) = cast (congrArg Val dst.view.elt_eq.symm) (src.view.read Val fs y)) :
    (iprop((src.view.loc c ↦[Ss]{fullShare} fs) ∗ (dst.view.loc c ↦[Sd]{fullShare} fd) ∗ semVal (c, .dma sm) 0) : sProp 𝕄')
      ⊢ iprop((Transfers.Flight EC c (.dma sm) ι dst.view.dmaCredit iprop((dst.view.loc c ↦[Sd]{fullShare} g) ∗ (src.view.loc c ↦[Ss]{fullShare} fs))
          -∗ wp frame (wpE defs 𝒱 c bd) Set.univ (k ⟨⟩) Q)
        -∗ wp frame (wpE defs 𝒱 c bd) Set.univ (.op (.enqueueDma src (.here dst) (.dma sm) hsrc hdst hsem) k) Q) := by
  subst hSs
  subst hSd
  have hc : ∀ i ∈ dst.view.set, dst.view.write Val fd (src.view.read Val fs) Finset.univ i = g i := fun i hi => by
    obtain ⟨y, -, rfl⟩ := Finset.mem_map.mp hi
    rw [hg, View.write_emb_of_mem _ _ (Finset.mem_univ _)]
  have e : ((dst.view.loc c ↦[dst.view.set]{fullShare} dst.view.write Val fd (src.view.read Val fs) Finset.univ) : sProp 𝕄')
      = (dst.view.loc c ↦[dst.view.set]{fullShare} g) := pointsTo_congr hc
  rw [← e]
  exact Transfers.wp_dmaLocal EC 𝒱 c bd (via := ReadAs.same) ι dst.view.dmaCredit rfl (View.dmaCredit_pos _ hn) (Finset.Subset.refl _)

end

variable {F : FTy → Type} [FloatOps F]

local notation "𝕄" => MT nD τ sig Unit (Elt F) ℕ (Pipeline.UD sig nD τ) ℕ

variable {c : Dev nD} {α : Type}

/-- The transfers' counters. -/
abbrev EC (F : FTy → Type) [FloatOps F] : UEmb Counters (MT nD τ sig Unit (Elt F) ℕ (Pipeline.UD sig nD τ) ℕ) := countersEmb (U := Pipeline.UD sig nD τ)

variable (c)

/-- A copy under way that will deliver `D`. -/
abbrev Fl (sm : DmaSem sig) (N : ℕ) (D : sProp 𝕄) : sProp 𝕄 := Transfers.Flight (EC F) (c : Thread nD τ) (.dma sm) () N D

/-- A semaphore at zero. -/
abbrev Sv (sm : DmaSem sig) : sProp 𝕄 := semVal ((c : Thread nD τ), SemLoc.dma sm) 0

/-- The core owes nothing. -/
abbrev Ow (F : FTy → Type) [FloatOps F] (c : Dev nD) : sProp (MT nD τ sig Unit (Elt F) ℕ (Pipeline.UD sig nD τ) ℕ) := iprop(∃ Wt, owes (c : Thread nD τ) 0 Wt)

variable {c}

/-- A wait for a copy gives what it delivers and its semaphore back. -/
theorem wp_wait {Q : α → sProp 𝕄} {sp sp' : Space} {s s' : Shape} {e e' : EltTy} {sem : DmaSem sig}
    {srcw : Memref sig .tc sp' s' e'} {dstw : Memref sig .tc sp s e} {hsrc : srcw.view.WordExact} {hdst : dstw.view.WordExact}
    {k : PUnit → P F α} {N : ℕ} (hN : dstw.view.dmaCredit = N) {D : sProp 𝕄} :
    iprop(Fl c sem N D ∗ Ow F c)
      ⊢ iprop((D -∗ Sv c sem -∗ Ow F c -∗ Wp c (k ⟨⟩) Q) -∗ Wp c (.op (.waitDma2 sem srcw dstw hsrc hdst) k) Q) := by
  iintro ⟨HF, ⟨%Wt, HO⟩⟩ Hk
  iapply (Transfers.wp_waitLocal (EC F) Variants.none (c : Thread nD τ) none () hN) $$ [HF HO]
  · isplitl [HF]; · iexact HF
    iexact HO
  iintro ⟨HD, HS, HO⟩
  iapply Hk $$ HD HS [HO]
  iexists _; iexact HO

/-! ## The sets of elements -/

theorem wBlk_set (b : ℕ) (h : 256 * b + 256 ≤ 18944) : (wBlk (256 * b) h).view.set = blk (s := S3584x18944) 1 256 b := by
  refine (View.set_slice_whole main_arg1 (rBig (256 * b) h)).trans ?_
  ext i
  rw [Rect.mem_set_unit, mem_blk]
  have h0 : (i 0).val < 3584 := (i 0).isLt
  exact ⟨fun H => by have H := H 1; change 256 * b ≤ (i 1).val ∧ (i 1).val < 256 * b + 256 at H; omega,
    fun H => forall2 (by show 0 ≤ (i 0).val ∧ (i 0).val < 0 + 3584; omega) (by show 256 * b ≤ (i 1).val ∧ (i 1).val < 256 * b + 256; omega)⟩

theorem cBlk_set (b : ℕ) (h : 256 * b + 256 ≤ 18944) : (cBlk (256 * b) h).view.set = blk (s := S3584x18944) 1 256 b :=
  (View.set_slice_whole main_v2_2 (rBig (256 * b) h)).trans ((View.set_slice_whole main_arg1 (rBig (256 * b) h)).symm.trans (wBlk_set b h))

theorem yBlk_set (b : ℕ) (h : 256 * b + 256 ≤ 18944) : (yBlk (256 * b) h).view.set = blk (s := S256x18944) 1 256 b := by
  refine (View.set_slice_whole main_v2_0 (rBigY (256 * b) h)).trans ?_
  ext i
  rw [Rect.mem_set_unit, mem_blk]
  have h0 : (i 0).val < 256 := (i 0).isLt
  exact ⟨fun H => by have H := H 1; change 256 * b ≤ (i 1).val ∧ (i 1).val < 256 * b + 256 at H; omega,
    fun H => forall2 (by show 0 ≤ (i 0).val ∧ (i 0).val < 0 + 256; omega) (by show 256 * b ≤ (i 1).val ∧ (i 1).val < 256 * b + 256; omega)⟩

theorem wSlot_set (sl : ℕ) (hs : sl < 6) : (wSlot sl hs).view.set = blk (s := S6x3584x256) 0 1 sl := by
  refine (View.set_reshape _ _).trans ((View.set_slice_whole cc0_scratch7 (rWrS sl hs)).trans ?_)
  ext i
  rw [Rect.mem_set_unit, mem_blk]
  have h1 : (i 1).val < 3584 := (i 1).isLt
  have h2 : (i 2).val < 256 := (i 2).isLt
  exact ⟨fun H => by have H := H 0; change sl ≤ (i 0).val ∧ (i 0).val < sl + 1 at H; omega,
    fun H => forall3 (by show sl ≤ (i 0).val ∧ (i 0).val < sl + 1; omega) (by show 0 ≤ (i 1).val ∧ (i 1).val < 0 + 3584; omega)
      (by show 0 ≤ (i 2).val ∧ (i 2).val < 0 + 256; omega)⟩

theorem cSlot_set (so : ℕ) (hs : so < 2) : (cSlot so hs).view.set = blk (s := S2x3584x256) 0 1 so := by
  refine (View.set_reshape _ _).trans ((View.set_slice_whole cc0_scratch8 (rCrS so hs)).trans ?_)
  ext i
  rw [Rect.mem_set_unit, mem_blk]
  have h1 : (i 1).val < 3584 := (i 1).isLt
  have h2 : (i 2).val < 256 := (i 2).isLt
  exact ⟨fun H => by have H := H 0; change so ≤ (i 0).val ∧ (i 0).val < so + 1 at H; omega,
    fun H => forall3 (by show so ≤ (i 0).val ∧ (i 0).val < so + 1; omega) (by show 0 ≤ (i 1).val ∧ (i 1).val < 0 + 3584; omega)
      (by show 0 ≤ (i 2).val ∧ (i 2).val < 0 + 256; omega)⟩

theorem ySlot_set (so : ℕ) (hs : so < 2) : (ySlot so hs).view.set = blk (s := S2x256x256) 0 1 so := by
  refine (View.set_reshape _ _).trans ((View.set_slice_whole cc0_scratch9 (rYr so hs)).trans ?_)
  ext i
  rw [Rect.mem_set_unit, mem_blk]
  have h1 : (i 1).val < 256 := (i 1).isLt
  have h2 : (i 2).val < 256 := (i 2).isLt
  exact ⟨fun H => by have H := H 0; change so ≤ (i 0).val ∧ (i 0).val < so + 1 at H; omega,
    fun H => forall3 (by show so ≤ (i 0).val ∧ (i 0).val < so + 1; omega) (by show 0 ≤ (i 1).val ∧ (i 1).val < 0 + 256; omega)
      (by show 0 ≤ (i 2).val ∧ (i 2).val < 0 + 256; omega)⟩

theorem pos_S3584x256 : 0 < S3584x256.numel := Shape.numel_pos (forall2 (by show 0 < 3584; omega) (by show 0 < 256; omega))
theorem pos_S256x256 : 0 < S256x256.numel := Shape.numel_pos (forall2 (by show 0 < 256; omega) (by show 0 < 256; omega))
theorem pos_S256x3584 : 0 < S256x3584.numel := Shape.numel_pos (forall2 (by show 0 < 256; omega) (by show 0 < 3584; omega))

theorem wSlot_emb {sl : ℕ} {hs : sl < 6} (y : S3584x256.Idx) (j : S6x3584x256.Idx) (h0 : (j 0).val = sl) (h1 : (j 1).val = (y 0).val) (h2 : (j 2).val = (y 1).val) :
    (wSlot sl hs).view.emb y = j := by
  show (rWrS sl hs).emb (Shape.reshapeEquiv (s := S1x3584x256) (s' := S3584x256) _ y) = j
  rw [Shape.reshapeEquiv_cons_one (n := 2) (d := ![3584, 256])]
  refine ext3 ?_ ?_ ?_
  · rw [h0]; rfl
  · rw [h1]; show 0 + 1 * (y 0).val = (y 0).val; omega
  · rw [h2]; show 0 + 1 * (y 1).val = (y 1).val; omega

theorem cSlot_emb {so : ℕ} {hs : so < 2} (y : S3584x256.Idx) (j : S2x3584x256.Idx) (h0 : (j 0).val = so) (h1 : (j 1).val = (y 0).val) (h2 : (j 2).val = (y 1).val) :
    (cSlot so hs).view.emb y = j := by
  show (rCrS so hs).emb (Shape.reshapeEquiv (s := S1x3584x256) (s' := S3584x256) _ y) = j
  rw [Shape.reshapeEquiv_cons_one (n := 2) (d := ![3584, 256])]
  refine ext3 ?_ ?_ ?_
  · rw [h0]; rfl
  · rw [h1]; show 0 + 1 * (y 0).val = (y 0).val; omega
  · rw [h2]; show 0 + 1 * (y 1).val = (y 1).val; omega

theorem ySlot_emb {so : ℕ} {hs : so < 2} (y : S256x256.Idx) (j : S2x256x256.Idx) (h0 : (j 0).val = so) (h1 : (j 1).val = (y 0).val) (h2 : (j 2).val = (y 1).val) :
    (ySlot so hs).view.emb y = j := by
  show (rYr so hs).emb (Shape.reshapeEquiv (s := S1x256x256) (s' := S256x256) _ y) = j
  rw [Shape.reshapeEquiv_cons_one (n := 2) (d := ![256, 256])]
  refine ext3 ?_ ?_ ?_
  · rw [h0]; rfl
  · rw [h1]; show 0 + 1 * (y 0).val = (y 0).val; omega
  · rw [h2]; show 0 + 1 * (y 1).val = (y 1).val; omega

/-! ## The weights' blocks -/

section
variable (X : Vec F S256x3584 .bf16) (W : Vec F S3584x18944 .bf16) (A : Vec F S1x3584 .f32)

/-- Block `b` of the weights on its way into slot `sl`. -/
def FlW (c : Dev nD) (sl : ℕ) (hs : sl < 6) (b : ℕ) (hb : b < 74) : sProp 𝕄 :=
  iprop(∃ f : S6x3584x256.Idx → Elt F .bf16, ⌜WrIs W sl hs b hb f⌝ ∗ Fl c (wSem sl hs) (wSlot sl hs).view.dmaCredit
    iprop(O c mWr (blk (s := S6x3584x256) 0 1 sl) f ∗ O c mW (blk (s := S3584x18944) 1 256 b) W))

/-- Block `b` of the codes, and of the product, on its way from slot `so`. -/
def FlC (c : Dev nD) (so : ℕ) (hs : so < 2) (b : ℕ) (hb : b < 74) : sProp 𝕄 :=
  iprop(∃ g : S2x3584x256.Idx → Elt F .i8, Fl c (cSem so hs) (cBlk (256 * b) (by omega)).view.dmaCredit
    iprop(O c mC (blk (s := S3584x18944) 1 256 b) (cG X W A) ∗ O c mCr (blk (s := S2x3584x256) 0 1 so) g))
@[inherit_doc FlC] def FlY (c : Dev nD) (so : ℕ) (hs : so < 2) (b : ℕ) (hb : b < 74) : sProp 𝕄 :=
  iprop(∃ g : S2x256x256.Idx → Elt F .bf16, Fl c (ySem so hs) (yBlk (256 * b) (by omega)).view.dmaCredit
    iprop(O c mY (blk (s := S256x18944) 1 256 b) (yG X W A) ∗ O c mYr (blk (s := S2x256x256) 0 1 so) g))

variable {X W A}

/-- Starting the copy of a block of weights. -/
theorem wp_startW {Q : α → sProp 𝕄} {k : P F α} {sl : ℕ} {hs : sl < 6} {b : ℕ} (hb : b < 74) {h : 256 * b + 256 ≤ 18944} {f : S6x3584x256.Idx → Elt F .bf16} :
    iprop(O c mW (blk (s := S3584x18944) 1 256 b) W ∗ O c mWr (blk (s := S6x3584x256) 0 1 sl) f ∗ Sv c (wSem sl hs)) ⊢
    iprop((FlW W c sl hs b hb -∗ Wp c k Q) -∗ Wp c (startW sl hs (256 * b) h k) Q) := by
  iintro H Hk
  unfold startW
  iapply (wp_start (EC F) Variants.none (c : Thread nD τ) none () pos_S3584x256 (wBlk_set b h) (wSlot_set sl hs)
    (fun j => W (ix2 (j 1) ⟨256 * b + (j 2).val, by have : (j 2).val < 256 := (j 2).isLt; omega⟩)) ?_) $$ H
  · intro y
    rw [wSlot_emb y (ix3 ⟨sl, hs⟩ (y 0) (y 1)) rfl rfl rfl]
    show W _ = W ((rBig (256 * b) h).emb y)
    refine congrArg W (ext2 ?_ ?_)
    · show (y 0).val = 0 + 1 * (y 0).val; omega
    · show 256 * b + (y 1).val = 256 * b + 1 * (y 1).val; omega
  iintro HF
  iapply Hk
  unfold FlW
  iexists _
  isplitr
  swap; · iexact HF
  ipureintro
  intro r hr x
  show W _ = W _
  refine congrArg W (ext2 ?_ ?_)
  · show 32 * r + 1 * (x 1).val = 32 * r + (x 1).val; omega
  · show 256 * b + (0 + 1 * (x 2).val) = 256 * b + (x 2).val; omega

/-- Waiting for it. -/
theorem wp_waitW {Q : α → sProp 𝕄} {k : P F α} {sl : ℕ} {hs : sl < 6} {b : ℕ} {hb : b < 74} {o : ℕ} {h : o + 256 ≤ 18944} :
    iprop(FlW W c sl hs b hb ∗ Ow F c) ⊢
    iprop((∀ f : S6x3584x256.Idx → Elt F .bf16, ⌜WrIs W sl hs b hb f⌝ -∗ O c mWr (blk (s := S6x3584x256) 0 1 sl) f
      -∗ O c mW (blk (s := S3584x18944) 1 256 b) W -∗ Sv c (wSem sl hs) -∗ Ow F c -∗ Wp c k Q) -∗ Wp c (waitW sl hs o h k) Q) := by
  unfold FlW waitW
  iintro ⟨⟨%f, %hf, HF⟩, HO⟩ Hk
  iapply (wp_wait rfl) $$ [HF HO]
  · isplitl [HF]; · iexact HF
    iexact HO
  iintro ⟨HD, HD'⟩ HS HO
  iapply Hk $$ %f [] HD HD' HS HO
  ipureintro; exact hf

/-- Starting the copy of a block of codes. -/
theorem wp_startC {Q : α → sProp 𝕄} {k : P F α} {so : ℕ} {hs : so < 2} {b : ℕ} (hb : b < 74) {h : 256 * b + 256 ≤ 18944} {g : S2x3584x256.Idx → Elt F .i8}
    {f : S3584x18944.Idx → Elt F .i8} (hg : Cd so hs (wsSt X W A b hb) (invSt X W A b hb) 112 g) :
    iprop(O c mCr (blk (s := S2x3584x256) 0 1 so) g ∗ O c mC (blk (s := S3584x18944) 1 256 b) f ∗ Sv c (cSem so hs)) ⊢
    iprop((FlC X W A c so hs b hb -∗ Wp c k Q) -∗ Wp c (startC so hs (256 * b) h k) Q) := by
  iintro H Hk
  unfold startC
  iapply (wp_start (EC F) Variants.none (c : Thread nD τ) none () pos_S3584x256 (cSlot_set so hs) (cBlk_set b h) (cG X W A) ?_) $$ H
  · intro y
    have hy0 : (y 0).val < 3584 := (y 0).isLt
    have hy1 : (y 1).val < 256 := (y 1).isLt
    refine (glue1_apply (α := Elt F .i8) (by omega) (by omega) (cB X W A) hb y _ ?_ ?_).trans ?_
    · show 256 * b + 1 * (y 1).val = 256 * b + (y 1).val; omega
    · show 0 + 1 * (y 0).val = (y 0).val; omega
    refine (hg ((y 0).val / 32) (by omega) (by omega) (ix3 ⟨0, by omega⟩ ⟨(y 0).val % 32, Nat.mod_lt _ (by omega)⟩ (y 1))).symm.trans ?_
    refine congrArg g (cSlot_emb y _ ?_ ?_ ?_).symm
    · rfl
    · show 32 * ((y 0).val / 32) + 1 * ((y 0).val % 32) = (y 0).val; omega
    · show 0 + 1 * (y 1).val = (y 1).val; omega
  iintro HF
  iapply Hk
  unfold FlC
  iexists _
  iexact HF

/-- Waiting for it. -/
theorem wp_waitC {Q : α → sProp 𝕄} {k : P F α} {so : ℕ} {hs : so < 2} {b : ℕ} {hb : b < 74} {h : 256 * b + 256 ≤ 18944} :
    iprop(FlC X W A c so hs b hb ∗ Ow F c) ⊢
    iprop((∀ g : S2x3584x256.Idx → Elt F .i8, O c mCr (blk (s := S2x3584x256) 0 1 so) g
      -∗ O c mC (blk (s := S3584x18944) 1 256 b) (cG X W A) -∗ Sv c (cSem so hs) -∗ Ow F c -∗ Wp c k Q) -∗ Wp c (waitC so hs (256 * b) h k) Q) := by
  unfold FlC waitC
  iintro ⟨⟨%g, HF⟩, HO⟩ Hk
  iapply (wp_wait rfl) $$ [HF HO]
  · isplitl [HF]; · iexact HF
    iexact HO
  iintro ⟨HD, HD'⟩ HS HO
  iapply Hk $$ %g HD' HD HS HO

/-- Starting the copy of a block of the product. -/
theorem wp_startY {Q : α → sProp 𝕄} {k : P F α} {so : ℕ} {hs : so < 2} {b : ℕ} (hb : b < 74) {h : 256 * b + 256 ≤ 18944} {g : S2x256x256.Idx → Elt F .bf16}
    {f : S256x18944.Idx → Elt F .bf16} (hg : ∀ x : S1x256x256.Idx, g ((rYr so hs).emb x) = yB X W A b hb fun a => x a.succ) :
    iprop(O c mYr (blk (s := S2x256x256) 0 1 so) g ∗ O c mY (blk (s := S256x18944) 1 256 b) f ∗ Sv c (ySem so hs)) ⊢
    iprop((FlY X W A c so hs b hb -∗ Wp c k Q) -∗ Wp c (startY so hs (256 * b) h k) Q) := by
  iintro H Hk
  unfold startY
  iapply (wp_start (EC F) Variants.none (c : Thread nD τ) none () pos_S256x256 (ySlot_set so hs) (yBlk_set b h) (yG X W A) ?_) $$ H
  · intro y
    refine (glue1_apply (α := Elt F .bf16) (by omega) (by omega) (yB X W A) hb y _ ?_ ?_).trans ?_
    · show 256 * b + 1 * (y 1).val = 256 * b + (y 1).val; omega
    · show 0 + 1 * (y 0).val = (y 0).val; omega
    refine Eq.trans ?_ ((hg (ix3 ⟨0, by omega⟩ (y 0) (y 1))).symm.trans ?_)
    · exact congrArg (yB X W A b hb) (ext2 rfl rfl)
    refine congrArg g (ySlot_emb y _ ?_ ?_ ?_).symm
    · rfl
    · show 0 + 1 * (y 0).val = (y 0).val; omega
    · show 0 + 1 * (y 1).val = (y 1).val; omega
  iintro HF
  iapply Hk
  unfold FlY
  iexists _
  iexact HF

/-- Waiting for it. -/
theorem wp_waitY {Q : α → sProp 𝕄} {k : P F α} {so : ℕ} {hs : so < 2} {b : ℕ} {hb : b < 74} {h : 256 * b + 256 ≤ 18944} :
    iprop(FlY X W A c so hs b hb ∗ Ow F c) ⊢
    iprop((∀ g : S2x256x256.Idx → Elt F .bf16, O c mYr (blk (s := S2x256x256) 0 1 so) g
      -∗ O c mY (blk (s := S256x18944) 1 256 b) (yG X W A) -∗ Sv c (ySem so hs) -∗ Ow F c -∗ Wp c k Q) -∗ Wp c (waitY so hs (256 * b) h k) Q) := by
  unfold FlY waitY
  iintro ⟨⟨%g, HF⟩, HO⟩ Hk
  iapply (wp_wait rfl) $$ [HF HO]
  · isplitl [HF]; · iexact HF
    iexact HO
  iintro ⟨HD, HD'⟩ HS HO
  iapply Hk $$ %g HD' HD HS HO

end

end Cert.Kernel.Model

end
-- ==== Proof.Same.lean ====
/- The kernel's printed body is the one of `Proof/Model.lean`. -/
module

public import proofs.«01_k».proof.Proof.Model
public import Idealize.ShloMosaic.Lib.Tactic

@[expose] public section

noncomputable section

namespace Cert.Kernel.Model

open Idealize.ShloMosaic Idealize.ShloMosaic.TcCoe
open Idealize.SL Idealize.SL.Sem
open Cert.Kernel Cert.Kernel.Gen

variable {F : FTy → Type} [FloatOps F]

/-- The printed body, on the buffers it is called with. -/
abbrev printed : P F :=
  cc0_smoothquant_w8a8 mX (Memref.isWhole_whole _) mW (Memref.isWhole_whole _) mWabs (Memref.isWhole_whole _) mY (Memref.isWhole_whole _) mS (Memref.isWhole_whole _) mC (Memref.isWhole_whole _) mWsc (Memref.isWhole_whole _) mXc (Memref.isWhole_whole _) mXsc (Memref.isWhole_whole _) mXv (Memref.isWhole_whole _) mXq (Memref.isWhole_whole _) mXsb (Memref.isWhole_whole _) mSb (Memref.isWhole_whole _) mWs (Memref.isWhole_whole _) mInv (Memref.isWhole_whole _) mScale (Memref.isWhole_whole _) mWr (Memref.isWhole_whole _) mCr (Memref.isWhole_whole _) mYr (Memref.isWhole_whole _) cc0_scratch10 cc0_scratch11 cc0_scratch12 cc0_scratch13

/-- One trip of the printed loop. -/
def tripP (k0_t1 : Fin k0_t1_loop.trips) : P F := do
  let ⟨arg23, v5205, v5206, v5222, v5223, v7598, v7635, v7672, v7709, v7746, v7765, v7768, v7783, v7790, v7794⟩ : Σ' (arg23 : BitVec 32) (v5205 : BitVec 32) (v5206 : BitVec 32) (v5222 : Vec F S1x256 .f32) (v5223 : Vec F S1x256 .f32) (v7598 : FVec F S256x256 .f32) (v7635 : FVec F S32x256 .bf16) (v7672 : FVec F S32x256 .bf16) (v7709 : FVec F S32x256 .bf16) (v7746 : FVec F S32x256 .bf16) (v7765 : FVec F S8x256 .f32) (v7768 : FVec F S8x256 .f32) (v7783 : FVec F S32x256 .bf16) (v7790 : FVec F S32x256 .f32), FVec F S8x256 .f32 ← k0_part99 mX (Memref.isWhole_whole _) mW (Memref.isWhole_whole _) mWabs (Memref.isWhole_whole _) mY (Memref.isWhole_whole _) mS (Memref.isWhole_whole _) mC (Memref.isWhole_whole _) mWsc (Memref.isWhole_whole _) mXc (Memref.isWhole_whole _) mXsc (Memref.isWhole_whole _) mXv (Memref.isWhole_whole _) mXq (Memref.isWhole_whole _) mXsb (Memref.isWhole_whole _) mSb (Memref.isWhole_whole _) mWs (Memref.isWhole_whole _) mInv (Memref.isWhole_whole _) mScale (Memref.isWhole_whole _) mWr (Memref.isWhole_whole _) mCr (Memref.isWhole_whole _) mYr (Memref.isWhole_whole _) cc0_scratch10 cc0_scratch11 cc0_scratch12 cc0_scratch13 1#32 1#32 k0_t1
  let v9455 : FVec F S1x256 .f32 ← k0_part100 mX (Memref.isWhole_whole _) mW (Memref.isWhole_whole _) mWabs (Memref.isWhole_whole _) mY (Memref.isWhole_whole _) mS (Memref.isWhole_whole _) mC (Memref.isWhole_whole _) mWsc (Memref.isWhole_whole _) mXc (Memref.isWhole_whole _) mXsc (Memref.isWhole_whole _) mXv (Memref.isWhole_whole _) mXq (Memref.isWhole_whole _) mXsb (Memref.isWhole_whole _) mSb (Memref.isWhole_whole _) mWs (Memref.isWhole_whole _) mInv (Memref.isWhole_whole _) mScale (Memref.isWhole_whole _) mWr (Memref.isWhole_whole _) mCr (Memref.isWhole_whole _) mYr (Memref.isWhole_whole _) cc0_scratch10 cc0_scratch11 cc0_scratch12 cc0_scratch13 k0_t1 arg23 v5205 v5206 v5222 v5223 v7598 v7635 v7672 v7709 v7746 v7765 v7768 v7783 v7790 v7794
  let c0_3234 : Index := 0#32
  let c0_3235 : Index := 0#32
  let v9456 : Vec F S1x256 .f32 ← Prog.lift (.load mScale (Rect.unit (s := S1x256) ![0, 0] S1x256.size inb_S1x256_S1x256_0_0).toLoadRect (View.loadsAt_vmem h_S1x256))
  have v9457 : FVec F S1x256 .f32 := shapeCast S1x256 v9456 shapeCasts_S1x256_S1x256
  have v9458 : FVec F S1x256 .f32 := shapeCast S1x256 v9455 shapeCasts_S1x256_S1x256
  Prog.lift (.store mScale (Rect.unit (s := S1x256) ![0, 0] S1x256.size inb_S1x256_S1x256_0_0) v9458 Finset.univ (View.stores_vmem_bits_univ h_S1x256 rfl) (.inl rfl))
  have cst_3236 : F .f32 := Scalar.ofBits .f32 0x3F800000#32
  have v9459 : FVec F S1x256 .f32 := broadcast S1x256 cst_3236
  have v9460 : FVec F S1x256 .f32 := divf v9459 v9455
  let c0_3237 : Index := 0#32
  let c0_3238 : Index := 0#32
  let v9461 : Vec F S1x256 .f32 ← Prog.lift (.load mInv (Rect.unit (s := S1x256) ![0, 0] S1x256.size inb_S1x256_S1x256_0_0).toLoadRect (View.loadsAt_vmem h_S1x256))
  have v9462 : FVec F S1x256 .f32 := shapeCast S1x256 v9461 shapeCasts_S1x256_S1x256
  have v9463 : FVec F S1x256 .f32 := shapeCast S1x256 v9460 shapeCasts_S1x256_S1x256
  Prog.lift (.store mInv (Rect.unit (s := S1x256) ![0, 0] S1x256.size inb_S1x256_S1x256_0_0) v9463 Finset.univ (View.stores_vmem_bits_univ h_S1x256 rfl) (.inl rfl))
  let v9464 : Index := Scalar.indexCast arg23
  let c0_3239 : Index := 0#32
  let v9465 : Vec F S1x256 .f32 ← Prog.lift (.load mWsc (Rect.unit (s := S74x256) (k0_off356 k0_t1) S1x256.size (k0_off356_inb k0_t1)).toLoadRect (View.loadsAt_vmem h_S1x256))
  Prog.lift (.store mWsc (Rect.unit (s := S74x256) (k0_off356 k0_t1) S1x256.size (k0_off356_inb k0_t1)) v9455 Finset.univ (View.stores_vmem_bits_univ h_S1x256 rfl) (.inl rfl))
  pure ⟨⟩

/-- The printed loop. -/
abbrev loopP : P F := Scf.Loop.for k0_t1_loop k0_t1_ok PUnit.unit fun t _ => tripP t

/-- What a product is of, once its pieces have been turned into floats. -/
def dotOfF (xq : Vec F S256x256 .bf16) (p0 p1 p2 p3 p4 p5 p6 p7 : FVec F S32x256 .bf16) : FVec F S256x256 .f32 :=
  matmul dot_S256x256_S256x256_S256x256_1_0_0_1_n_n none xq
    (concatenate S256x256 0 [⟨S32x256, p0⟩, ⟨S32x256, p1⟩, ⟨S32x256, p2⟩, ⟨S32x256, p3⟩, ⟨S32x256, p4⟩, ⟨S32x256, p5⟩, ⟨S32x256, p6⟩, ⟨S32x256, p7⟩]
      concatenates_S32x256_S32x256_S32x256_S32x256_S32x256_S32x256_S32x256_S32x256_S256x256_d0)
    (constant S256x256 .f32 0x00000000#32)

/-- What the printed program hands from the first stretch after the loop to the second. -/
abbrev Mid (F : FTy → Type) [FloatOps F] : Type := Σ' (_ : BitVec 32) (_ : Vec F S1x256 .f32) (_ : Vec F S1x256 .f32) (_ : FVec F S256x256 .f32) (_ : FVec F S32x256 .bf16)
  (_ : FVec F S32x256 .bf16) (_ : FVec F S32x256 .bf16) (_ : FVec F S32x256 .bf16) (_ : FVec F S32x256 .bf16) (_ : FVec F S32x256 .bf16) (_ : FVec F S32x256 .bf16), FVec F S32x256 .bf16

/-- The first stretch after the loop. -/
def postB (c : BitVec 32) : P F (Mid F) :=
  waitC 0 (by omega) 18176 (by omega) <| waitY 0 (by omega) 18176 (by omega) <|
  .op (.load mInv rRow.toLoadRect (View.loadsAt_vmem h_S1x256)) fun inv =>
  .op (.load mScale rRow.toLoadRect (View.loadsAt_vmem h_S1x256)) fun scale =>
  groups noNext 0 (by omega) inv 12 0 (by omega) none none fun _ acc =>
  qPart 0 (by omega) inv 96 (by omega) fun p0 => qPart 0 (by omega) inv 97 (by omega) fun p1 => qPart 0 (by omega) inv 98 (by omega) fun p2 =>
  qPart 0 (by omega) inv 99 (by omega) fun p3 => qPart 0 (by omega) inv 100 (by omega) fun p4 => qPart 0 (by omega) inv 101 (by omega) fun p5 =>
  qPart 0 (by omega) inv 102 (by omega) fun p6 => qPart 0 (by omega) inv 103 (by omega) fun p7 =>
  .ret ⟨c, inv, scale, acc.getD (constant S256x256 .f32 0x00000000#32), sitofp .bf16 p0, sitofp .bf16 p1, sitofp .bf16 p2, sitofp .bf16 p3,
    sitofp .bf16 p4, sitofp .bf16 p5, sitofp .bf16 p6, sitofp .bf16 p7⟩

/-- The second. -/
def postC : Mid F → P F
  | ⟨_, inv, scale, acc, p0, p1, p2, p3, p4, p5, p6, p7⟩ =>
  .op (.load mXq (rXq 12 (by omega)).toLoadRect (View.loadsAt_vmem h_S256x256)) fun xq =>
  group noNext 0 (by omega) inv 13 (by omega) none (some (addf acc (dotOfF xq p0 p1 p2 p3 p4 p5 p6 p7))) fun _ acc =>
  putY 0 (by omega) acc scale <| startC 0 (by omega) 18688 (by omega) <| startY 0 (by omega) 18688 (by omega) <|
  waitC 1 (by omega) 18432 (by omega) <| waitY 1 (by omega) 18432 (by omega) <|
  waitC 0 (by omega) 18688 (by omega) <| waitY 0 (by omega) 18688 (by omega) <| .ret ⟨⟩

set_option maxRecDepth 100000 in
theorem post_eq (c : BitVec 32) : (postB c >>= postC) = (post : P F) := by
  sl_kernel_rfl

set_option maxRecDepth 100000 in
theorem printed_nested : (printed : P F) = pre (((loopP >>= fun _ => (.ret (Scalar.remsi 74#32 2#32) : P F (BitVec 32))) >>= postB) >>= postC) := by
  sl_kernel_rfl

/-- The printed body is what comes before its loop, the loop, and what comes after. -/
theorem printed_eq : (printed : P F) = pre (loopP >>= fun _ => post) := by
  rw [printed_nested, Prog.bind_assoc, Prog.bind_assoc]
  exact congrArg (fun k => pre (loopP >>= k)) (funext fun _ => post_eq _)

/-! ## A trip of the loop -/

/-- The slots and columns as a trip computes them. -/
abbrev iv (t : Fin k0_t1_loop.trips) : BitVec 32 := Scf.iv 1#32 1#32 t

variable (t : Fin k0_t1_loop.trips)

def tSl : ℕ := (Scalar.remsi (iv t) 6#32).toNat
def tSlI : ℕ := (Scalar.indexCast (Scalar.remsi (iv t) 6#32)).toNat
def tSo : ℕ := (Scalar.remsi (iv t) 2#32).toNat
def tSoI : ℕ := (Scalar.indexCast (Scalar.remsi (iv t) 2#32)).toNat
def tCol : ℕ := (Scalar.muli (iv t) 256#32).toNat
def tSlN : ℕ := (Scalar.remsi (Scalar.subi (Scalar.addi (iv t) 6#32) 1#32) 6#32).toNat
def tColN : ℕ := (Scalar.muli (Scalar.subi (Scalar.addi (iv t) 6#32) 1#32) 256#32).toNat
def tColD : ℕ := (Scalar.muli (Scalar.subi (Scalar.subi (iv t) 1#32) 2#32) 256#32).toNat
def tColB : ℕ := (Scalar.muli (Scalar.subi (iv t) 1#32) 256#32).toNat
def tRow : ℕ := (Scalar.indexCast (iv t)).toNat

theorem tSl_eq : ∀ t, tSl t = (t.val + 1) % 6 := by unfold tSl; decide +kernel
theorem tSlI_eq : ∀ t, tSlI t = (t.val + 1) % 6 := by unfold tSlI; decide +kernel
theorem tSo_eq : ∀ t, tSo t = (t.val + 1) % 2 := by unfold tSo; decide +kernel
theorem tSoI_eq : ∀ t, tSoI t = (t.val + 1) % 2 := by unfold tSoI; decide +kernel
theorem tCol_eq : ∀ t, tCol t = 256 * (t.val + 1) := by unfold tCol; decide +kernel
theorem tSlN_eq : ∀ t, tSlN t = (t.val + 6) % 6 := by unfold tSlN; decide +kernel
theorem tColN_eq : ∀ t, tColN t = 256 * (t.val + 6) := by unfold tColN; decide +kernel
theorem tColD_eq : ∀ t, 2 ≤ t.val → tColD t = 256 * (t.val - 2) := by unfold tColD; decide +kernel
theorem tColB_eq : ∀ t, tColB t = 256 * t.val := by unfold tColB; decide +kernel
theorem tRow_eq : ∀ t, tRow t = t.val + 1 := by unfold tRow; decide +kernel
theorem cond1_iff : ∀ t, k0_cond1 t = 1#1 ↔ t.val + 6 < 74 := by decide +kernel
theorem cond2_iff : ∀ t, k0_cond2 t = 1#1 ↔ 2 ≤ t.val := by decide +kernel

theorem trips : k0_t1_loop.trips = 73 := by decide +kernel
theorem t_lt : t.val < 73 := trips ▸ t.isLt

/-- A trip in slots and columns as they are computed. -/
def tripC : P F :=
  waitW (tSl t) (by rw [tSl_eq]; omega) (tCol t) (by rw [tCol_eq]; have := t_lt t; omega) <|
  ((if h : k0_cond1 t = 1#1 then startW (tSlN t) (by rw [tSlN_eq]; omega) (tColN t) (by rw [tColN_eq]; have := (cond1_iff t).1 h; omega) (.ret ⟨⟩) else .ret ⟨⟩ : P F)) >>= fun _ =>
  ((if h : k0_cond2 t = 1#1 then
    waitC (tSo t) (by rw [tSo_eq]; omega) (tColD t) (by rw [tColD_eq t ((cond2_iff t).1 h)]; have := t_lt t; omega) <|
    waitY (tSo t) (by rw [tSo_eq]; omega) (tColD t) (by rw [tColD_eq t ((cond2_iff t).1 h)]; have := t_lt t; omega) (.ret ⟨⟩) else .ret ⟨⟩ : P F)) >>= fun _ =>
  stepRest (tSoI t) (by rw [tSoI_eq]; omega) (tSlI t) (by rw [tSlI_eq]; omega) (tSo t) (by rw [tSo_eq]; omega) (tColB t) (by rw [tColB_eq]; have := t_lt t; omega)
    (tRow t) (by rw [tRow_eq]; have := t_lt t; omega) (.ret ⟨⟩)

set_option maxRecDepth 100000 in
theorem tripP_eq : (tripP t : P F) = tripC t := by
  by_cases h1 : k0_cond1 t = 1#1 <;> by_cases h2 : k0_cond2 t = 1#1 <;>
    simp only [tripC, h1, h2, dite_true, dite_false] <;> unfold tripP k0_part99 k0_part1 <;>
    simp only [h1, h2, dite_true, dite_false] <;> sl_kernel_rfl

/-- The loop's step `i`, from 1 to 73, in closed form. -/
def trip (i : ℕ) (h : i < 74) : P F :=
  waitW (i % 6) (by omega) (256 * i) (by omega) <|
  ((if h : i + 5 < 74 then startW ((i + 5) % 6) (by omega) (256 * (i + 5)) (by omega) (.ret ⟨⟩) else .ret ⟨⟩ : P F)) >>= fun _ =>
  ((if h : 3 ≤ i then waitC (i % 2) (by omega) (256 * (i - 3)) (by omega) <| waitY (i % 2) (by omega) (256 * (i - 3)) (by omega) (.ret ⟨⟩) else .ret ⟨⟩ : P F)) >>= fun _ =>
  stepRest (i % 2) (by omega) (i % 6) (by omega) (i % 2) (by omega) (256 * (i - 1)) (by omega) i h (.ret ⟨⟩)

theorem tripC_eq : (tripC t : P F) = trip (t.val + 1) (by have := t_lt t; omega) := by
  have e1 := cond1_iff t
  have e2 := cond2_iff t
  have e3 := tColD_eq t
  unfold tripC trip
  by_cases h1 : t.val + 6 < 74 <;> by_cases h2 : 2 ≤ t.val <;>
    simp only [h1, h2, iff_true, iff_false, forall_true_left] at e1 e2 e3 <;>
    simp only [e1, e2, e3, h1, h2, tSl_eq, tSlI_eq, tSo_eq, tSoI_eq, tCol_eq, tSlN_eq, tColN_eq, tColB_eq, tRow_eq, dite_true, dite_false,
      show t.val + 1 + 5 = t.val + 6 from rfl, show t.val + 1 - 3 = t.val - 2 by omega, show t.val + 1 - 1 = t.val from rfl,
      show (3 ≤ t.val + 1) = (2 ≤ t.val) by apply propext; omega] <;> rfl

/-- A trip of the printed loop. -/
theorem tripP_trip : (tripP t : P F) = trip (t.val + 1) (by have := t_lt t; omega) := (tripP_eq t).trans (tripC_eq t)

end Cert.Kernel.Model

end
-- ==== Proof.Loop.lean ====
/- One step of the kernel's loop: what is held before it and after it. -/
module

public import proofs.«01_k».proof.Proof.Copies
public import proofs.«01_k».proof.Proof.Chunks
public import proofs.«01_k».proof.Proof.Same

@[expose] public section

set_option maxHeartbeats 1000000

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (Pipeline.UD sig nD τ) ℕ

variable {c : Dev nD} {α : Type}

variable (X : Vec F S256x3584 .bf16) (W : Vec F S3584x18944 .bf16) (A : Vec F S1x3584 .f32)

/-! ## What is held -/

/-- A slot of the ring of weights not in use. -/
def FreeW (c : Dev nD) (sl : ℕ) (hs : sl < 6) : sProp 𝕄 :=
  iprop(∃ f : S6x3584x256.Idx → Elt F .bf16, O c mWr (blk (s := S6x3584x256) 0 1 sl) f ∗ Sv c (wSem sl hs))
/-- A slot of the ring of codes, and of the ring of products, not in use. -/
def FreeC (c : Dev nD) (so : ℕ) (hs : so < 2) : sProp 𝕄 :=
  iprop(∃ f : S2x3584x256.Idx → Elt F .i8, O c mCr (blk (s := S2x3584x256) 0 1 so) f ∗ Sv c (cSem so hs))
@[inherit_doc FreeC] def FreeY (c : Dev nD) (so : ℕ) (hs : so < 2) : sProp 𝕄 :=
  iprop(∃ f : S2x256x256.Idx → Elt F .bf16, O c mYr (blk (s := S2x256x256) 0 1 so) f ∗ Sv c (ySem so hs))

/-- What the ring's slot for block `b` holds: the block on its way, or nothing once there are no more blocks. -/
def SlotW (c : Dev nD) (b : ℕ) : sProp 𝕄 :=
  if h : b < 74 then FlW W c (b % 6) (Nat.mod_lt _ (by omega)) b h else FreeW c (b % 6) (Nat.mod_lt _ (by omega))

/-- What the ring of codes' slot for step `n` holds before that step: the block of three steps before on its way, or nothing. -/
def SlotC (c : Dev nD) (n : ℕ) : sProp 𝕄 :=
  if h : 3 ≤ n ∧ n < 77 then FlC X W A c (n % 2) (Nat.mod_lt _ (by omega)) (n - 3) (by omega) else FreeC c (n % 2) (Nat.mod_lt _ (by omega))
@[inherit_doc SlotC] def SlotY (c : Dev nD) (n : ℕ) : sProp 𝕄 :=
  if h : 3 ≤ n ∧ n < 77 then FlY X W A c (n % 2) (Nat.mod_lt _ (by omega)) (n - 3) (by omega) else FreeY c (n % 2) (Nat.mod_lt _ (by omega))

/-- The codes and the product of the blocks before `n`. -/
def Sent (c : Dev nD) (n : ℕ) : sProp 𝕄 :=
  iprop(O c mC (lo (s := S3584x18944) 1 256 n) (cG X W A) ∗ O c mY (lo (s := S256x18944) 1 256 n) (yG X W A))

/-- The room for the blocks from `n` on. -/
def Room (c : Dev nD) (n : ℕ) : sProp 𝕄 :=
  iprop((∃ f : S3584x18944.Idx → Elt F .i8, O c mC (hi (s := S3584x18944) 1 256 n) f) ∗ ∃ f : S256x18944.Idx → Elt F .bf16, O c mY (hi (s := S256x18944) 1 256 n) f)

/-- What every step reads. -/
def Reads (c : Dev nD) : sProp 𝕄 :=
  iprop(O c mXq Finset.univ (xqAll X A) ∗ O c mXsb Finset.univ (xsbAll X A) ∗ O c mSb Finset.univ (sbAll X A))

/-- Block `b`'s scales and their inverses. -/
def Scales (c : Dev nD) (b : ℕ) (hb : b < 74) : sProp 𝕄 :=
  iprop(∃ f : S1x256.Idx → Elt F .f32, ∃ g : S1x256.Idx → Elt F .f32, ⌜RowIs (scaleSt X W A b hb) f ∧ RowIs (invSt X W A b hb) g⌝ ∗ O c mScale Finset.univ f ∗ O c mInv Finset.univ g)

/-- The scales of the first `n` blocks. -/
def Wsc (c : Dev nD) (n : ℕ) : sProp 𝕄 :=
  iprop(∃ f : S74x256.Idx → Elt F .f32, ⌜Is eWsc (scaleB X W A) n f⌝ ∗ O c mWsc Finset.univ f)

/-- Block `b` scaled. -/
def Scaled (c : Dev nD) (b : ℕ) (hb : b < 74) : sProp 𝕄 :=
  iprop(∃ f : S3584x256.Idx → Elt F .f32, ⌜WsIs X W A b hb (· < 112) f⌝ ∗ O c mWs Finset.univ f)

/-- Block `b` in its slot. -/
def Here (c : Dev nD) (sl : ℕ) (hs : sl < 6) (b : ℕ) (hb : b < 74) : sProp 𝕄 :=
  iprop(∃ f : S6x3584x256.Idx → Elt F .bf16, ⌜WrIs W sl hs b hb f⌝ ∗ O c mWr (blk (s := S6x3584x256) 0 1 sl) f)

variable {X W A}

theorem FreeW_congr {sl sl' : ℕ} {hs : sl < 6} {hs' : sl' < 6} (h : sl = sl') : FreeW (F := F) c sl hs = FreeW c sl' hs' := by subst h; rfl

theorem SlotW_lt {b : ℕ} (h : b < 74) : SlotW W c b = FlW W c (b % 6) (Nat.mod_lt _ (by omega)) b h := dif_pos h
theorem SlotW_ge {b : ℕ} (h : ¬ b < 74) : SlotW W c b = FreeW c (b % 6) (Nat.mod_lt _ (by omega)) := dif_neg h
theorem SlotC_fl {n : ℕ} (h : 3 ≤ n ∧ n < 77) : SlotC X W A c n = FlC X W A c (n % 2) (Nat.mod_lt _ (by omega)) (n - 3) (by omega) := dif_pos h
theorem SlotY_fl {n : ℕ} (h : 3 ≤ n ∧ n < 77) : SlotY X W A c n = FlY X W A c (n % 2) (Nat.mod_lt _ (by omega)) (n - 3) (by omega) := dif_pos h

theorem FlC_congr {so so' : ℕ} {hs : so < 2} {hs' : so' < 2} {b b' : ℕ} {hb : b < 74} {hb' : b' < 74} (h : so = so') (e : b = b') :
    FlC X W A c so hs b hb = FlC X W A c so' hs' b' hb' := by subst h; subst e; rfl
theorem FlY_congr {so so' : ℕ} {hs : so < 2} {hs' : so' < 2} {b b' : ℕ} {hb : b < 74} {hb' : b' < 74} (h : so = so') (e : b = b') :
    FlY X W A c so hs b hb = FlY X W A c so' hs' b' hb' := by subst h; subst e; rfl

/-! ## Between the chunks -/

/-- The buffer of scaled weights while block `i` replaces block `b`, before chunk `r`. -/
def Mix (X : Vec F S256x3584 .bf16) (W : Vec F S3584x18944 .bf16) (A : Vec F S1x3584 .f32) (c : Dev nD) (b : ℕ) (hb : b < 74) (sl : ℕ) (hs : sl < 6) (i : ℕ) (hi : i < 74) (r : ℕ) (a : Amax F) : sProp 𝕄 :=
  iprop(∃ f : S3584x256.Idx → Elt F .f32, ⌜WsIs X W A b hb (r ≤ ·) f ∧ WsIs X W A i hi (· < r) f ∧ ∃ h : r ≤ 112, a = amaxSt X W A i hi r h⌝
    ∗ O c mWs Finset.univ f ∗ Here W c sl hs i hi ∗ O c mSb Finset.univ (sbAll X A))

theorem mixOk {b : ℕ} {hb : b < 74} {sl : ℕ} {hs : sl < 6} {i : ℕ} {hi : i < 74} {Q : α → sProp 𝕄} :
    NextOk (c := c) (wPart sl hs) (Mix X W A c b hb sl hs i hi) (wsSt X W A b hb) Q where
  lend r h a := by
    unfold Mix
    iintro ⟨%f, %hf, H, H'⟩
    iexists f
    isplitr
    · ipureintro; exact hf.1 r h (Nat.le_refl _)
    isplitl [H]; · iexact H
    iintro H
    iexists f
    isplitr
    · ipureintro; exact hf
    isplitl [H]; · iexact H
    iexact H'
  next r h a k := by
    unfold Mix Here
    iintro ⟨%f, %hf, H, ⟨%fr, %hfr, Hr⟩, Hb⟩ Hk
    obtain ⟨h1, h2, h3, rfl⟩ := hf
    iapply (wp_w (h := h) (wvCh W i hi r h) (hfr r h)) $$ [H Hr Hb]
    · isplitl [Hr]; · iexact Hr
      isplitl [Hb]; · iexact Hb
      iexact H
    iintro %f' %hf' Hr Hb H
    iapply Hk
    iexists f'
    isplitr
    · ipureintro
      exact ⟨WsIs_keep (h := h) h1 hf'.2, WsIs_succ (h := h) h2 hf'.1 hf'.2, h, rfl⟩
    isplitl [H]; · iexact H
    isplitl [Hr]
    · iexists fr
      isplitr
      · ipureintro; exact hfr
      iexact Hr
    iexact Hb

/-- The buffer of scaled weights of the last block. -/
def Still (X : Vec F S256x3584 .bf16) (W : Vec F S3584x18944 .bf16) (A : Vec F S1x3584 .f32) (c : Dev nD) (b : ℕ) (hb : b < 74) (r : ℕ) (a : Amax F) : sProp 𝕄 := Scaled X W A c b hb

theorem stillOk {b : ℕ} {hb : b < 74} {Q : α → sProp 𝕄} : NextOk (c := c) noNext (Still X W A c b hb) (wsSt X W A b hb) Q where
  lend r h a := by
    unfold Still Scaled
    iintro ⟨%f, %hf, H⟩
    iexists f
    isplitr
    · ipureintro; exact hf r h h
    isplitl [H]; · iexact H
    iintro H
    iexists f
    isplitr
    · ipureintro; exact hf
    iexact H
  next r h a k := by
    unfold Still noNext
    iintro H Hk
    iapply Hk $$ H

/-! ## The parts of a step -/

/-- The copy of the block five ahead started, if there is one. -/
theorem wp_ahead {Q : α → sProp 𝕄} {k : PUnit → P F α} {i : ℕ} :
    iprop(FreeW c ((i + 5) % 6) (Nat.mod_lt _ (by omega)) ∗ O c mW (hi (s := S3584x18944) 1 256 (i + 5)) W) ⊢
    iprop((SlotW W c (i + 5) -∗ O c mW (hi (s := S3584x18944) 1 256 (i + 6)) W -∗ Wp c (k ⟨⟩) Q)
      -∗ Wp c ((if h : i + 5 < 74 then startW ((i + 5) % 6) (by omega) (256 * (i + 5)) (by omega) (.ret ⟨⟩) else .ret ⟨⟩ : P F) >>= k) Q) := by
  unfold SlotW
  by_cases h : i + 5 < 74
  · rw [dif_pos h, dif_pos h]
    change _ ⊢ iprop(_ -∗ Wp c (startW _ _ _ _ (k ⟨⟩)) Q)
    unfold FreeW
    iintro ⟨⟨%f, H, HS⟩, HW⟩ Hk
    ihave HW := (take_blk (ℓ := mW.view.loc (c : Thread nD τ)) 1 256 (i + 5) W) $$ HW
    icases HW with ⟨HW1, HW2⟩
    iapply (wp_startW h) $$ [H HS HW1]
    · isplitl [HW1]; · iexact HW1
      isplitl [H]; · iexact H
      iexact HS
    iintro HF
    iapply Hk $$ HF HW2
  · rw [dif_neg h, dif_neg h, hi_top (s := S3584x18944) 1 256 (n := i + 5) (by show 18944 ≤ _; omega), hi_top (s := S3584x18944) 1 256 (n := i + 6) (by show 18944 ≤ _; omega)]
    change _ ⊢ iprop(_ -∗ Wp c (k ⟨⟩) Q)
    iintro ⟨H, HW⟩ Hk
    iapply Hk $$ H HW

/-- One block of codes and of the product awaited. -/
theorem wp_sent {Q : α → sProp 𝕄} {k : P F α} {so : ℕ} {hs : so < 2} {b : ℕ} {hb : b < 74} {h : 256 * b + 256 ≤ 18944} :
    iprop(FlC X W A c so hs b hb ∗ FlY X W A c so hs b hb ∗ Sent X W A c b ∗ Ow F c) ⊢
    iprop((FreeC c so hs -∗ FreeY c so hs -∗ Sent X W A c (b + 1) -∗ Ow F c -∗ Wp c k Q)
      -∗ Wp c (waitC so hs (256 * b) h (waitY so hs (256 * b) h k)) Q) := by
  unfold Sent FreeC FreeY
  iintro ⟨HC, HY, ⟨HDC, HDY⟩, HO⟩ Hk
  iapply wp_waitC $$ [HC HO]
  · isplitl [HC]; · iexact HC
    iexact HO
  iintro %g Hg HC HSC HO
  iapply wp_waitY $$ [HY HO]
  · isplitl [HY]; · iexact HY
    iexact HO
  iintro %g' Hg' HY HSY HO
  iapply Hk $$ [Hg HSC] [Hg' HSY] [HDC HC HDY HY] HO
  · iexists g
    isplitl [Hg]; · iexact Hg
    iexact HSC
  · iexists g'
    isplitl [Hg']; · iexact Hg'
    iexact HSY
  · isplitl [HDC HC]
    · iapply (give_blk (ℓ := mC.view.loc (c : Thread nD τ)) 1 256 b (cG X W A))
      isplitl [HDC]; · iexact HDC
      iexact HC
    · iapply (give_blk (ℓ := mY.view.loc (c : Thread nD τ)) 1 256 b (yG X W A))
      isplitl [HDY]; · iexact HDY
      iexact HY

/-- The slots of the two rings for a step made free. -/
theorem wp_behind {Q : α → sProp 𝕄} {k : PUnit → P F α} {i : ℕ} (hi : i < 74) :
    iprop(SlotC X W A c i ∗ SlotY X W A c i ∗ Sent X W A c (i - 3) ∗ Ow F c) ⊢
    iprop((FreeC c (i % 2) (Nat.mod_lt _ (by omega)) -∗ FreeY c (i % 2) (Nat.mod_lt _ (by omega)) -∗ Sent X W A c (i - 2) -∗ Ow F c -∗ Wp c (k ⟨⟩) Q)
      -∗ Wp c ((if h : 3 ≤ i then waitC (i % 2) (by omega) (256 * (i - 3)) (by omega) <| waitY (i % 2) (by omega) (256 * (i - 3)) (by omega) (.ret ⟨⟩) else .ret ⟨⟩ : P F) >>= k) Q) := by
  unfold SlotC SlotY
  by_cases h : 3 ≤ i
  · rw [dif_pos h, dif_pos ⟨h, by omega⟩, dif_pos ⟨h, by omega⟩, show i - 2 = i - 3 + 1 by omega]
    change _ ⊢ iprop(_ -∗ Wp c (waitC _ _ _ _ (waitY _ _ _ _ (k ⟨⟩))) Q)
    exact wp_sent
  · rw [dif_neg h, dif_neg (fun H => h H.1), dif_neg (fun H => h H.1), show i - 2 = i - 3 by omega]
    change _ ⊢ iprop(_ -∗ Wp c (k ⟨⟩) Q)
    iintro ⟨H1, H2, H3, H4⟩ Hk
    iapply Hk $$ H1 H2 H3 H4

/-- The work of a step. -/
theorem wp_stepRest {Q : α → sProp 𝕄} {k : P F α} {so : ℕ} {hso : so < 2} {sl : ℕ} {hsl : sl < 6} {b : ℕ} (hb : b < 74) {i : ℕ} {hi' : i < 74} {ho : 256 * b + 256 ≤ 18944} :
    iprop(Scales X W A c b hb ∗ Wsc X W A c i ∗ Scaled X W A c b hb ∗ Reads X A c ∗ Here W c sl hsl i hi' ∗ FreeC c so hso ∗ FreeY c so hso ∗ Room c b) ⊢
    iprop((Scales X W A c i hi' -∗ Wsc X W A c (i + 1) -∗ Scaled X W A c i hi' -∗ Reads X A c -∗ Here W c sl hsl i hi'
        -∗ FlC X W A c so hso b hb -∗ FlY X W A c so hso b hb -∗ Room c (b + 1) -∗ Wp c k Q)
      -∗ Wp c (stepRest so hso sl hsl so hso (256 * b) ho i hi' k) Q) := by
  unfold Scales Wsc Reads FreeC FreeY Room
  iintro ⟨⟨%fs, %fi, %hfs, Hs, Hi⟩, ⟨%fw, %hfw, Hw⟩, HX, ⟨Hq, Hxb, Hb⟩, HH, ⟨%fc, Hc, HSc⟩, ⟨%fy, Hy, HSy⟩, ⟨⟨%rc, Hrc⟩, ⟨%ry, Hry⟩⟩⟩ Hk
  unfold stepRest
  iapply (wp_ld Variants.none (c : Thread nD τ) none (m := mInv) (r := rRow) (f := fi) (fun _ => Finset.mem_univ _) (invSt X W A b hb) (funext fun x => hfs.2 x)) $$ Hi
  iintro Hi
  iapply (wp_ld Variants.none (c : Thread nD τ) none (m := mScale) (r := rRow) (f := fs) (fun _ => Finset.mem_univ _) (scaleSt X W A b hb) (funext fun x => hfs.1 x)) $$ Hs
  iintro Hs
  iapply (wp_groups (St := Mix X W A c b hb sl hsl i hi') mixOk 14 0 (by omega) rfl none fc (fun r h hr => absurd hr (by omega))) $$ [HX HH Hb Hc Hq]
  · isplitl [HX HH Hb]
    · unfold Mix Scaled
      icases HX with ⟨%f, %hf, HX⟩
      iexists f
      isplitr
      · ipureintro
        exact ⟨fun r h _ => hf r h h, fun r h hr => absurd hr (by omega), by omega, rfl⟩
      isplitl [HX]; · iexact HX
      isplitl [HH]; · iexact HH
      iexact Hb
    isplitl [Hc]; · iexact Hc
    iexact Hq
  iintro %g %a %hg HM Hc Hq
  unfold Mix
  icases HM with ⟨%f, %hf, HX, HH, Hb⟩
  obtain ⟨-, hf, -, rfl⟩ := hf
  iapply wp_putY $$ [Hxb Hy]
  · isplitl [Hxb]; · iexact Hxb
    iexact Hy
  iintro %gy %hgy Hxb Hy
  ihave Hrc := (take_blk (ℓ := mC.view.loc (c : Thread nD τ)) 1 256 b rc) $$ Hrc
  icases Hrc with ⟨Hrc1, Hrc⟩
  ihave Hry := (take_blk (ℓ := mY.view.loc (c : Thread nD τ)) 1 256 b ry) $$ Hry
  icases Hry with ⟨Hry1, Hry⟩
  iapply (wp_startC hb hg) $$ [Hc Hrc1 HSc]
  · isplitl [Hc]; · iexact Hc
    isplitl [Hrc1]; · iexact Hrc1
    iexact HSc
  iintro HFC
  iapply (wp_startY hb hgy) $$ [Hy Hry1 HSy]
  · isplitl [Hy]; · iexact Hy
    isplitl [Hry1]; · iexact Hry1
    iexact HSy
  iintro HFY
  iapply (wp_putScale hfw) $$ [Hs Hi Hw]
  · isplitl [Hs]; · iexact Hs
    isplitl [Hi]; · iexact Hi
    iexact Hw
  iintro %fs' %fi' %fw' %h' Hs Hi Hw
  iapply Hk $$ [Hs Hi] [Hw] [HX] [Hq Hxb Hb] HH HFC HFY [Hrc Hry]
  · iexists fs'; iexists fi'
    isplitr
    · ipureintro; exact ⟨h'.1, h'.2.1⟩
    isplitl [Hs]; · iexact Hs
    iexact Hi
  · iexists fw'
    isplitr
    · ipureintro; exact h'.2.2
    iexact Hw
  · unfold Scaled
    iexists f
    isplitr
    · ipureintro; exact hf
    iexact HX
  · isplitl [Hq]; · iexact Hq
    isplitl [Hxb]; · iexact Hxb
    iexact Hb
  · isplitl [Hrc]
    · iexists rc; iexact Hrc
    · iexists ry; iexact Hry

/-- A program that has ended. -/
theorem wp_done {a : α} {Q : α → sProp 𝕄} : Q a ⊢ Wp c (.ret a) Q := by
  show _ ⊢ wp frame _ _ _ _
  rw [wp_ret]; exact fupd_intro

/-! ## A step -/

/-- What is held before step `i`. -/
def Inv (X : Vec F S256x3584 .bf16) (W : Vec F S3584x18944 .bf16) (A : Vec F S1x3584 .f32) (c : Dev nD) (i : ℕ) : sProp 𝕄 :=
  iprop(∃ h : i - 1 < 74, Scales X W A c (i - 1) h ∗ Wsc X W A c i ∗ Scaled X W A c (i - 1) h ∗ Reads X A c
    ∗ (SlotW W c i ∗ SlotW W c (i + 1) ∗ SlotW W c (i + 2) ∗ SlotW W c (i + 3) ∗ SlotW W c (i + 4) ∗ FreeW c ((i + 5) % 6) (Nat.mod_lt _ (by omega)))
    ∗ O c mW (lo (s := S3584x18944) 1 256 i) W ∗ O c mW (hi (s := S3584x18944) 1 256 (i + 5)) W
    ∗ (SlotC X W A c i ∗ SlotC X W A c (i + 1)) ∗ (SlotY X W A c i ∗ SlotY X W A c (i + 1))
    ∗ Sent X W A c (i - 3) ∗ Room c (i - 1) ∗ Ow F c)

/-- A step leads from what is held before it to what is held before the next. -/
theorem wp_trip {i : ℕ} (h0 : 1 ≤ i) (hi' : i < 74) : Inv X W A c i ⊢ Wp c (trip i hi') fun _ => Inv X W A c (i + 1) := by
  have e1 : i + 1 - 1 = i := by omega
  have e2 : i + 1 + 1 - 3 = i - 1 := by omega
  have e3 : i + 1 - 3 = i - 2 := by omega
  have hb : i - 1 < 74 := by omega
  unfold trip
  iintro HI
  unfold Inv
  icases HI with ⟨%hb', Hsc, Hwsc, Hws, HR, ⟨HW0, HW1, HW2, HW3, HW4, HW5⟩, HWl, HWh, ⟨HC0, HC1⟩, ⟨HY0, HY1⟩, Hsent, Hroom, HO⟩
  ihave HW0 := (show SlotW W c i ⊢ FlW W c (i % 6) (Nat.mod_lt _ (by omega)) i hi' from by rw [SlotW_lt hi']) $$ HW0
  iapply wp_waitW $$ [HW0 HO]
  · isplitl [HW0]; · iexact HW0
    iexact HO
  iintro %f %hf Hr HWb HS HO
  iapply wp_ahead $$ [HW5 HWh]
  · isplitl [HW5]; · iexact HW5
    iexact HWh
  iintro HW5 HWh
  iapply (wp_behind hi') $$ [HC0 HY0 Hsent HO]
  · isplitl [HC0]; · iexact HC0
    isplitl [HY0]; · iexact HY0
    isplitl [Hsent]; · iexact Hsent
    iexact HO
  iintro HC0 HY0 Hsent HO
  iapply (wp_stepRest hb) $$ [Hsc Hwsc Hws HR Hr HC0 HY0 Hroom]
  · isplitl [Hsc]; · iexact Hsc
    isplitl [Hwsc]; · iexact Hwsc
    isplitl [Hws]; · iexact Hws
    isplitl [HR]; · iexact HR
    isplitl [Hr]
    · unfold Here
      iexists f
      isplitr
      · ipureintro; exact hf
      iexact Hr
    isplitl [HC0]; · iexact HC0
    isplitl [HY0]; · iexact HY0
    iexact Hroom
  iintro Hsc Hwsc Hws HR HH HFC HFY Hroom
  ihave HFC := (show FlC X W A c (i % 2) (Nat.mod_lt _ (by omega)) (i - 1) hb ⊢ SlotC X W A c (i + 1 + 1) from by
    rw [SlotC_fl ⟨by omega, by omega⟩, FlC_congr (hs' := Nat.mod_lt _ (by omega)) (hb' := by omega) (show i % 2 = (i + 1 + 1) % 2 by omega) (show i - 1 = i + 1 + 1 - 3 by omega)]) $$ HFC
  ihave HFY := (show FlY X W A c (i % 2) (Nat.mod_lt _ (by omega)) (i - 1) hb ⊢ SlotY X W A c (i + 1 + 1) from by
    rw [SlotY_fl ⟨by omega, by omega⟩, FlY_congr (hs' := Nat.mod_lt _ (by omega)) (hb' := by omega) (show i % 2 = (i + 1 + 1) % 2 by omega) (show i - 1 = i + 1 + 1 - 3 by omega)]) $$ HFY
  iapply wp_done
  iexists (show i + 1 - 1 < 74 from hi')
  isplitl [Hsc]; · iexact Hsc
  isplitl [Hwsc]; · iexact Hwsc
  isplitl [Hws]; · iexact Hws
  isplitl [HR]; · iexact HR
  isplitl [HW1 HW2 HW3 HW4 HW5 HH HS]
  · isplitl [HW1]; · iexact HW1
    isplitl [HW2]; · iexact HW2
    isplitl [HW3]; · iexact HW3
    isplitl [HW4]; · iexact HW4
    isplitl [HW5]; · iexact HW5
    rw [FreeW_congr (hs' := Nat.mod_lt i (by omega)) (show (i + 1 + 5) % 6 = i % 6 by omega)]
    unfold Here FreeW
    icases HH with ⟨%g, -, HH⟩
    iexists g
    isplitl [HH]; · iexact HH
    iexact HS
  isplitl [HWl HWb]
  · iapply (give_blk (ℓ := mW.view.loc (c : Thread nD τ)) 1 256 i W)
    isplitl [HWl]; · iexact HWl
    iexact HWb
  isplitl [HWh]; · iexact HWh
  isplitl [HC1 HFC]
  · isplitl [HC1]; · iexact HC1
    iexact HFC
  isplitl [HY1 HFY]
  · isplitl [HY1]; · iexact HY1
    iexact HFY
  isplitl [Hsent]
  · rw [e3]; iexact Hsent
  isplitl [Hroom]
  · rw [show i + 1 - 1 = i - 1 + 1 by omega]; iexact Hroom
  iexact HO

end Cert.Kernel.Model

end
-- ==== Proof.Body.lean ====
/- The kernel's whole body: what it leaves in every buffer. -/
module

public import proofs.«01_k».proof.Proof.Loop

@[expose] public section

set_option maxHeartbeats 1000000

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen
open Idealize.ShloMosaic.ValueIdx (ix1 ix2 ix3)

variable {F : FTy → Type} [FloatOps F]

local notation "𝕄" => MT nD τ sig Unit (Elt F) ℕ (Pipeline.UD sig nD τ) ℕ

variable {c : Dev nD} {α : Type}

variable {X : Vec F S256x3584 .bf16} {W : Vec F S3584x18944 .bf16} {A : Vec F S1x3584 .f32}

/-! ## The rings' slots -/

/-- The whole of a buffer is all its blocks from the first on. -/
theorem all_hi {ℓ : Loc nD τ sig} (a : Fin ℓ.ty.shape.rank) (k : ℕ) (f : Buf (Elt F) ℓ) :
    (ℓ ↦[Finset.univ]{fullShare} f : sProp 𝕄) ⊢ ℓ ↦[hi a k 0]{fullShare} f := by rw [hi_zero]

/-- Nothing is the blocks before the first. -/
theorem none_lo {ℓ : Loc nD τ sig} (a : Fin ℓ.ty.shape.rank) (k : ℕ) (f : Buf (Elt F) ℓ) :
    (BI.emp : sProp 𝕄) ⊢ ℓ ↦[lo a k 0]{fullShare} f := by rw [lo_zero, pointsTo_empty]; exact .rfl

/-- The blocks before the end are the whole. -/
theorem lo_all {ℓ : Loc nD τ sig} (a : Fin ℓ.ty.shape.rank) (k n : ℕ) (h : ℓ.ty.shape.size a ≤ k * n) (f : Buf (Elt F) ℓ) :
    (ℓ ↦[lo a k n]{fullShare} f : sProp 𝕄) ⊢ ℓ ↦[Finset.univ]{fullShare} f := by rw [lo_top a k h]

theorem split_C (f : S2x3584x256.Idx → Elt F .i8) :
    iprop(O c mCr Finset.univ f ∗ Sv c (cSem 0 (by omega)) ∗ Sv c (cSem 1 (by omega))) ⊢ iprop(FreeC c 0 (by omega) ∗ FreeC c 1 (by omega)) := by
  iintro ⟨H, H0, H1⟩
  ihave H := (all_hi (ℓ := mCr.view.loc (c : Thread nD τ)) 0 1 f) $$ H
  ihave H := (take_blk (ℓ := mCr.view.loc (c : Thread nD τ)) 0 1 0 f) $$ H
  icases H with ⟨HA, H⟩
  ihave H := (take_blk (ℓ := mCr.view.loc (c : Thread nD τ)) 0 1 1 f) $$ H
  icases H with ⟨HB, -⟩
  unfold FreeC
  isplitl [HA H0]
  · iexists f
    isplitl [HA]; · iexact HA
    iexact H0
  · iexists f
    isplitl [HB]; · iexact HB
    iexact H1

theorem join_C :
    iprop(FreeC (F := F) c 0 (by omega) ∗ FreeC c 1 (by omega)) ⊢ iprop((∃ f : S2x3584x256.Idx → Elt F .i8, O c mCr Finset.univ f) ∗ Sv c (cSem 0 (by omega)) ∗ Sv c (cSem 1 (by omega))) := by
  unfold FreeC
  iintro ⟨⟨%f, HA, H0⟩, ⟨%g, HB, H1⟩⟩
  isplitl [HA HB]
  · ihave H := (give_blk_ex (F := F) (ℓ := mCr.view.loc (c : Thread nD τ)) 0 1 0) $$ [HA]
    · isplitr
      · iexists f
        iapply (none_lo (ℓ := mCr.view.loc (c : Thread nD τ)) 0 1 f); iempintro
      iexists f; iexact HA
    ihave H := (give_blk_ex (F := F) (ℓ := mCr.view.loc (c : Thread nD τ)) 0 1 1) $$ [H HB]
    · isplitl [H]; · iexact H
      iexists g; iexact HB
    icases H with ⟨%e, H⟩
    iexists e
    iapply (lo_all (ℓ := mCr.view.loc (c : Thread nD τ)) 0 1 2 (Nat.le_refl _) e) $$ H
  isplitl [H0]; · iexact H0
  iexact H1

theorem split_Y (f : S2x256x256.Idx → Elt F .bf16) :
    iprop(O c mYr Finset.univ f ∗ Sv c (ySem 0 (by omega)) ∗ Sv c (ySem 1 (by omega))) ⊢ iprop(FreeY c 0 (by omega) ∗ FreeY c 1 (by omega)) := by
  iintro ⟨H, H0, H1⟩
  ihave H := (all_hi (ℓ := mYr.view.loc (c : Thread nD τ)) 0 1 f) $$ H
  ihave H := (take_blk (ℓ := mYr.view.loc (c : Thread nD τ)) 0 1 0 f) $$ H
  icases H with ⟨HA, H⟩
  ihave H := (take_blk (ℓ := mYr.view.loc (c : Thread nD τ)) 0 1 1 f) $$ H
  icases H with ⟨HB, -⟩
  unfold FreeY
  isplitl [HA H0]
  · iexists f
    isplitl [HA]; · iexact HA
    iexact H0
  · iexists f
    isplitl [HB]; · iexact HB
    iexact H1

theorem join_Y :
    iprop(FreeY (F := F) c 0 (by omega) ∗ FreeY c 1 (by omega)) ⊢ iprop((∃ f : S2x256x256.Idx → Elt F .bf16, O c mYr Finset.univ f) ∗ Sv c (ySem 0 (by omega)) ∗ Sv c (ySem 1 (by omega))) := by
  unfold FreeY
  iintro ⟨⟨%f, HA, H0⟩, ⟨%g, HB, H1⟩⟩
  isplitl [HA HB]
  · ihave H := (give_blk_ex (F := F) (ℓ := mYr.view.loc (c : Thread nD τ)) 0 1 0) $$ [HA]
    · isplitr
      · iexists f
        iapply (none_lo (ℓ := mYr.view.loc (c : Thread nD τ)) 0 1 f); iempintro
      iexists f; iexact HA
    ihave H := (give_blk_ex (F := F) (ℓ := mYr.view.loc (c : Thread nD τ)) 0 1 1) $$ [H HB]
    · isplitl [H]; · iexact H
      iexists g; iexact HB
    icases H with ⟨%e, H⟩
    iexists e
    iapply (lo_all (ℓ := mYr.view.loc (c : Thread nD τ)) 0 1 2 (Nat.le_refl _) e) $$ H
  isplitl [H0]; · iexact H0
  iexact H1

/-- A slot taken off those that remain. -/
theorem split_W1 {sl : ℕ} (hs : sl < 6) (f : S6x3584x256.Idx → Elt F .bf16) :
    iprop(O c mWr (hi (s := S6x3584x256) 0 1 sl) f ∗ Sv c (wSem sl hs)) ⊢ iprop(FreeW c sl hs ∗ O c mWr (hi (s := S6x3584x256) 0 1 (sl + 1)) f) := by
  iintro ⟨H, H0⟩
  ihave H := (take_blk (ℓ := mWr.view.loc (c : Thread nD τ)) 0 1 sl f) $$ H
  icases H with ⟨HA, H⟩
  unfold FreeW
  isplitl [HA H0]
  · iexists f
    isplitl [HA]; · iexact HA
    iexact H0
  iexact H

/-- A slot put behind those before it. -/
theorem join_W1 {sl : ℕ} (hs : sl < 6) :
    iprop((∃ f : S6x3584x256.Idx → Elt F .bf16, O c mWr (lo (s := S6x3584x256) 0 1 sl) f) ∗ FreeW c sl hs)
      ⊢ iprop((∃ f : S6x3584x256.Idx → Elt F .bf16, O c mWr (lo (s := S6x3584x256) 0 1 (sl + 1)) f) ∗ Sv c (wSem sl hs)) := by
  unfold FreeW
  iintro ⟨H, ⟨%f, HA, H0⟩⟩
  isplitl [H HA]
  · iapply (give_blk_ex (F := F) (ℓ := mWr.view.loc (c : Thread nD τ)) 0 1 sl)
    isplitl [H]; · iexact H
    iexists f; iexact HA
  iexact H0

/-- The semaphores of the ring of weights. -/
abbrev SemsW (F : FTy → Type) [FloatOps F] (c : Dev nD) : sProp (MT nD τ sig Unit (Elt F) ℕ (Pipeline.UD sig nD τ) ℕ) :=
  iprop(Sv c (wSem 0 (by omega)) ∗ Sv c (wSem 1 (by omega)) ∗ Sv c (wSem 2 (by omega)) ∗ Sv c (wSem 3 (by omega)) ∗ Sv c (wSem 4 (by omega)) ∗ Sv c (wSem 5 (by omega)))

/-- All slots of the ring of weights. -/
abbrev FreeAll (F : FTy → Type) [FloatOps F] (c : Dev nD) : sProp (MT nD τ sig Unit (Elt F) ℕ (Pipeline.UD sig nD τ) ℕ) :=
  iprop(FreeW c 0 (by omega) ∗ FreeW c 1 (by omega) ∗ FreeW c 2 (by omega) ∗ FreeW c 3 (by omega) ∗ FreeW c 4 (by omega) ∗ FreeW c 5 (by omega))

theorem split_W (f : S6x3584x256.Idx → Elt F .bf16) : iprop(O c mWr Finset.univ f ∗ SemsW F c) ⊢ FreeAll F c := by
  iintro ⟨H, H0, H1, H2, H3, H4, H5⟩
  ihave H := (all_hi (ℓ := mWr.view.loc (c : Thread nD τ)) 0 1 f) $$ H
  ihave H := (split_W1 (sl := 0) (by omega) f) $$ [H H0]
  · isplitl [H]; · iexact H
    iexact H0
  icases H with ⟨H0, H⟩
  ihave H := (split_W1 (sl := 1) (by omega) f) $$ [H H1]
  · isplitl [H]; · iexact H
    iexact H1
  icases H with ⟨H1, H⟩
  ihave H := (split_W1 (sl := 2) (by omega) f) $$ [H H2]
  · isplitl [H]; · iexact H
    iexact H2
  icases H with ⟨H2, H⟩
  ihave H := (split_W1 (sl := 3) (by omega) f) $$ [H H3]
  · isplitl [H]; · iexact H
    iexact H3
  icases H with ⟨H3, H⟩
  ihave H := (split_W1 (sl := 4) (by omega) f) $$ [H H4]
  · isplitl [H]; · iexact H
    iexact H4
  icases H with ⟨H4, H⟩
  ihave H := (split_W1 (sl := 5) (by omega) f) $$ [H H5]
  · isplitl [H]; · iexact H
    iexact H5
  icases H with ⟨H5, -⟩
  iframe H0 H1 H2 H3 H4 H5

theorem join_W : FreeAll F c ⊢ iprop((∃ f : S6x3584x256.Idx → Elt F .bf16, O c mWr Finset.univ f) ∗ SemsW F c) := by
  iintro ⟨H0, H1, H2, H3, H4, H5⟩
  ihave H := (join_W1 (c := c) (F := F) (sl := 0) (by omega)) $$ [H0]
  · isplitr
    · iexists fun _ => Scalar.ofBits .bf16 0x0000#16
      iapply (none_lo (ℓ := mWr.view.loc (c : Thread nD τ)) 0 1 _); iempintro
    iexact H0
  icases H with ⟨H, H0⟩
  ihave H := (join_W1 (c := c) (F := F) (sl := 1) (by omega)) $$ [H H1]
  · isplitl [H]; · iexact H
    iexact H1
  icases H with ⟨H, H1⟩
  ihave H := (join_W1 (c := c) (F := F) (sl := 2) (by omega)) $$ [H H2]
  · isplitl [H]; · iexact H
    iexact H2
  icases H with ⟨H, H2⟩
  ihave H := (join_W1 (c := c) (F := F) (sl := 3) (by omega)) $$ [H H3]
  · isplitl [H]; · iexact H
    iexact H3
  icases H with ⟨H, H3⟩
  ihave H := (join_W1 (c := c) (F := F) (sl := 4) (by omega)) $$ [H H4]
  · isplitl [H]; · iexact H
    iexact H4
  icases H with ⟨H, H4⟩
  ihave H := (join_W1 (c := c) (F := F) (sl := 5) (by omega)) $$ [H H5]
  · isplitl [H]; · iexact H
    iexact H5
  icases H with ⟨⟨%f, H⟩, H5⟩
  isplitl [H]
  · iexists f
    iapply (lo_all (ℓ := mWr.view.loc (c : Thread nD τ)) 0 1 6 (Nat.le_refl _) f) $$ H
  iframe H0 H1 H2 H3 H4 H5

/-! ## Before the loop -/

/-- The copy of the next block started into a slot not in use. -/
theorem wp_fill {Q : α → sProp 𝕄} {k : P F α} {sl : ℕ} {hs : sl < 6} {b : ℕ} (hb : b < 74) {h : 256 * b + 256 ≤ 18944} :
    iprop(FreeW c sl hs ∗ O c mW (hi (s := S3584x18944) 1 256 b) W) ⊢
    iprop((FlW W c sl hs b hb -∗ O c mW (hi (s := S3584x18944) 1 256 (b + 1)) W -∗ Wp c k Q) -∗ Wp c (startW sl hs (256 * b) h k) Q) := by
  unfold FreeW
  iintro ⟨⟨%f, H, HS⟩, HW⟩ Hk
  ihave HW := (take_blk (ℓ := mW.view.loc (c : Thread nD τ)) 1 256 b W) $$ HW
  icases HW with ⟨HW1, HW2⟩
  iapply (wp_startW hb) $$ [H HS HW1]
  · isplitl [HW1]; · iexact HW1
    isplitl [H]; · iexact H
    iexact HS
  iintro HF
  iapply Hk $$ HF HW2

theorem whole_set (b : Ref sig .tc) : (View.whole b).set = Finset.univ := by
  ext i; simp [View.set]

/-- What the program reads throughout and what it writes only before its loop. -/
def Kept (X : Vec F S256x3584 .bf16) (A : Vec F S1x3584 .f32) (c : Dev nD) : sProp 𝕄 :=
  iprop(O c mX Finset.univ X ∗ O c mWabs Finset.univ A ∗ O c mS Finset.univ (sAll X A) ∗ O c mXc Finset.univ (xcAll X A) ∗ O c mXsc Finset.univ (xscAll X A)
    ∗ O c mXv Finset.univ X ∗ Sv c cc0_scratch10.sem)

/-- A buffer's elements, whatever they are. -/
abbrev Ex {sp : Space} {s : Shape} {e : EltTy} (F : FTy → Type) [FloatOps F] (c : Dev nD) (m : Memref sig .tc sp s e) : sProp (MT nD τ sig Unit (Elt F) ℕ (Pipeline.UD sig nD τ) ℕ) :=
  iprop(∃ f : Buf (Elt F) (m.view.loc (c : Thread nD τ)), O c m Finset.univ f)

/-- What the body starts with: the operands, room for the results and for everything between, and the semaphores. -/
def Start (X : Vec F S256x3584 .bf16) (W : Vec F S3584x18944 .bf16) (A : Vec F S1x3584 .f32) (c : Dev nD) : sProp 𝕄 :=
  iprop(O c mX Finset.univ X ∗ O c mW Finset.univ W ∗ O c mWabs Finset.univ A
    ∗ (Ex F c mS ∗ Ex F c mWsc ∗ Ex F c mXc ∗ Ex F c mXsc) ∗ (Ex F c mY ∗ Ex F c mC)
    ∗ (Ex F c mXv ∗ Ex F c mXq ∗ Ex F c mXsb ∗ Ex F c mSb ∗ Ex F c mWs ∗ Ex F c mInv ∗ Ex F c mScale ∗ Ex F c mWr ∗ Ex F c mCr ∗ Ex F c mYr)
    ∗ (Sv c cc0_scratch10.sem ∗ SemsW F c ∗ (Sv c (cSem 0 (by omega)) ∗ Sv c (cSem 1 (by omega))) ∗ (Sv c (ySem 0 (by omega)) ∗ Sv c (ySem 1 (by omega)))) ∗ Ow F c)

/-- What it ends with. -/
def Stop (X : Vec F S256x3584 .bf16) (W : Vec F S3584x18944 .bf16) (A : Vec F S1x3584 .f32) (c : Dev nD) : sProp 𝕄 :=
  iprop(O c mX Finset.univ X ∗ O c mW Finset.univ W ∗ O c mWabs Finset.univ A
    ∗ (O c mS Finset.univ (sAll X A) ∗ O c mWsc Finset.univ (wscAll X W A) ∗ O c mXc Finset.univ (xcAll X A) ∗ O c mXsc Finset.univ (xscAll X A))
    ∗ (O c mY Finset.univ (yG X W A) ∗ O c mC Finset.univ (cG X W A))
    ∗ (Ex F c mXv ∗ Ex F c mXq ∗ Ex F c mXsb ∗ Ex F c mSb ∗ Ex F c mWs ∗ Ex F c mInv ∗ Ex F c mScale ∗ Ex F c mWr ∗ Ex F c mCr ∗ Ex F c mYr)
    ∗ (Sv c cc0_scratch10.sem ∗ SemsW F c ∗ (Sv c (cSem 0 (by omega)) ∗ Sv c (cSem 1 (by omega))) ∗ (Sv c (ySem 0 (by omega)) ∗ Sv c (ySem 1 (by omega)))) ∗ Ow F c)

theorem slotW_of {b sl : ℕ} {hs : sl < 6} (hb : b < 74) (h : sl = b % 6) : FlW W c sl hs b hb ⊢ SlotW W c b := by
  subst h; rw [SlotW_lt hb]

theorem slotC_none {n so : ℕ} {hs : so < 2} (h : n < 3) (e : so = n % 2) : FreeC c so hs ⊢ SlotC X W A c n := by
  subst e; unfold SlotC; rw [dif_neg fun H => absurd H.1 (by omega)]
theorem slotY_none {n so : ℕ} {hs : so < 2} (h : n < 3) (e : so = n % 2) : FreeY c so hs ⊢ SlotY X W A c n := by
  subst e; unfold SlotY; rw [dif_neg fun H => absurd H.1 (by omega)]

theorem wp_pre {Q : α → sProp 𝕄} {k : P F α} : Start X W A c ⊢ iprop((Kept X A c -∗ Inv X W A c 1 -∗ Wp c k Q) -∗ Wp c (pre k) Q) := by
  unfold Start
  iintro ⟨HX, HW, HA, ⟨⟨%fs, Hs⟩, ⟨%fwsc, Hwsc⟩, ⟨%fxc, Hxc⟩, ⟨%fxsc, Hxsc⟩⟩, ⟨⟨%fy, Hy⟩, ⟨%fc, Hc⟩⟩,
    ⟨⟨%fxv, Hxv⟩, ⟨%fxq, Hxq⟩, ⟨%fxsb, Hxsb⟩, ⟨%fsb, Hsb⟩, ⟨%fws, Hws⟩, ⟨%fi, Hi⟩, ⟨%fsc, Hsc⟩, ⟨%fwr, Hwr⟩, ⟨%fcr, Hcr⟩, ⟨%fyr, Hyr⟩⟩,
    ⟨HS, HSW, HSC, HSY⟩, HO⟩ Hk
  unfold pre
  iapply (wp_start (EC F) Variants.none (c : Thread nD τ) none () pos_S256x3584 (whole_set main_v0) (whole_set cc0_scratch0) X (fun y => rfl)) $$ [HX Hxv HS]
  · isplitl [HX]; · iexact HX
    isplitl [Hxv]; · iexact Hxv
    iexact HS
  iintro HF
  ihave HW := (all_hi (ℓ := mW.view.loc (c : Thread nD τ)) 1 256 W) $$ HW
  ihave HWr := (split_W fwr) $$ [Hwr HSW]
  · isplitl [Hwr]; · iexact Hwr
    iexact HSW
  icases HWr with ⟨HW0, HW1, HW2, HW3, HW4, HW5⟩
  ihave HCr := (split_C fcr) $$ [Hcr HSC]
  · isplitl [Hcr]; · iexact Hcr
    iexact HSC
  icases HCr with ⟨HC0, HC1⟩
  ihave HYr := (split_Y fyr) $$ [Hyr HSY]
  · isplitl [Hyr]; · iexact Hyr
    iexact HSY
  icases HYr with ⟨HY0, HY1⟩
  iapply (wp_fill (b := 0) (by omega)) $$ [HW0 HW]
  · isplitl [HW0]; · iexact HW0
    iexact HW
  iintro HW0 HW
  iapply (wp_fill (b := 1) (by omega)) $$ [HW1 HW]
  · isplitl [HW1]; · iexact HW1
    iexact HW
  iintro HW1 HW
  iapply (wp_fill (b := 2) (by omega)) $$ [HW2 HW]
  · isplitl [HW2]; · iexact HW2
    iexact HW
  iintro HW2 HW
  iapply (wp_fill (b := 3) (by omega)) $$ [HW3 HW]
  · isplitl [HW3]; · iexact HW3
    iexact HW
  iintro HW3 HW
  iapply (wp_fill (b := 4) (by omega)) $$ [HW4 HW]
  · isplitl [HW4]; · iexact HW4
    iexact HW
  iintro HW4 HW
  iapply (wp_wait rfl) $$ [HF HO]
  · isplitl [HF]; · iexact HF
    iexact HO
  iintro ⟨Hxv, HX⟩ HS HO
  iapply (wp_colRun 28 0 rfl fs fsb (Is_zero _ _ _) (Is_zero _ _ _)) $$ [Hxv HA Hs Hsb]
  · isplitl [Hxv]; · iexact Hxv
    isplitl [HA]; · iexact HA
    isplitl [Hs]; · iexact Hs
    iexact Hsb
  iintro Hxv HA Hs Hsb
  iapply (wp_rowRun 8 0 rfl fxc fxq fxsb (Is_zero _ _ _) (Is_zero _ _ _) (Is_zero _ _ _)) $$ [Hxv Hs Hxc Hxq Hxsb]
  · isplitl [Hxv]; · iexact Hxv
    isplitl [Hs]; · iexact Hs
    isplitl [Hxc]; · iexact Hxc
    isplitl [Hxq]; · iexact Hxq
    iexact Hxsb
  iintro Hxv Hs Hxc Hxq Hxsb
  iapply (wp_xsc (Is_zero _ _ fxsc)) $$ [Hxsb Hxsc]
  · isplitl [Hxsb]; · iexact Hxsb
    iexact Hxsc
  iintro %f1 %h1 Hxsb Hxsc
  iapply (wp_xsc h1) $$ [Hxsb Hxsc]
  · isplitl [Hxsb]; · iexact Hxsb
    iexact Hxsc
  iintro %f2 %h2 Hxsb Hxsc
  obtain rfl := xsc_done h2
  iapply wp_waitW $$ [HW0 HO]
  · isplitl [HW0]; · iexact HW0
    iexact HO
  iintro %fr %hfr Hr HWb HS0 HO
  iapply (wp_fill (b := 5) (by omega)) $$ [HW5 HW]
  · isplitl [HW5]; · iexact HW5
    iexact HW
  iintro HW5 HW
  iapply (wp_wRun (X := X) (A := A) hfr 112 0 rfl fws (fun r h hr => absurd hr (by omega))) $$ [Hr Hsb Hws]
  · isplitl [Hr]; · iexact Hr
    isplitl [Hsb]; · iexact Hsb
    iexact Hws
  iintro %fws' %hws Hr Hsb Hws
  iapply (wp_putScale (i := 0) (hi := by omega) (Is_zero _ _ fwsc)) $$ [Hsc Hi Hwsc]
  · isplitl [Hsc]; · iexact Hsc
    isplitl [Hi]; · iexact Hi
    iexact Hwsc
  iintro %fsc' %fi' %fwsc' %hsc Hsc Hi Hwsc
  iapply Hk $$ [HX HA Hs Hxc Hxsc Hxv HS]
  · unfold Kept
    iframe HX HA Hs Hxc Hxsc Hxv HS
  unfold Inv
  iexists (show 1 - 1 < 74 by omega)
  isplitl [Hsc Hi]
  · unfold Scales
    iexists fsc'; iexists fi'
    isplitr
    · ipureintro; exact ⟨hsc.1, hsc.2.1⟩
    isplitl [Hsc]; · iexact Hsc
    iexact Hi
  isplitl [Hwsc]
  · unfold Wsc
    iexists fwsc'
    isplitr
    · ipureintro; exact hsc.2.2
    iexact Hwsc
  isplitl [Hws]
  · unfold Scaled
    iexists fws'
    isplitr
    · ipureintro; exact hws
    iexact Hws
  isplitl [Hxq Hxsb Hsb]
  · unfold Reads
    iframe Hxq Hxsb Hsb
  isplitl [HW1 HW2 HW3 HW4 HW5 Hr HS0]
  · isplitl [HW1]; · iapply (slotW_of (sl := 1) (b := 1) (Nat.lt_of_sub_eq_succ rfl) rfl) $$ HW1
    isplitl [HW2]; · iapply (slotW_of (sl := 2) (b := 2) (Nat.lt_of_sub_eq_succ rfl) rfl) $$ HW2
    isplitl [HW3]; · iapply (slotW_of (sl := 3) (b := 3) (Nat.lt_of_sub_eq_succ rfl) rfl) $$ HW3
    isplitl [HW4]; · iapply (slotW_of (sl := 4) (b := 4) (Nat.lt_of_sub_eq_succ rfl) rfl) $$ HW4
    isplitl [HW5]; · iapply (slotW_of (sl := 5) (b := 5) (Nat.lt_of_sub_eq_succ rfl) rfl) $$ HW5
    unfold FreeW
    iexists fr
    isplitl [Hr]; · iexact Hr
    iexact HS0
  isplitl [HWb]
  · iapply (give_blk (ℓ := mW.view.loc (c : Thread nD τ)) 1 256 0 W)
    isplitr
    · iapply (none_lo (ℓ := mW.view.loc (c : Thread nD τ)) 1 256 W); iempintro
    iexact HWb
  isplitl [HW]; · iexact HW
  isplitl [HC0 HC1]
  · isplitl [HC1]; · iapply (slotC_none (n := 1) (so := 1) (Nat.lt_of_sub_eq_succ rfl) rfl) $$ HC1
    iapply (slotC_none (n := 2) (so := 0) (Nat.lt_of_sub_eq_succ rfl) rfl) $$ HC0
  isplitl [HY0 HY1]
  · isplitl [HY1]; · iapply (slotY_none (n := 1) (so := 1) (Nat.lt_of_sub_eq_succ rfl) rfl) $$ HY1
    iapply (slotY_none (n := 2) (so := 0) (Nat.lt_of_sub_eq_succ rfl) rfl) $$ HY0
  isplitr
  · unfold Sent
    isplitr
    · iapply (none_lo (ℓ := mC.view.loc (c : Thread nD τ)) 1 256 _); iempintro
    · iapply (none_lo (ℓ := mY.view.loc (c : Thread nD τ)) 1 256 _); iempintro
  isplitl [Hc Hy]
  · unfold Room
    isplitl [Hc]
    · iexists fc
      iapply (all_hi (ℓ := mC.view.loc (c : Thread nD τ)) 1 256 fc) $$ Hc
    · iexists fy
      iapply (all_hi (ℓ := mY.view.loc (c : Thread nD τ)) 1 256 fy) $$ Hy
  iexact HO

/-! ## After the loop -/

theorem wp_post : iprop(Kept X A c ∗ Inv X W A c 74) ⊢ Wp c post fun _ => Stop X W A c := by
  unfold Kept Inv
  iintro ⟨⟨HX, HA, Hs, Hxc, Hxsc, Hxv, HS⟩, ⟨%hb, Hsc, Hwsc, Hws, HR, ⟨HW0, HW1, HW2, HW3, HW4, HW5⟩, HWl, HWh, ⟨HC0, HC1⟩, ⟨HY0, HY1⟩, Hsent, Hroom, HO⟩⟩
  unfold post
  ihave HC0 := (show SlotC X W A c 74 ⊢ FlC X W A c 0 (by omega) 71 (by omega) from by rw [SlotC_fl (by omega)]) $$ HC0
  ihave HC1 := (show SlotC X W A c 75 ⊢ FlC X W A c 1 (by omega) 72 (by omega) from by rw [SlotC_fl (by omega)]) $$ HC1
  ihave HY0 := (show SlotY X W A c 74 ⊢ FlY X W A c 0 (by omega) 71 (by omega) from by rw [SlotY_fl (by omega)]) $$ HY0
  ihave HY1 := (show SlotY X W A c 75 ⊢ FlY X W A c 1 (by omega) 72 (by omega) from by rw [SlotY_fl (by omega)]) $$ HY1
  iapply (wp_sent (b := 71)) $$ [HC0 HY0 Hsent HO]
  · isplitl [HC0]; · iexact HC0
    isplitl [HY0]; · iexact HY0
    isplitl [Hsent]; · iexact Hsent
    iexact HO
  iintro HC0 HY0 Hsent HO
  unfold Scales Reads FreeC FreeY Room
  icases Hsc with ⟨%fs, %fi, %hfs, Hsc, Hi⟩
  icases HR with ⟨Hq, Hxb, Hb⟩
  icases HC0 with ⟨%fc, Hc, HSc⟩
  icases HY0 with ⟨%fy, Hy, HSy⟩
  icases Hroom with ⟨⟨%rc, Hrc⟩, ⟨%ry, Hry⟩⟩
  iapply (wp_ld Variants.none (c : Thread nD τ) none (m := mInv) (r := rRow) (f := fi) (fun _ => Finset.mem_univ _) (invSt X W A 73 (by omega)) (funext fun x => hfs.2 x)) $$ Hi
  iintro Hi
  iapply (wp_ld Variants.none (c : Thread nD τ) none (m := mScale) (r := rRow) (f := fs) (fun _ => Finset.mem_univ _) (scaleSt X W A 73 (by omega)) (funext fun x => hfs.1 x)) $$ Hsc
  iintro Hsc
  iapply (wp_groups (St := Still X W A c 73 (by omega)) stillOk 14 0 (by omega) rfl none fc (fun r h hr => absurd hr (by omega))) $$ [Hws Hc Hq]
  · isplitl [Hws]; · unfold Still; iexact Hws
    isplitl [Hc]; · iexact Hc
    iexact Hq
  iintro %g %a %hg Hws Hc Hq
  iapply wp_putY $$ [Hxb Hy]
  · isplitl [Hxb]; · iexact Hxb
    iexact Hy
  iintro %gy %hgy Hxb Hy
  ihave Hrc := (take_blk (ℓ := mC.view.loc (c : Thread nD τ)) 1 256 73 rc) $$ Hrc
  icases Hrc with ⟨Hrc, -⟩
  ihave Hry := (take_blk (ℓ := mY.view.loc (c : Thread nD τ)) 1 256 73 ry) $$ Hry
  icases Hry with ⟨Hry, -⟩
  iapply (wp_startC (b := 73) (by omega) hg) $$ [Hc Hrc HSc]
  · isplitl [Hc]; · iexact Hc
    isplitl [Hrc]; · iexact Hrc
    iexact HSc
  iintro HFC
  iapply (wp_startY (b := 73) (by omega) hgy) $$ [Hy Hry HSy]
  · isplitl [Hy]; · iexact Hy
    isplitl [Hry]; · iexact Hry
    iexact HSy
  iintro HFY
  iapply (wp_sent (b := 72)) $$ [HC1 HY1 Hsent HO]
  · isplitl [HC1]; · iexact HC1
    isplitl [HY1]; · iexact HY1
    isplitl [Hsent]; · iexact Hsent
    iexact HO
  iintro HC1 HY1 Hsent HO
  iapply (wp_sent (b := 73)) $$ [HFC HFY Hsent HO]
  · isplitl [HFC]; · iexact HFC
    isplitl [HFY]; · iexact HFY
    isplitl [Hsent]; · iexact Hsent
    iexact HO
  iintro HC0 HY0 Hsent HO
  iapply wp_done
  unfold Stop Sent Still Scaled Wsc
  icases Hsent with ⟨HsC, HsY⟩
  icases Hwsc with ⟨%fw, %hfw, Hwsc⟩
  obtain rfl := wsc_done hfw
  icases Hws with ⟨%fws, -, Hws⟩
  ihave HC := join_C $$ [HC0 HC1]
  · isplitl [HC0]; · iexact HC0
    iexact HC1
  icases HC with ⟨HC, HSC⟩
  ihave HY := join_Y $$ [HY0 HY1]
  · isplitl [HY0]; · iexact HY0
    iexact HY1
  icases HY with ⟨HY, HSY⟩
  ihave HW0 := (show SlotW W c 74 ⊢ FreeW c 2 (by omega) from by rw [SlotW_ge (by omega)]) $$ HW0
  ihave HW1 := (show SlotW W c 75 ⊢ FreeW c 3 (by omega) from by rw [SlotW_ge (by omega)]) $$ HW1
  ihave HW2 := (show SlotW W c 76 ⊢ FreeW c 4 (by omega) from by rw [SlotW_ge (by omega)]) $$ HW2
  ihave HW3 := (show SlotW W c 77 ⊢ FreeW c 5 (by omega) from by rw [SlotW_ge (by omega)]) $$ HW3
  ihave HW4 := (show SlotW W c 78 ⊢ FreeW c 0 (by omega) from by rw [SlotW_ge (by omega)]) $$ HW4
  ihave HW := (join_W (F := F) (c := c)) $$ [HW0 HW1 HW2 HW3 HW4 HW5]
  · isplitl [HW4]; · iexact HW4
    isplitl [HW5]; · iexact HW5
    isplitl [HW0]; · iexact HW0
    isplitl [HW1]; · iexact HW1
    isplitl [HW2]; · iexact HW2
    iexact HW3
  icases HW with ⟨HWr, HSW⟩
  isplitl [HX]; · iexact HX
  isplitl [HWl]
  · iapply (lo_all (ℓ := mW.view.loc (c : Thread nD τ)) 1 256 74 (Nat.le_refl _) W) $$ HWl
  isplitl [HA]; · iexact HA
  isplitl [Hs Hwsc Hxc Hxsc]
  · isplitl [Hs]; · iexact Hs
    isplitl [Hwsc]; · iexact Hwsc
    isplitl [Hxc]; · iexact Hxc
    iexact Hxsc
  isplitl [HsC HsY]
  · isplitl [HsY]
    · iapply (lo_all (ℓ := mY.view.loc (c : Thread nD τ)) 1 256 74 (Nat.le_refl _) _) $$ HsY
    · iapply (lo_all (ℓ := mC.view.loc (c : Thread nD τ)) 1 256 74 (Nat.le_refl _) _) $$ HsC
  isplitl [Hxv Hq Hxb Hb Hws Hi Hsc HWr HC HY]
  · isplitl [Hxv]; · iexists _; iexact Hxv
    isplitl [Hq]; · iexists _; iexact Hq
    isplitl [Hxb]; · iexists _; iexact Hxb
    isplitl [Hb]; · iexists _; iexact Hb
    isplitl [Hws]; · iexists _; iexact Hws
    isplitl [Hi]; · iexists _; iexact Hi
    isplitl [Hsc]; · iexists _; iexact Hsc
    isplitl [HWr]; · iexact HWr
    isplitl [HC]; · iexact HC
    iexact HY
  isplitr [HO]
  · isplitl [HS]; · iexact HS
    isplitl [HSW]; · iexact HSW
    isplitl [HSC]; · iexact HSC
    iexact HSY
  iexact HO

/-- The whole body. -/
theorem wp_printed : Start X W A c ⊢ Wp c (printed : P F) fun _ => Stop X W A c := by
  rw [printed_eq]
  iintro H
  iapply wp_pre $$ H
  iintro HK HI
  iapply (Scf.wp_for_bind frame (wpE (defs₀ (F := F)) Variants.none (c : Thread nD τ) none) Set.univ _ _ _ k0_t1_ok PUnit.unit (fun t _ => tripP t) (fun t _ => Inv X W A c (t + 1)) ?_) $$ HI
  · intro t _
    rw [tripP_trip]
    exact wp_trip (by omega) _
  iintro %acc HI
  iapply wp_post
  isplitl [HK]; · iexact HK
  iexact HI

end Cert.Kernel.Model

end
-- ==== Proof.Run.lean ====
/- The kernel's run: what it leaves in its results, its arguments unchanged and every semaphore at zero. -/
module

public import proofs.«01_k».proof.Proof.Body
public import proofs.«01_k».proof.Proof.Gen.Kernel.Points
public import proofs.«01_k».proof.Proof.Gen.Kernel.Frame
public import Idealize.ShloMosaic.Lib.Pipeline.FrameBody
public import Idealize.ShloMosaic.Lib.Pipeline.FrameSuffixV
public import Idealize.ShloMosaic.Lib.Pipeline.ValueKit
public import Idealize.ShloMosaic.Lib.StableHlo.RunRead

@[expose] public section

set_option maxHeartbeats 1000000

noncomputable section

namespace Cert.Kernel.Model

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.ValueIdx (ix1 ix2 ix3)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands as the kernel's body finds them. -/
def xOf (c : Dev nD) : Vec F S256x3584 .bf16 := V m c main_v0
@[inherit_doc xOf] def wOf (c : Dev nD) : Vec F S3584x18944 .bf16 := V m c main_arg1
@[inherit_doc xOf] def aOf (c : Dev nD) : Vec F S1x3584 .f32 := V m c main_v1

/-! ## The kernel's own semaphores, and the buffers it copies from and to -/

abbrev osem0 : Fin 11 → SemLoc sig := fun j =>
  (![SemLoc.dma 5, SemLoc.dma 6, SemLoc.dma 7, SemLoc.dma 8, SemLoc.dma 9, SemLoc.dma 10, SemLoc.dma 11, SemLoc.dma 12, SemLoc.dma 13, SemLoc.dma 14, SemLoc.dma 15] : Fin 11 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(Sv c cc0_scratch10.sem ∗ Sv c (wSem 0 (by omega)) ∗ Sv c (wSem 1 (by omega)) ∗ Sv c (wSem 2 (by omega)) ∗ Sv c (wSem 3 (by omega))
        ∗ Sv c (wSem 4 (by omega)) ∗ Sv c (wSem 5 (by omega)) ∗ Sv c (cSem 0 (by omega)) ∗ Sv c (cSem 1 (by omega)) ∗ Sv c (ySem 0 (by omega)) ∗ Sv c (ySem 1 (by omega))) := by
  rw [Pipeline.ownSems0_eq_of_list c osem0 [0, 1, 2, 3, 4, 5, 6, 7, 8, 9, 10] (by decide) (by decide)]; rfl

/-- What the body's copies read, and what they write. -/
def H0 : Finset (Ref sig .tc) := {main_v0, main_arg1}
@[inherit_doc H0] def R0 : Finset (Ref sig .tc) := {main_v2_0, main_v2_2}
theorem H0_sub : H0 ⊆ Pipeline.restRefs sig spec0 := by decide
theorem R0_sub : R0 ⊆ Pipeline.restRefs sig spec0 \ H0 := by decide

theorem H0_eq (c : Dev nD) (f : (b : Ref sig .tc) → Buf (Elt F) ((c : Thread nD τ).loc b)) :
    (bigSep H0 (fun b => ((c : Thread nD τ).loc b) ↦{fullShare} f b) : sProp 𝕄) = iprop(O c mX Finset.univ (f main_v0) ∗ O c mW Finset.univ (f main_arg1)) := by
  rw [BI.bigSep_eq_bigSepL_of_eq [main_v0, main_arg1] (by decide) (by decide)]; rfl
theorem R0_eq (c : Dev nD) (f : (b : Ref sig .tc) → Buf (Elt F) ((c : Thread nD τ).loc b)) :
    (bigSep R0 (fun b => ((c : Thread nD τ).loc b) ↦{fullShare} f b) : sProp 𝕄) = iprop(O c mY Finset.univ (f main_v2_0) ∗ O c mC Finset.univ (f main_v2_2)) := by
  rw [BI.bigSep_eq_bigSepL_of_eq [main_v2_0, main_v2_2] (by decide) (by decide)]; rfl

/-- The buffers when the body has ended, as far as its copies wrote them. -/
def G (c : Dev nD) : (b : Ref sig .tc) → Buf (Elt F) ((c.tc : Thread nD τ).loc b) :=
  Function.update (Function.update (fun b => V m c b) main_v2_0 (yG (xOf m c) (wOf m c) (aOf m c))) main_v2_2 (cG (xOf m c) (wOf m c) (aOf m c))

theorem G_y (c : Dev nD) : G m c main_v2_0 = yG (xOf m c) (wOf m c) (aOf m c) := by
  unfold G
  rw [Function.update_of_ne (by decide), Function.update_self]
theorem G_c (c : Dev nD) : G m c main_v2_2 = cG (xOf m c) (wOf m c) (aOf m c) := by
  unfold G
  rw [Function.update_self]

/-! ## The body's obligation -/

/-- What the body leaves in the staged buffers, and what it holds before and after. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => sAll (xOf m c) (aOf m c)
    | ⟨2, _⟩ => wscAll (xOf m c) (wOf m c) (aOf m c)
    | ⟨3, _⟩ => xcAll (xOf m c) (aOf m c)
    | ⟨4, _⟩ => xscAll (xOf m c) (aOf m c)
  Φ t := Pipeline.ΦDRV osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]

theorem iblk_eq (c : Dev nD) (t : Fin cfg0.N) : iblk m c 0 t = aOf m c := by
  obtain rfl := fin_N0 t
  funext j
  unfold iblk aOf
  rw [View.read_apply]
  show V m c main_v1 _ = V m c main_v1 _
  exact congrArg (V m c main_v1) (funext fun a => Fin.ext (Pipeline.Window.rect_emb_val_of_index_zero win0_0 t0_0 a (by revert a; decide +kernel) j))

theorem before_eq (c : Dev nD) (t : Fin cfg0.N) (d) : (dats m 0 c).before 0 t d = aOf m c :=
  (((dats m 0 c).before_in_eq_fetched 0 rfl (fun _ => rfl) (fun _ _ _ => rfl) (fun t => by
      show iblk m c 0 t = _; unfold Dat.blockOf iblk; rw [A_eq]) t d).trans
    (by unfold Dat.fetched Dat.blockOf; rw [A_eq]; rfl : _ = iblk m c 0 t)).trans (iblk_eq m c t)

/-- The body's holdings at a point, given the contents of the buffers its copies write. -/
theorem phi_eq (c : Dev nD) (V' : (c : Dev nD) → (b : Ref sig .tc) → Buf (Elt F) ((c.tc : Thread nD τ).loc b)) :
    (Pipeline.ΦDRV osem0 spec0 H0 R0 (V m) V' c : sProp 𝕄)
      = iprop((Ex F c mXv ∗ Ex F c mXq ∗ Ex F c mXsb ∗ Ex F c mSb ∗ Ex F c mWs ∗ Ex F c mInv ∗ Ex F c mScale ∗ Ex F c mWr ∗ Ex F c mCr ∗ Ex F c mYr)
        ∗ (Sv c cc0_scratch10.sem ∗ Sv c (wSem 0 (by omega)) ∗ Sv c (wSem 1 (by omega)) ∗ Sv c (wSem 2 (by omega)) ∗ Sv c (wSem 3 (by omega))
          ∗ Sv c (wSem 4 (by omega)) ∗ Sv c (wSem 5 (by omega)) ∗ Sv c (cSem 0 (by omega)) ∗ Sv c (cSem 1 (by omega)) ∗ Sv c (ySem 0 (by omega)) ∗ Sv c (ySem 1 (by omega)))
        ∗ (O c mX Finset.univ (xOf m c) ∗ O c mW Finset.univ (wOf m c)) ∗ (O c mY Finset.univ (V' c main_v2_0) ∗ O c mC Finset.univ (V' c main_v2_2))) := by
  unfold Pipeline.ΦDRV
  rw [scopedRest0_eq, ownSems00_eq, H0_eq, R0_eq]; rfl

theorem phi_first (c : Dev nD) : (dats m 0 c).Φ (t0_0 : Fin cfg0.N).castSucc = Pipeline.ΦDRV osem0 spec0 H0 R0 (V m) (V m) c := rfl
theorem phi_last (c : Dev nD) : (dats m 0 c).Φ (t0_0 : Fin cfg0.N).succ = Pipeline.ΦDRV osem0 spec0 H0 R0 (V m) (G m) c := rfl

/-- What the body holds when it is called. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What it holds when it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- A staged buffer is held whole. -/
theorem own_in (c : Dev nD) (b : Ref sig .tc) (f : b.ty.Contents (Elt F)) :
    (owns (c : Thread nD τ) (Memref.whole b) fullShare f : sProp 𝕄) ⊢ ((c : Thread nD τ).loc b) ↦{fullShare} f := by
  rw [show (owns (c : Thread nD τ) (Memref.whole b) fullShare f : sProp 𝕄) = _ from owns_whole (c : Thread nD τ) b fullShare f]
theorem own_out (c : Dev nD) (b : Ref sig .tc) (f : b.ty.Contents (Elt F)) :
    (((c : Thread nD τ).loc b) ↦{fullShare} f : sProp 𝕄) ⊢ owns (c : Thread nD τ) (Memref.whole b) fullShare f := by
  rw [show (owns (c : Thread nD τ) (Memref.whole b) fullShare f : sProp 𝕄) = _ from owns_whole (c : Thread nD τ) b fullShare f]

theorem owes_in (c : Dev nD) (t : Fin (cfg0.N + 1)) : (dats m 0 c).owesAt () t ⊢ Ow F c := by
  unfold Dat.owesAt Pipeline.owesWithin
  iintro ⟨%W, -, HW⟩; iexists W; iexact HW
theorem owes_out (c : Dev nD) (t : Fin (cfg0.N + 1)) : Ow F c ⊢ (dats m 0 c).owesAt () t := by
  unfold Dat.owesAt Pipeline.owesWithin
  iintro ⟨%W, HW⟩; iexists W; isplitr
  · ipureintro; exact fun _ _ => Or.inl trivial
  · iexact HW

theorem start_of (c : Dev nD) : bodyPre m c t0_0 ⊢ Start (xOf m c) (wOf m c) (aOf m c) c := by
  unfold bodyPre
  rw [phi_first, phi_eq]
  iintro ⟨⟨Hs, ⟨S0, W0, W1, W2, W3, W4, W5, C0, C1, Y0, Y1⟩, ⟨Hx, Hw⟩, Hy, Hc⟩, Ho, ⟨%d0, H0⟩, ⟨%d1, H1⟩, ⟨%d2, H2⟩, ⟨%d3, H3⟩, ⟨%d4, H4⟩⟩
  ihave H0 := (show owns (c : Thread nD τ) (st0_0 t0_0) fullShare ((dats m 0 c).before 0 t0_0 d0) ⊢ O c mWabs Finset.univ (aOf m c) from by
    rw [before_eq]; exact own_in c cc0_stg0_0 (aOf m c)) $$ H0
  ihave H1 := (show owns (c : Thread nD τ) (st0_1 t0_0) fullShare ((dats m 0 c).before 1 t0_0 d1) ⊢ O c mS Finset.univ _ from own_in c cc0_stg1_0 _) $$ H1
  ihave H2 := (show owns (c : Thread nD τ) (st0_2 t0_0) fullShare ((dats m 0 c).before 2 t0_0 d2) ⊢ O c mWsc Finset.univ _ from own_in c cc0_stg2_0 _) $$ H2
  ihave H3 := (show owns (c : Thread nD τ) (st0_3 t0_0) fullShare ((dats m 0 c).before 3 t0_0 d3) ⊢ O c mXc Finset.univ _ from own_in c cc0_stg3_0 _) $$ H3
  ihave H4 := (show owns (c : Thread nD τ) (st0_4 t0_0) fullShare ((dats m 0 c).before 4 t0_0 d4) ⊢ O c mXsc Finset.univ _ from own_in c cc0_stg4_0 _) $$ H4
  ihave Ho := (owes_in m c _) $$ Ho
  unfold Start
  isplitl [Hx]; · iexact Hx
  isplitl [Hw]; · iexact Hw
  isplitl [H0]; · iexact H0
  isplitl [H1 H2 H3 H4]
  · isplitl [H1]; · iexists _; iexact H1
    isplitl [H2]; · iexists _; iexact H2
    isplitl [H3]; · iexists _; iexact H3
    iexists _; iexact H4
  isplitl [Hy Hc]
  · isplitl [Hy]; · iexists _; iexact Hy
    iexists _; iexact Hc
  isplitl [Hs]; · iexact Hs
  isplitr [Ho]
  swap; · iexact Ho
  isplitl [S0]; · iexact S0
  isplitl [W0 W1 W2 W3 W4 W5]
  · isplitl [W0]; · iexact W0
    isplitl [W1]; · iexact W1
    isplitl [W2]; · iexact W2
    isplitl [W3]; · iexact W3
    isplitl [W4]; · iexact W4
    iexact W5
  isplitl [C0 C1]
  · isplitl [C0]; · iexact C0
    iexact C1
  isplitl [Y0]; · iexact Y0
  iexact Y1

theorem stop_of (c : Dev nD) : Stop (xOf m c) (wOf m c) (aOf m c) c ⊢ bodyPost m c t0_0 := by
  unfold bodyPost
  rw [phi_last, phi_eq, G_y, G_c]
  unfold Stop
  iintro ⟨Hx, Hw, H0, ⟨H1, H2, H3, H4⟩, ⟨Hy, Hc⟩, Hs, ⟨S0, ⟨W0, W1, W2, W3, W4, W5⟩, ⟨C0, C1⟩, ⟨Y0, Y1⟩⟩, Ho⟩
  isplitl [Hx Hw Hy Hc Hs S0 W0 W1 W2 W3 W4 W5 C0 C1 Y0 Y1]
  · isplitl [Hs]; · iexact Hs
    isplitl [S0 W0 W1 W2 W3 W4 W5 C0 C1 Y0 Y1]
    · isplitl [S0]; · iexact S0
      isplitl [W0]; · iexact W0
      isplitl [W1]; · iexact W1
      isplitl [W2]; · iexact W2
      isplitl [W3]; · iexact W3
      isplitl [W4]; · iexact W4
      isplitl [W5]; · iexact W5
      isplitl [C0]; · iexact C0
      isplitl [C1]; · iexact C1
      isplitl [Y0]; · iexact Y0
      iexact Y1
    isplitl [Hx Hw]
    · isplitl [Hx]; · iexact Hx
      iexact Hw
    isplitl [Hy]; · iexact Hy
    iexact Hc
  isplitl [Ho]; · iapply (owes_out m c _); iexact Ho
  isplitl [H0]
  · iapply (show O c mWabs Finset.univ (aOf m c) ⊢ owns (c : Thread nD τ) (st0_0 t0_0) fullShare ((dats m 0 c).after 0 t0_0) from by
      rw [show (dats m 0 c).after 0 t0_0 = aOf m c from iblk_eq m c t0_0]; exact own_out c cc0_stg0_0 (aOf m c))
    iexact H0
  isplitl [H1]
  · iapply (show O c mS Finset.univ (sAll (xOf m c) (aOf m c)) ⊢ owns (c : Thread nD τ) (st0_1 t0_0) fullShare ((dats m 0 c).after 1 t0_0) from own_out c cc0_stg1_0 _)
    iexact H1
  isplitl [H2]
  · iapply (show O c mWsc Finset.univ (wscAll (xOf m c) (wOf m c) (aOf m c)) ⊢ owns (c : Thread nD τ) (st0_2 t0_0) fullShare ((dats m 0 c).after 2 t0_0) from own_out c cc0_stg2_0 _)
    iexact H2
  isplitl [H3]
  · iapply (show O c mXc Finset.univ (xcAll (xOf m c) (aOf m c)) ⊢ owns (c : Thread nD τ) (st0_3 t0_0) fullShare ((dats m 0 c).after 3 t0_0) from own_out c cc0_stg3_0 _)
    iexact H3
  · iapply (show O c mXsc Finset.univ (xscAll (xOf m c) (aOf m c)) ⊢ owns (c : Thread nD τ) (st0_4 t0_0) fullShare ((dats m 0 c).after 4 t0_0) from own_out c cc0_stg4_0 _)
    iexact H4

theorem stage_eq0 : win0_0.stage (cfg0.slots t0_0 0) = mWabs := rfl
theorem stage_eq1 : win0_1.stage (cfg0.slots t0_0 1) = mS := rfl
theorem stage_eq2 : win0_2.stage (cfg0.slots t0_0 2) = mWsc := rfl
theorem stage_eq3 : win0_3.stage (cfg0.slots t0_0 3) = mXc := rfl
theorem stage_eq4 : win0_4.stage (cfg0.slots t0_0 4) = mXsc := rfl

theorem bodyAt_eq : (bodyAt0 t0_0 : P F) = printed := by
  with_reducible rfl

theorem body_at (c : Dev nD) (t : Fin cfg0.N) :
    bodyPre m c t ⊢ wp frame (wpE (defs₀ (F := F)) Variants.none (c : Thread nD τ) none) Set.univ (bodyAt0 t) (fun _ => bodyPost m c t) := by
  obtain rfl := fin_N0 t
  have h : Start (xOf m c) (wOf m c) (aOf m c) c ⊢ wp frame (wpE (defs₀ (F := F)) Variants.none (c : Thread nD τ) none) Set.univ (bodyAt0 t0_0)
      (fun _ => Stop (xOf m c) (wOf m c) (aOf m c) c) := by
    rw [bodyAt_eq]; exact wp_printed
  exact (start_of m c).trans (h.trans (wp_mono _ _ _ fun _ => stop_of m c))

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-! ## The run -/

set_option maxHeartbeats 800000 in
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Every buffer when the program has ended, device by device. -/
def endsWith (c : Dev nD) : Valuation τ sig (Elt F) :=
  StableHlo.after [hostOps1].flatten (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = endsWith m c (Proc.devRef .tc b))
      ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := main_around m Variants.none) (hA := A_eq m) (hin := fun _ => .rfl) (hout := fun _ => .rfl)
    (Q' := _) (hQ' := fun _ h => h)

/-! ## What the run leaves -/

/-- A buffer no line after the kernel writes and no window stages ends as the kernel left it. -/
theorem ends_rest (c : Dev nD) (b : Ref sig .tc) (h : b ∉ [main_v3, main_v4, main_v5, main_v6]) (hw : ∀ w, Pipeline.arrRef spec0 w ≠ b) :
    endsWith m c (Proc.devRef .tc b) = Pipeline.withR (V0 m c) R0 c (G m c) (Proc.devRef .tc b) := by
  unfold endsWith
  rw [StableHlo.after_unwritten [main_v3, main_v4, main_v5, main_v6] rfl h, Pipeline.withArrays_of_ne _ _ _ _ _ hw]

theorem ends_arg0 (c : Dev nD) : endsWith m c (Proc.devRef .tc main_arg0) = m ((c : Thread nD τ).loc main_arg0) := by
  rw [ends_rest m c main_arg0 (by decide) (by decide), Pipeline.withR_of_not_mem _ _ _ _ _ (by decide)]; exact V_main_arg0 m c
theorem ends_arg1 (c : Dev nD) : endsWith m c (Proc.devRef .tc main_arg1) = m ((c : Thread nD τ).loc main_arg1) := by
  rw [ends_rest m c main_arg1 (by decide) (by decide), Pipeline.withR_of_not_mem _ _ _ _ _ (by decide)]; exact V_main_arg1 m c
theorem ends_arg2 (c : Dev nD) : endsWith m c (Proc.devRef .tc main_arg2) = m ((c : Thread nD τ).loc main_arg2) := by
  rw [ends_rest m c main_arg2 (by decide) (by decide), Pipeline.withR_of_not_mem _ _ _ _ _ (by decide)]; exact V_main_arg2 m c
theorem ends_c (c : Dev nD) : endsWith m c (Proc.devRef .tc main_v2_2) = cG (xOf m c) (wOf m c) (aOf m c) := by
  rw [ends_rest m c main_v2_2 (by decide) (by decide), Pipeline.withR_of_mem _ _ _ _ _ (by decide)]; exact G_c m c

/-- The operands, from the arguments. -/
theorem xOf_eq (c : Dev nD) : xOf m c = shapeCast S256x3584 (m ((c : Thread nD τ).loc main_arg0)) shapeCasts_S2x128x3584_S256x3584 := by
  unfold xOf V V0
  after_reads_simp
  rfl
theorem wOf_eq (c : Dev nD) : wOf m c = m ((c : Thread nD τ).loc main_arg1) := V_main_arg1 m c
theorem aOf_eq (c : Dev nD) : aOf m c = shapeCast S1x3584 (m ((c : Thread nD τ).loc main_arg2)) shapeCasts_S3584_S1x3584 := by
  unfold aOf V V0
  after_reads_simp
  rfl

/-- The staged results are written back whole. -/
theorem arr_s (c : Dev nD) : (dats m 0 c).arrAt 1 cfg0.N = sAll (xOf m c) (aOf m c) := by
  refine (dats m 0 c).arrAt_eq_of_after_last 1 t0_0 (by decide +kernel) _ fun j => ?_
  blk_simp
  rfl
theorem arr_wsc (c : Dev nD) : (dats m 0 c).arrAt 2 cfg0.N = wscAll (xOf m c) (wOf m c) (aOf m c) := by
  refine (dats m 0 c).arrAt_eq_of_after_last 2 t0_0 (by decide +kernel) _ fun j => ?_
  blk_simp
  rfl
theorem arr_xc (c : Dev nD) : (dats m 0 c).arrAt 3 cfg0.N = xcAll (xOf m c) (aOf m c) := by
  refine (dats m 0 c).arrAt_eq_of_after_last 3 t0_0 (by decide +kernel) _ fun j => ?_
  blk_simp
  rfl
theorem arr_xsc (c : Dev nD) : (dats m 0 c).arrAt 4 cfg0.N = xscAll (xOf m c) (aOf m c) := by
  refine (dats m 0 c).arrAt_eq_of_after_last 4 t0_0 (by decide +kernel) _ fun j => ?_
  blk_simp
  rfl

/-- A staged array when the lines after the kernel begin. -/
theorem ends_arr (c : Dev nD) (w : Fin 5) :
    Pipeline.withArrays spec0 c (Pipeline.withR (V0 m c) R0 c (G m c)) (fun w => (dats m 0 c).arrAt w cfg0.N) (Proc.devRef .tc (Pipeline.arrRef spec0 w))
      = (dats m 0 c).arrAt w cfg0.N := Pipeline.withArrays_arr spec0 (by decide) _ _ _ w

theorem ends_y (c : Dev nD) :
    endsWith m c (Proc.devRef .tc main_v3) = shapeCast S2x128x18944 (yG (xOf m c) (wOf m c) (aOf m c)) shapeCasts_S256x18944_S2x128x18944 := by
  have h : Pipeline.withArrays spec0 c (Pipeline.withR (V0 m c) R0 c (G m c)) (fun w => (dats m 0 c).arrAt w cfg0.N) (Proc.devRef .tc main_v2_0)
      = yG (xOf m c) (wOf m c) (aOf m c) := by
    rw [Pipeline.withArrays_of_ne _ _ _ _ main_v2_0 (by exact (by decide : ∀ w, Pipeline.arrRef spec0 w ≠ main_v2_0)), Pipeline.withR_of_mem _ _ _ _ _ (by decide)]
    exact G_y m c
  unfold endsWith
  after_reads_simp
  rw [h]
  rfl
theorem ends_s (c : Dev nD) : endsWith m c (Proc.devRef .tc main_v4) = shapeCast S3584 (sAll (xOf m c) (aOf m c)) shapeCasts_S1x3584_S3584 := by
  have h := (ends_arr m c 1).trans (arr_s m c)
  unfold endsWith
  after_reads_simp
  rw [show Pipeline.withArrays spec0 c (Pipeline.withR (V0 m c) R0 c (G m c)) (fun w => (dats m 0 c).arrAt w cfg0.N) (Proc.devRef .tc main_v2_1) = _ from h]
  rfl
theorem ends_wsc (c : Dev nD) :
    endsWith m c (Proc.devRef .tc main_v5) = shapeCast S18944 (wscAll (xOf m c) (wOf m c) (aOf m c)) shapeCasts_S74x256_S18944 := by
  have h := (ends_arr m c 2).trans (arr_wsc m c)
  unfold endsWith
  after_reads_simp
  rw [show Pipeline.withArrays spec0 c (Pipeline.withR (V0 m c) R0 c (G m c)) (fun w => (dats m 0 c).arrAt w cfg0.N) (Proc.devRef .tc main_v2_3) = _ from h]
  rfl
theorem ends_xc (c : Dev nD) : endsWith m c (Proc.devRef .tc main_v6) = shapeCast S2x128x3584 (xcAll (xOf m c) (aOf m c)) shapeCasts_S256x3584_S2x128x3584 := by
  have h := (ends_arr m c 3).trans (arr_xc m c)
  unfold endsWith
  after_reads_simp
  rw [show Pipeline.withArrays spec0 c (Pipeline.withR (V0 m c) R0 c (G m c)) (fun w => (dats m 0 c).arrAt w cfg0.N) (Proc.devRef .tc main_v2_4) = _ from h]
  rfl

/-- The operands the kernel works on, from the program's arguments. -/
abbrev opX (x : Vec F S2x128x3584 .bf16) : Vec F S256x3584 .bf16 := shapeCast S256x3584 x shapeCasts_S2x128x3584_S256x3584
@[inherit_doc opX] abbrev opA (a : Vec F S3584 .f32) : Vec F S1x3584 .f32 := shapeCast S1x3584 a shapeCasts_S3584_S1x3584

/-- The six results, from the arguments. -/
def resY (x : Vec F S2x128x3584 .bf16) (w : Vec F S3584x18944 .bf16) (a : Vec F S3584 .f32) : Vec F S2x128x18944 .bf16 :=
  shapeCast S2x128x18944 (yG (opX x) w (opA a)) shapeCasts_S256x18944_S2x128x18944
@[inherit_doc resY] def resS (x : Vec F S2x128x3584 .bf16) (a : Vec F S3584 .f32) : Vec F S3584 .f32 :=
  shapeCast S3584 (sAll (opX x) (opA a)) shapeCasts_S1x3584_S3584
@[inherit_doc resY] def resC (x : Vec F S2x128x3584 .bf16) (w : Vec F S3584x18944 .bf16) (a : Vec F S3584 .f32) : Vec F S3584x18944 .i8 :=
  cG (opX x) w (opA a)
@[inherit_doc resY] def resWsc (x : Vec F S2x128x3584 .bf16) (w : Vec F S3584x18944 .bf16) (a : Vec F S3584 .f32) : Vec F S18944 .f32 :=
  shapeCast S18944 (wscAll (opX x) w (opA a)) shapeCasts_S74x256_S18944
@[inherit_doc resY] def resXc (x : Vec F S2x128x3584 .bf16) (a : Vec F S3584 .f32) : Vec F S2x128x3584 .i8 :=
  shapeCast S2x128x3584 (xcAll (opX x) (opA a)) shapeCasts_S256x3584_S2x128x3584
@[inherit_doc resY] def resXsc (x : Vec F S2x128x3584 .bf16) (a : Vec F S3584 .f32) : Vec F S2x128 .f32 := xscAll (opX x) (opA a)

/-- The kernel's program, from any memory: its results, its arguments unchanged, every semaphore at zero. -/
theorem run_values : θ_run defs (onTc (τ := τ) (main (F := F))) ⟨m, fun _ => 0, ρ⟩ (fun r => (∀ c : Dev nD,
      r.2.mem ((c.tc : Thread nD τ).loc main_v3) = resY (m ((c.tc : Thread nD τ).loc main_arg0)) (m ((c.tc : Thread nD τ).loc main_arg1)) (m ((c.tc : Thread nD τ).loc main_arg2))
      ∧ r.2.mem ((c.tc : Thread nD τ).loc main_v4) = resS (m ((c.tc : Thread nD τ).loc main_arg0)) (m ((c.tc : Thread nD τ).loc main_arg2))
      ∧ r.2.mem ((c.tc : Thread nD τ).loc main_v2_2) = resC (m ((c.tc : Thread nD τ).loc main_arg0)) (m ((c.tc : Thread nD τ).loc main_arg1)) (m ((c.tc : Thread nD τ).loc main_arg2))
      ∧ r.2.mem ((c.tc : Thread nD τ).loc main_v5) = resWsc (m ((c.tc : Thread nD τ).loc main_arg0)) (m ((c.tc : Thread nD τ).loc main_arg1)) (m ((c.tc : Thread nD τ).loc main_arg2))
      ∧ r.2.mem ((c.tc : Thread nD τ).loc main_v6) = resXc (m ((c.tc : Thread nD τ).loc main_arg0)) (m ((c.tc : Thread nD τ).loc main_arg2))
      ∧ r.2.mem ((c.tc : Thread nD τ).loc main_v2_5) = resXsc (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run_main m ρ)
  obtain ⟨ha, hr⟩ := h.1 c
  have hx : xOf m c = opX (m ((c.tc : Thread nD τ).loc main_arg0)) := xOf_eq m c
  have hw : wOf m c = m ((c.tc : Thread nD τ).loc main_arg1) := wOf_eq m c
  have hA : aOf m c = opA (m ((c.tc : Thread nD τ).loc main_arg2)) := aOf_eq m c
  have hy := (hr main_v3 (Pipeline.mem_restRefs_of main_v3 (by decide) (by decide))).trans (ends_y m c)
  have hs := (hr main_v4 (Pipeline.mem_restRefs_of main_v4 (by decide) (by decide))).trans (ends_s m c)
  have hc := (hr main_v2_2 (Pipeline.mem_restRefs_of main_v2_2 (by decide) (by decide))).trans (ends_c m c)
  have hwsc := (hr main_v5 (Pipeline.mem_restRefs_of main_v5 (by decide) (by decide))).trans (ends_wsc m c)
  have hxc := (hr main_v6 (Pipeline.mem_restRefs_of main_v6 (by decide) (by decide))).trans (ends_xc m c)
  have hxsc := (ha 4).trans (arr_xsc m c)
  rw [hx, hA] at hs hxc hxsc
  rw [hx, hw, hA] at hy hc hwsc
  exact ⟨hy, hs, hc, hwsc, hxc, hxsc,
    (hr main_arg0 (Pipeline.mem_restRefs_of main_arg0 (by decide) (by decide))).trans (ends_arg0 m c),
    (hr main_arg1 (Pipeline.mem_restRefs_of main_arg1 (by decide) (by decide))).trans (ends_arg1 m c),
    (hr main_arg2 (Pipeline.mem_restRefs_of main_arg2 (by decide) (by decide))).trans (ends_arg2 m c)⟩

end Cert.Kernel.Model

end
-- ==== Proof.Values.lean ====
/- The runs of the idealized programs: the kernel's, carried over from `Proof/Run.lean`, and the reference's. -/
module

public import proofs.«01_k».proof.Proof.Run
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Frame

@[expose] public section

set_option maxHeartbeats 1000000

noncomputable section

/-! ## The idealized kernel is the kernel -/

namespace Cert.KernelIdeal.Model

open Idealize.ShloMosaic Idealize.ShloMosaic.TcCoe Idealize.ShloMosaic.Tactic Idealize.SL.Sem
open Cert.KernelIdeal Cert.KernelIdeal.Gen

variable {F : FTy → Type} [FloatOps F]

theorem defs_same : @Cert.KernelIdeal.defs F _ Cert.KernelIdeal.Gen.facts = @Cert.Kernel.defs F _ Cert.Kernel.Gen.facts := by sl_kernel_rfl
theorem main_same : @Cert.KernelIdeal.main F Cert.KernelIdeal.Gen.facts = @Cert.Kernel.main F Cert.Kernel.Gen.facts := by sl_kernel_rfl

variable (m : (ℓ : Loc nD τ sig) → Buf (Elt F) ℓ) (ρ : Dev nD → PrngReg)

/-- `Cert.Kernel.Model.run_values` of the idealized program. -/
theorem run_values : θ_run defs (onTc (τ := τ) (main (F := F))) ⟨m, fun _ => 0, ρ⟩ (fun r => (∀ c : Dev nD,
      r.2.mem ((c.tc : Thread nD τ).loc main_v3) = Cert.Kernel.Model.resY (m ((c.tc : Thread nD τ).loc main_arg0)) (m ((c.tc : Thread nD τ).loc main_arg1)) (m ((c.tc : Thread nD τ).loc main_arg2))
      ∧ r.2.mem ((c.tc : Thread nD τ).loc main_v4) = Cert.Kernel.Model.resS (m ((c.tc : Thread nD τ).loc main_arg0)) (m ((c.tc : Thread nD τ).loc main_arg2))
      ∧ r.2.mem ((c.tc : Thread nD τ).loc main_v2_2) = Cert.Kernel.Model.resC (m ((c.tc : Thread nD τ).loc main_arg0)) (m ((c.tc : Thread nD τ).loc main_arg1)) (m ((c.tc : Thread nD τ).loc main_arg2))
      ∧ r.2.mem ((c.tc : Thread nD τ).loc main_v5) = Cert.Kernel.Model.resWsc (m ((c.tc : Thread nD τ).loc main_arg0)) (m ((c.tc : Thread nD τ).loc main_arg1)) (m ((c.tc : Thread nD τ).loc main_arg2))
      ∧ r.2.mem ((c.tc : Thread nD τ).loc main_v6) = Cert.Kernel.Model.resXc (m ((c.tc : Thread nD τ).loc main_arg0)) (m ((c.tc : Thread nD τ).loc main_arg2))
      ∧ r.2.mem ((c.tc : Thread nD τ).loc main_v2_5) = Cert.Kernel.Model.resXsc (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same, main_same]
  exact Cert.Kernel.Model.run_values m ρ

end Cert.KernelIdeal.Model

/-! ## The reference -/

namespace Cert.ReferenceIdeal.Model

open Idealize.ShloMosaic Idealize.ShloMosaic.TcCoe Idealize.ShloMosaic.Tactic Idealize.SL.Sem
open Cert.ReferenceIdeal Cert.ReferenceIdeal.Gen

variable {F : FTy → Type} [FloatOps F]
variable (m : (ℓ : Loc nD τ sig) → Buf (Elt F) ℓ) (ρ : Dev nD → PrngReg)

/-- The operands the reference works on, from the program's arguments. -/
abbrev opX (x : Vec F S2x128x3584 .bf16) : Vec F S256x3584 .bf16 := shapeCast S256x3584 x shapeCasts_S2x128x3584_S256x3584
@[inherit_doc opX] abbrev opA (a : Vec F S3584 .f32) : Vec F S1x3584 .f32 := shapeCast S1x3584 a shapeCasts_S3584_S1x3584

theorem V_x (c : Dev nD) : V m c main_v0 = opX (m ((c : Thread nD τ).loc main_arg0)) := by
  unfold V
  after_reads_simp
  rfl
theorem V_a (c : Dev nD) : V m c main_v1 = opA (m ((c : Thread nD τ).loc main_arg2)) := by
  unfold V
  after_reads_simp
  rfl

theorem iblk_x (c : Dev nD) : iblk m c 0 t0_0 = opX (m ((c : Thread nD τ).loc main_arg0)) := by
  rw [← V_x]
  funext j
  unfold iblk
  rw [View.read_apply]
  show V m c main_v0 _ = V m c main_v0 _
  exact congrArg (V m c main_v0) (funext fun a => Fin.ext (Pipeline.Window.rect_emb_val_of_index_zero win0_0 t0_0 a (by revert a; decide +kernel) j))
theorem iblk_w (c : Dev nD) : iblk m c 1 t0_0 = m ((c : Thread nD τ).loc main_arg1) := by
  rw [← V_main_arg1 m c]
  funext j
  unfold iblk
  rw [View.read_apply]
  show V m c main_arg1 _ = V m c main_arg1 _
  exact congrArg (V m c main_arg1) (funext fun a => Fin.ext (Pipeline.Window.rect_emb_val_of_index_zero win0_1 t0_0 a (by revert a; decide +kernel) j))
theorem iblk_a (c : Dev nD) : iblk m c 2 t0_0 = opA (m ((c : Thread nD τ).loc main_arg2)) := by
  rw [← V_a]
  funext j
  unfold iblk
  rw [View.read_apply]
  show V m c main_v1 _ = V m c main_v1 _
  exact congrArg (V m c main_v1) (funext fun a => Fin.ext (Pipeline.Window.rect_emb_val_of_index_zero win0_2 t0_0 a (by revert a; decide +kernel) j))

/-- The reference's six results, from the operands. -/
def refY (x : Vec F S256x3584 .bf16) (w : Vec F S3584x18944 .bf16) (a : Vec F S1x3584 .f32) : Vec F S2x128x18944 .bf16 :=
  k0_pay13 (k0_pay1 x) (k0_pay2 x a) (k0_pay5 x w a) (k0_pay6 x w a)
@[inherit_doc refY] def refS (x : Vec F S256x3584 .bf16) (a : Vec F S1x3584 .f32) : Vec F S3584 .f32 := k0_pay3 x a
@[inherit_doc refY] def refC (x : Vec F S256x3584 .bf16) (w : Vec F S3584x18944 .bf16) (a : Vec F S1x3584 .f32) : Vec F S3584x18944 .i8 := k0_pay6 x w a
@[inherit_doc refY] def refWsc (x : Vec F S256x3584 .bf16) (w : Vec F S3584x18944 .bf16) (a : Vec F S1x3584 .f32) : Vec F S18944 .f32 := k0_pay7 (k0_pay5 x w a)
@[inherit_doc refY] def refXc (x : Vec F S256x3584 .bf16) (a : Vec F S1x3584 .f32) : Vec F S2x128x3584 .i8 := k0_pay11 (k0_pay1 x) (k0_pay2 x a)
@[inherit_doc refY] def refXsc (x : Vec F S256x3584 .bf16) (a : Vec F S1x3584 .f32) : Vec F S2x128 .f32 := k0_pay12 (k0_pay1 x) (k0_pay2 x a)

theorem ld_x (x : Vec F S256x3584 .bf16) : View.ld x r0_0 = x := View.ld_unit_lit _ _ (by decide)
theorem ld_w (x : Vec F S3584x18944 .bf16) : View.ld x r0_1 = x := View.ld_unit_lit _ _ (by decide)
theorem ld_a (x : Vec F S1x3584 .f32) : View.ld x r0_2 = x := View.ld_unit_lit _ _ (by decide)

section
variable (x : Vec F S256x3584 .bf16) (w : Vec F S3584x18944 .bf16) (a : Vec F S1x3584 .f32)

/-- What the body leaves in each result's buffer is the result. -/
theorem out_y : out0_3 x w a = refY x w a := by
  unfold_out out0_3
  rw [ld_x, ld_w, ld_a]
  exact View.canon_cons_unit_lit _ _ _ (by decide)
theorem out_s : out0_4 x w a = refS x a := by
  unfold_out out0_4
  rw [ld_x, ld_a]
  exact View.canon_cons_unit_lit _ _ _ (by decide)
theorem out_c : out0_5 x w a = refC x w a := by
  unfold_out out0_5
  rw [ld_x, ld_w, ld_a]
  exact View.canon_cons_unit_lit _ _ _ (by decide)
theorem out_wsc : out0_6 x w a = refWsc x w a := by
  unfold_out out0_6
  rw [ld_x, ld_w, ld_a]
  exact View.canon_cons_unit_lit _ _ _ (by decide)
theorem out_xc : out0_7 x w a = refXc x a := by
  unfold_out out0_7
  rw [ld_x, ld_a]
  exact View.canon_cons_unit_lit _ _ _ (by decide)
theorem out_xsc : out0_8 x w a = refXsc x a := by
  unfold_out out0_8
  rw [ld_x, ld_a]
  exact View.canon_cons_unit_lit _ _ _ (by decide)
end

section
variable (c : Dev nD)

/-- The results are written back whole. -/
theorem arr_y : (dats m 0 c).arrAt 3 cfg0.N = refY (opX (m ((c.tc : Thread nD τ).loc main_arg0))) (m ((c.tc : Thread nD τ).loc main_arg1)) (opA (m ((c.tc : Thread nD τ).loc main_arg2))) := by
  refine (dats m 0 c).arrAt_eq_of_after_last 3 t0_0 (by decide +kernel) _ fun j => ?_
  rw [after0_3, iblk_x, iblk_w, iblk_a, out_y]
  blk_simp
theorem arr_s : (dats m 0 c).arrAt 4 cfg0.N = refS (opX (m ((c.tc : Thread nD τ).loc main_arg0))) (opA (m ((c.tc : Thread nD τ).loc main_arg2))) := by
  refine (dats m 0 c).arrAt_eq_of_after_last 4 t0_0 (by decide +kernel) _ fun j => ?_
  rw [after0_4, iblk_x, iblk_w, iblk_a, out_s]
  blk_simp
theorem arr_c : (dats m 0 c).arrAt 5 cfg0.N = refC (opX (m ((c.tc : Thread nD τ).loc main_arg0))) (m ((c.tc : Thread nD τ).loc main_arg1)) (opA (m ((c.tc : Thread nD τ).loc main_arg2))) := by
  refine (dats m 0 c).arrAt_eq_of_after_last 5 t0_0 (by decide +kernel) _ fun j => ?_
  rw [after0_5, iblk_x, iblk_w, iblk_a, out_c]
  blk_simp
theorem arr_wsc : (dats m 0 c).arrAt 6 cfg0.N = refWsc (opX (m ((c.tc : Thread nD τ).loc main_arg0))) (m ((c.tc : Thread nD τ).loc main_arg1)) (opA (m ((c.tc : Thread nD τ).loc main_arg2))) := by
  refine (dats m 0 c).arrAt_eq_of_after_last 6 t0_0 (by decide +kernel) _ fun j => ?_
  rw [after0_6, iblk_x, iblk_w, iblk_a, out_wsc]
  blk_simp
theorem arr_xc : (dats m 0 c).arrAt 7 cfg0.N = refXc (opX (m ((c.tc : Thread nD τ).loc main_arg0))) (opA (m ((c.tc : Thread nD τ).loc main_arg2))) := by
  refine (dats m 0 c).arrAt_eq_of_after_last 7 t0_0 (by decide +kernel) _ fun j => ?_
  rw [after0_7, iblk_x, iblk_w, iblk_a, out_xc]
  blk_simp
theorem arr_xsc : (dats m 0 c).arrAt 8 cfg0.N = refXsc (opX (m ((c.tc : Thread nD τ).loc main_arg0))) (opA (m ((c.tc : Thread nD τ).loc main_arg2))) := by
  refine (dats m 0 c).arrAt_eq_of_after_last 8 t0_0 (by decide +kernel) _ fun j => ?_
  rw [after0_8, iblk_x, iblk_w, iblk_a, out_xsc]
  blk_simp
end

/-- The reference's program, from any memory: its results, its arguments unchanged, every semaphore at zero. -/
theorem run_values : θ_run defs (onTc (τ := τ) (main (F := F))) ⟨m, fun _ => 0, ρ⟩ (fun r => (∀ c : Dev nD,
      r.2.mem ((c.tc : Thread nD τ).loc main_v2_0) = refY (opX (m ((c.tc : Thread nD τ).loc main_arg0))) (m ((c.tc : Thread nD τ).loc main_arg1)) (opA (m ((c.tc : Thread nD τ).loc main_arg2)))
      ∧ r.2.mem ((c.tc : Thread nD τ).loc main_v2_1) = refS (opX (m ((c.tc : Thread nD τ).loc main_arg0))) (opA (m ((c.tc : Thread nD τ).loc main_arg2)))
      ∧ r.2.mem ((c.tc : Thread nD τ).loc main_v2_2) = refC (opX (m ((c.tc : Thread nD τ).loc main_arg0))) (m ((c.tc : Thread nD τ).loc main_arg1)) (opA (m ((c.tc : Thread nD τ).loc main_arg2)))
      ∧ r.2.mem ((c.tc : Thread nD τ).loc main_v2_3) = refWsc (opX (m ((c.tc : Thread nD τ).loc main_arg0))) (m ((c.tc : Thread nD τ).loc main_arg1)) (opA (m ((c.tc : Thread nD τ).loc main_arg2)))
      ∧ r.2.mem ((c.tc : Thread nD τ).loc main_v2_4) = refXc (opX (m ((c.tc : Thread nD τ).loc main_arg0))) (opA (m ((c.tc : Thread nD τ).loc main_arg2)))
      ∧ r.2.mem ((c.tc : Thread nD τ).loc main_v2_5) = refXsc (opX (m ((c.tc : Thread nD τ).loc main_arg0))) (opA (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ?_, h.2⟩) (run_main_quiescent m ρ)
  obtain ⟨ha, hr⟩ := h.1 c
  exact ⟨(ha 3).trans (arr_y m c), (ha 4).trans (arr_s m c), (ha 5).trans (arr_c m c), (ha 6).trans (arr_wsc m c), (ha 7).trans (arr_xc m c), (ha 8).trans (arr_xsc m c),
    (hr main_arg0 (Pipeline.mem_restRefs_of main_arg0 (by decide) (by decide))).trans (V_main_arg0 m c),
    ((ha 1).trans ((dats m 0 c).arrAt_in 1 rfl _)).trans (V_main_arg1 m c),
    (hr main_arg2 (Pipeline.mem_restRefs_of main_arg2 (by decide) (by decide))).trans (V_main_arg2 m c)⟩

end Cert.ReferenceIdeal.Model

end
-- ==== Proof.Scalar.lean ====
/- The scalar facts the two programs' equation rests on: a square root is the power one half, a product with an inverse is a
   quotient, the scale is never zero, and clipped values convert to eight bits through thirty-two as they do directly. -/
module

public import Idealize.ShloMosaic.Lib.Pointwise
public import Idealize.ShloMosaic.PureOps.Ideal.Laws

@[expose] public section

noncomputable section

namespace Cert.Equation

open Idealize.ShloMosaic

/-- The lower bound put on the absolute maxima. -/
def cMin : EReal := Ideal.ofBits .f32 0x3727C5AC#32

/-- The word of minus infinity is the least extended real. -/
theorem ofBits_neg_inf : Ideal.ofBits .f32 0xFF800000#32 = ⊥ := by simp [Ideal.ofBits, Ideal.ieee]
/-- The word of one half. -/
theorem ofBits_half : Ideal.ofBits .f32 0x3F000000#32 = ((1 / 2 : ℝ) : EReal) := by
  simp [Ideal.ofBits, Ideal.ieee]; rw [← EReal.coe_mul]; norm_num
/-- The word of 127. -/
theorem ofBits_127 : Ideal.ofBits .f32 0x42FE0000#32 = ((127 : ℝ) : EReal) := by
  simp [Ideal.ofBits, Ideal.ieee]; rw [← EReal.coe_mul]; norm_num
/-- The word of -127. -/
theorem ofBits_neg_127 : Ideal.ofBits .f32 0xC2FE0000#32 = ((-127 : ℝ) : EReal) := by
  simp [Ideal.ofBits, Ideal.ieee]; rw [← EReal.coe_mul]; norm_num
/-- The clamp is positive. -/
theorem cMin_pos : 0 < cMin := by
  simp [cMin, Ideal.ofBits, Ideal.ieee]; rw [← EReal.coe_mul]; exact EReal.coe_pos.mpr (by norm_num)

/-- The square root of a number that is not below zero is its power one half. -/
theorem sqrt_eq_pow (v : EReal) (h : 0 ≤ v) : Ideal.sqrt v = Ideal.pow v ((1 / 2 : ℝ) : EReal) := by
  induction v using EReal.rec with
  | bot => simp at h
  | top => exact (if_pos (EReal.coe_pos.mpr (by norm_num))).symm
  | coe r =>
    have hr : ¬ r < 0 := not_lt.mpr (EReal.coe_nonneg.mp h)
    refine (if_neg hr).trans ?_
    exact congrArg (fun x : ℝ => (x : EReal)) (Real.sqrt_eq_rpow r)

/-- The largest of finitely many numbers. -/
def mx {n : ℕ} (f : Fin n → EReal) : EReal := Finset.univ.fold max ⊥ f

/-- A maximum is at most `b` when every element is. -/
theorem mx_le {n : ℕ} (f : Fin n → EReal) (b : EReal) : mx f ≤ b ↔ ∀ k, f k ≤ b := by
  simp [mx, Finset.fold_max_le]

/-- The absolute value. -/
def ab (x : EReal) : EReal := max x (-x)

/-- The scale of a group whose largest absolute value is `m`. -/
def qs (m : EReal) : EReal := if m = 0 then 1 else Ideal.div m ((127 : ℝ) : EReal)

/-- A scale is never zero. -/
theorem qs_ne_zero (m : EReal) : qs m ≠ 0 := by
  unfold qs
  split
  · exact one_ne_zero
  · rename_i h
    have h127 : ((127 : ℝ) : EReal) ≠ 0 := by norm_num
    rw [Ideal.div, if_neg h127]
    refine mul_ne_zero h ?_
    rw [← EReal.coe_inv]
    norm_num

/-- A product with the inverse of a number that is not zero is the quotient. -/
theorem mul_inv_eq_div (x s : EReal) (h : s ≠ 0) : x * Ideal.div 1 s = Ideal.div x s := by
  rw [Ideal.div, Ideal.div, if_neg h, if_neg h, one_mul]

/-- A number clipped to the code's range after rounding. -/
def clip (z : EReal) : EReal := min ((127 : ℝ) : EReal) (max ((-127 : ℝ) : EReal) (Ideal.liftRound Ideal.roundHalfEven z))

/-- The eight-bit code of a scaled number. -/
def code (z : EReal) : BitVec 8 := Ideal.fptosi 8 (clip z)

/-- A number between -127 and 127 converts to eight bits through thirty-two as it does directly. -/
theorem trunc_fptosi (z : EReal) (hl : ((-127 : ℝ) : EReal) ≤ z) (hu : z ≤ ((127 : ℝ) : EReal)) :
    (Ideal.fptosi 32 z).truncate 8 = Ideal.fptosi 8 z := by
  induction z using EReal.rec with
  | bot => simp at hl
  | top => simp at hu
  | coe r =>
    have h1 : (-127 : ℝ) ≤ r := EReal.coe_le_coe_iff.mp hl
    have h2 : r ≤ 127 := EReal.coe_le_coe_iff.mp hu
    have key : ∀ n : ℤ, -127 ≤ n → n ≤ 127 → (n = if 0 ≤ r then ⌊r⌋ else ⌈r⌉) →
        (Ideal.fptosi 32 (r : EReal)).truncate 8 = Ideal.fptosi 8 (r : EReal) := by
      intro n hn1 hn2 e
      unfold Ideal.fptosi
      rw [Ideal.toIntClamped_coe, Ideal.toIntClamped_coe, ← e]
      have e1 : max (-((2 ^ (32 - 1) : ℕ) : ℤ)) (min (((2 ^ (32 - 1) : ℕ) : ℤ) - 1) n) = n := by norm_num; omega
      have e2 : max (-((2 ^ (8 - 1) : ℕ) : ℤ)) (min (((2 ^ (8 - 1) : ℕ) : ℤ) - 1) n) = n := by norm_num; omega
      rw [e1, e2]
      apply BitVec.eq_of_toNat_eq; simp [BitVec.toNat_ofInt]; omega
    refine key _ ?_ ?_ rfl
    · split
      · exact Int.le_floor.mpr (by push_cast; exact h1)
      · have : (-127 : ℝ) ≤ (⌈r⌉ : ℝ) := h1.trans (Int.le_ceil r)
        exact_mod_cast this
    · split
      · have : (⌊r⌋ : ℝ) ≤ 127 := (Int.floor_le r).trans h2
        exact_mod_cast this
      · exact Int.ceil_le.mpr (by push_cast; exact h2)

/-- A clipped number converts to int8 directly or through int32 alike. -/
theorem trunc_clip (z : EReal) : (Ideal.fptosi 32 (clip z)).truncate 8 = code z :=
  trunc_fptosi _ (le_min (EReal.coe_le_coe_iff.mpr (by norm_num)) (le_max_left _ _)) (min_le_left _ _)

/-- A code as a number. -/
def num (c : BitVec 8) : EReal := ((c.toInt : ℝ) : EReal)

end Cert.Equation

end
-- ==== Proof.Elem.lean ====
/- The operations the two programs share, read at one element over the extended reals: generic in the shapes. -/
module

public import proofs.«01_k».proof.Proof.Scalar
public import Idealize.ShloMosaic.Lib.ValueLayout
public import Idealize.ShloMosaic.Lib.ValueLayoutCasts

@[expose] public section

noncomputable section

namespace Cert.Equation

open Idealize.ShloMosaic hiding ix1 ix2 ix3
open Idealize.ShloMosaic.TcCoe
open Idealize.ShloMosaic.ValueIdx (ix1 ix2 ix3)

/-- The smoothing factor of a column, from its two largest absolute values. -/
def sq (a b : EReal) : EReal :=
  Ideal.div (Ideal.pow (max a cMin) ((1 / 2 : ℝ) : EReal)) (Ideal.pow (max b cMin) ((1 / 2 : ℝ) : EReal))

section
variable {s : Shape} (v a b : FVec Ideal s .f32) (i : s.Idx)

/-- The reference's smoothing factors at an element. -/
theorem sq_pow_apply : divf (powf (maximumf a (broadcast s (Scalar.ofBits .f32 0x3727C5AC#32))) (broadcast s (Scalar.ofBits .f32 0x3F000000#32)))
    (powf (maximumf b (broadcast s (Scalar.ofBits .f32 0x3727C5AC#32))) (broadcast s (Scalar.ofBits .f32 0x3F000000#32))) i = sq (a i) (b i) := by
  show Ideal.div (Ideal.pow (max (a i) cMin) (Ideal.ofBits .f32 0x3F000000#32)) (Ideal.pow (max (b i) cMin) (Ideal.ofBits .f32 0x3F000000#32)) = _
  rw [ofBits_half]; rfl

/-- The kernel's smoothing factors at an element. -/
theorem sq_sqrt_apply : divf (sqrt (maximumf a (broadcast s (Scalar.ofBits .f32 0x3727C5AC#32))))
    (sqrt (maximumf b (broadcast s (Scalar.ofBits .f32 0x3727C5AC#32)))) i = sq (a i) (b i) := by
  show Ideal.div (Ideal.sqrt (max (a i) cMin)) (Ideal.sqrt (max (b i) cMin)) = _
  rw [sqrt_eq_pow _ (cMin_pos.le.trans (le_max_right _ _)), sqrt_eq_pow _ (cMin_pos.le.trans (le_max_right _ _))]; rfl

/-- A scale at an element. -/
theorem scale_apply : select (cmpf .oeq v (broadcast s (Scalar.ofBits .f32 0x00000000#32)))
    (broadcast s (Scalar.ofBits .f32 0x3F800000#32)) (divf v (broadcast s (Scalar.ofBits .f32 0x42FE0000#32))) i = qs (v i) := by
  show (if BitVec.ofBool (decide (v i = Ideal.ofBits .f32 0x00000000#32)) = 1 then Ideal.ofBits .f32 0x3F800000#32
    else Ideal.div (v i) (Ideal.ofBits .f32 0x42FE0000#32)) = _
  rw [ofBits_127, Ideal.ofBits_zero_f32, Ideal.ofBits_one_f32]
  unfold qs
  by_cases h : v i = 0 <;> simp [h]

/-- The reference's codes at an element. -/
theorem code_apply : fptosi 8 (minimumf (broadcast s (Scalar.ofBits .f32 0x42FE0000#32))
    (maximumf (broadcast s (Scalar.ofBits .f32 0xC2FE0000#32)) (roundeven v))) i = code (v i) := by
  show Ideal.fptosi 8 (min (Ideal.ofBits .f32 0x42FE0000#32) (max (Ideal.ofBits .f32 0xC2FE0000#32) _)) = _
  rw [ofBits_127, ofBits_neg_127]; rfl

/-- The kernel's codes at an element. -/
theorem code32_apply (h : 8 < 32) : trunci 8 (fptosi 32 (minimumf (broadcast s (Scalar.ofBits .f32 0x42FE0000#32))
    (maximumf (broadcast s (Scalar.ofBits .f32 0xC2FE0000#32)) (roundeven v)))) h i = code (v i) := by
  refine Eq.trans ?_ (trunc_clip (v i))
  show BitVec.truncate 8 (Ideal.fptosi 32 (min (Ideal.ofBits .f32 0x42FE0000#32) (max (Ideal.ofBits .f32 0xC2FE0000#32) _))) = _
  rw [ofBits_127, ofBits_neg_127]; rfl

/-- A quotient, a product and a sum at an element. -/
theorem div_apply : divf a b i = Ideal.div (a i) (b i) := rfl
@[inherit_doc div_apply] theorem mul_apply : mulf a b i = (a i : EReal) * b i := rfl
@[inherit_doc div_apply] theorem add_apply : addf a b i = (a i : EReal) + b i := rfl

/-- A rounding to bf16 at an element. -/
theorem trunc_apply (h : FTy.bits .bf16 < FTy.bits .f32) : truncf .bf16 v h i = v i := rfl

/-- The inverse of a scale at an element. -/
theorem inv_apply : divf (broadcast s (Scalar.ofBits .f32 0x3F800000#32)) v i = Ideal.div 1 (v i) := by
  show Ideal.div (Ideal.ofBits .f32 0x3F800000#32) _ = _
  rw [Ideal.ofBits_one_f32]

end

section
variable {m n : ℕ}

/-- A column's maximum. -/
theorem max0_apply (v : FVec Ideal ⟨2, ![m, n]⟩ .f32) (h : (⟨2, ![m, n]⟩ : Shape).Reduces [0] ⟨1, ![n]⟩) (hφ : FKind.Formats .f32)
    (hacc : (0xFF800000#32 : BitVec 32) = FKind.maximumf.neutral .f32 hφ) (j : Fin n) :
    multiReduction .maximumf [0] ⟨1, ![n]⟩ v 0xFF800000#32 h hφ hacc (ix1 j) = mx fun k : Fin m => v (ix2 k j) := by
  rw [Ideal.multiReduction_maximumf_single]
  show Finset.fold max (Ideal.ofBits .f32 0xFF800000#32) _ _ = _
  rw [ofBits_neg_inf]
  refine congrArg (fun f : Fin m → EReal => Finset.univ.fold max ⊥ f) (funext fun k => congrArg v (funext fun a => Fin.ext ?_))
  match a with
  | 0 => rfl
  | 1 => rfl

/-- A row's maximum. -/
theorem max1_apply (v : FVec Ideal ⟨2, ![m, n]⟩ .f32) (h : (⟨2, ![m, n]⟩ : Shape).Reduces [1] ⟨1, ![m]⟩) (hφ : FKind.Formats .f32)
    (hacc : (0xFF800000#32 : BitVec 32) = FKind.maximumf.neutral .f32 hφ) (i : Fin m) :
    multiReduction .maximumf [1] ⟨1, ![m]⟩ v 0xFF800000#32 h hφ hacc (ix1 i) = mx fun k : Fin n => v (ix2 i k) := by
  rw [Ideal.multiReduction_maximumf_single]
  show Finset.fold max (Ideal.ofBits .f32 0xFF800000#32) _ _ = _
  rw [ofBits_neg_inf]
  refine congrArg (fun f : Fin n → EReal => Finset.univ.fold max ⊥ f) (funext fun k => congrArg v (funext fun a => Fin.ext ?_))
  match a with
  | 0 => rfl
  | 1 => rfl

variable {α : Type}

/-- A row made a one-row matrix. -/
theorem row_apply (x : (⟨1, ![n]⟩ : Shape).Idx → α) (h : (⟨1, ![n]⟩ : Shape).ShapeCasts ⟨2, ![1, n]⟩) (u : Fin 1) (i : Fin n) :
    shapeCast ⟨2, ![1, n]⟩ x h (ix2 u i) = x (ix1 i) :=
  ValueIdx.shapeCast_a_1a_apply x h u i

/-- A column made a one-column matrix. -/
theorem col_apply (x : (⟨1, ![n]⟩ : Shape).Idx → α) (h : (⟨1, ![n]⟩ : Shape).ShapeCasts ⟨2, ![n, 1]⟩) (u : Fin 1) (i : Fin n) :
    shapeCast ⟨2, ![n, 1]⟩ x h (ix2 i u) = x (ix1 i) :=
  ValueIdx.shapeCast_a_a1_apply x h i u

/-- A row turned into a column. -/
theorem turn_apply (x : (⟨2, ![1, n]⟩ : Shape).Idx → α) (h : (⟨2, ![1, n]⟩ : Shape).ShapeCasts ⟨2, ![n, 1]⟩) (i : Fin n) :
    shapeCast ⟨2, ![n, 1]⟩ x h (ix2 i 0) = x (ix2 0 i) :=
  shapeCast_apply x h _ _ (by
    rw [Shape.rowMajor_val_two, Shape.rowMajor_val_two]
    show 0 * n + i.val = i.val * 1 + 0
    rw [Nat.zero_mul, Nat.zero_add, Nat.mul_one, Nat.add_zero])

/-- A row repeated. -/
theorem bcRow_apply (x : (⟨2, ![1, n]⟩ : Shape).Idx → α) (h : (⟨2, ![1, n]⟩ : Shape).Broadcasts ⟨2, ![m, n]⟩) (i : Fin m) (j : Fin n) :
    broadcastTo ⟨2, ![m, n]⟩ x h (ix2 i j) = x (ix2 0 j) :=
  ValueIdx.broadcastTo_1b_ab_apply x h i j

/-- A column repeated. -/
theorem bcCol_apply (x : (⟨2, ![m, 1]⟩ : Shape).Idx → α) (h : (⟨2, ![m, 1]⟩ : Shape).Broadcasts ⟨2, ![m, n]⟩) (i : Fin m) (j : Fin n) :
    broadcastTo ⟨2, ![m, n]⟩ x h (ix2 i j) = x (ix2 i 0) :=
  broadcastTo_apply x h (ix2 i j) (ix2 i 0) fun ax => by
    match ax with
    | ⟨1, _⟩ => rfl
    | ⟨0, _⟩ =>
      show i.val = if m = 1 then 0 else i.val
      split
      · have := i.isLt; omega
      · rfl

/-- A one-row matrix made a row. -/
theorem unrow_apply (x : (⟨2, ![1, n]⟩ : Shape).Idx → α) (h : (⟨2, ![1, n]⟩ : Shape).ShapeCasts ⟨1, ![n]⟩) (i : Fin n) :
    shapeCast ⟨1, ![n]⟩ x h (ix1 i) = x (ix2 0 i) :=
  ValueIdx.shapeCast_1a_a_apply x h i

/-- A reshape to the same shape. -/
theorem same_apply {s : Shape} (x : s.Idx → α) (h : s.ShapeCasts s) (i : s.Idx) : shapeCast s x h i = x i := by
  pointwise

end

end Cert.Equation

end
-- ==== Proof.Closed.lean ====
/- What the layer computes, element by element, over the extended reals. -/
module

public import proofs.«01_k».proof.Proof.Elem

@[expose] public section

noncomputable section

namespace Cert.Equation

open Idealize.ShloMosaic hiding ix1 ix2 ix3
open Idealize.ShloMosaic.ValueIdx (ix1 ix2 ix3)

variable (X : (⟨2, ![256, 3584]⟩ : Shape).Idx → EReal) (W : (⟨2, ![3584, 18944]⟩ : Shape).Idx → EReal)
  (A : (⟨2, ![1, 3584]⟩ : Shape).Idx → EReal)

/-- The smoothing factor of column `k` of the activations. -/
def sV (k : Fin 3584) : EReal := sq (mx fun i : Fin 256 => ab (X (ix2 i k))) (A (ix2 0 k))
/-- An activation over its smoothing factor. -/
def xsV (i : Fin 256) (k : Fin 3584) : EReal := Ideal.div (X (ix2 i k)) (sV X A k)
/-- The scale of row `i` of the activations. -/
def xscV (i : Fin 256) : EReal := qs (mx fun k : Fin 3584 => ab (xsV X A i k))
/-- An activation's code. -/
def xcV (i : Fin 256) (k : Fin 3584) : BitVec 8 := code (Ideal.div (xsV X A i k) (xscV X A i))
/-- A weight times its smoothing factor. -/
def wsV (k : Fin 3584) (j : Fin 18944) : EReal := W (ix2 k j) * sV X A k
/-- The scale of column `j` of the weights. -/
def wscV (j : Fin 18944) : EReal := qs (mx fun k : Fin 3584 => ab (wsV X W A k j))
/-- A weight's code. -/
def wcV (k : Fin 3584) (j : Fin 18944) : BitVec 8 := code (Ideal.div (wsV X W A k j) (wscV X W A j))
/-- The product of the codes. -/
def accV (i : Fin 256) (j : Fin 18944) : EReal := ∑ k : Fin 3584, num (xcV X A i k) * num (wcV X W A k j)
/-- The product rescaled. -/
def yV (i : Fin 256) (j : Fin 18944) : EReal := accV X W A i j * xscV X A i * wscV X W A j

end Cert.Equation

end
-- ==== Proof.Ref.lean ====
/- What the reference computes, element by element: the layer's closed forms. -/
module

public import proofs.«01_k».proof.Proof.Closed
public import proofs.«01_k».proof.Proof.Values
public import Idealize.ShloMosaic.Lib.MatmulPlain

@[expose] public section

set_option maxHeartbeats 400000

noncomputable section

namespace Cert.Equation

open Idealize.ShloMosaic hiding ix1 ix2 ix3
open Idealize.ShloMosaic.TcCoe
open Idealize.ShloMosaic.ValueIdx (ix1 ix2 ix3)
open Cert.ReferenceIdeal Cert.ReferenceIdeal.Gen

variable (X : Vec Ideal S256x3584 .bf16) (W : Vec Ideal S3584x18944 .bf16) (A : Vec Ideal S1x3584 .f32)

/-- The reference's activations are its first argument. -/
theorem pay1_apply (i : S256x3584.Idx) : k0_pay1 X i = X i := same_apply X _ i

/-- The reference's row of smoothing scales. -/
theorem pay2_apply (k : Fin 3584) : k0_pay2 X A (ix2 0 k) = sV X A k := by
  dsimp only [k0_pay2]
  refine (sq_pow_apply _ _ _).trans (congrArg₂ sq ?_ (same_apply A _ _))
  refine (row_apply _ _ _ _).trans ((max0_apply _ _ _ _ _).trans (congrArg mx (funext fun i => ?_)))
  exact congrArg ab (pay1_apply X _)

/-- The smoothing scales as it returns them. -/
theorem pay3_apply (k : Fin 3584) : k0_pay3 X A (ix1 k) = sV X A k := by
  dsimp only [k0_pay3]
  exact (unrow_apply _ _ _).trans (pay2_apply X A k)

/-- Its smoothed weights. -/
theorem pay4_apply (k : Fin 3584) (j : Fin 18944) : k0_pay4 X W A (ix2 k j) = wsV X W A k j := by
  dsimp only [k0_pay4]
  exact congrArg (fun z : EReal => (W (ix2 k j) : EReal) * z) ((bcCol_apply _ _ _ _).trans ((turn_apply _ _ _).trans (pay2_apply X A k)))

/-- Its output channels' scales, as a row. -/
theorem pay5_apply (j : Fin 18944) : k0_pay5 X W A (ix2 0 j) = wscV X W A j := by
  dsimp only [k0_pay5]
  rw [scale_apply, wscV]
  refine congrArg qs ?_
  refine (row_apply _ _ _ _).trans ((max0_apply _ _ _ _ _).trans (congrArg mx (funext fun i => ?_)))
  exact congrArg ab (pay4_apply X W A _ _)

/-- Its weights' codes. -/
theorem pay6_apply (k : Fin 3584) (j : Fin 18944) : k0_pay6 X W A (ix2 k j) = wcV X W A k j := by
  dsimp only [k0_pay6]
  rw [code_apply, wcV, div_apply, bcRow_apply, pay4_apply, pay5_apply]

/-- Its output channels' scales as it returns them. -/
theorem pay7_apply (j : Fin 18944) : k0_pay7 (k0_pay5 X W A) (ix1 j) = wscV X W A j := by
  dsimp only [k0_pay7]
  exact (unrow_apply _ _ _).trans (pay5_apply X W A j)

/-- Its smoothed activations. -/
theorem pay8_apply (i : Fin 256) (k : Fin 3584) : k0_pay8 (k0_pay1 X) (k0_pay2 X A) (ix2 i k) = xsV X A i k := by
  dsimp only [k0_pay8]
  exact congrArg₂ Ideal.div (pay1_apply X _) ((bcRow_apply _ _ _ _).trans (pay2_apply X A k))

/-- Its tokens' scales, as a column. -/
theorem pay9_apply (i : Fin 256) : k0_pay9 (k0_pay1 X) (k0_pay2 X A) (ix2 i 0) = xscV X A i := by
  dsimp only [k0_pay9]
  rw [scale_apply, xscV]
  refine congrArg qs ?_
  refine (col_apply _ _ _ _).trans ((max1_apply _ _ _ _ _).trans (congrArg mx (funext fun k => ?_)))
  exact congrArg ab (pay8_apply X A _ _)

/-- Its activations' codes. -/
theorem pay10_apply (i : Fin 256) (k : Fin 3584) : k0_pay10 (k0_pay1 X) (k0_pay2 X A) (ix2 i k) = xcV X A i k := by
  dsimp only [k0_pay10]
  rw [code_apply, xcV, div_apply, bcCol_apply, pay8_apply, pay9_apply]

/-- The reference's product, before it is reshaped. -/
theorem pay13_eq : k0_pay13 (k0_pay1 X) (k0_pay2 X A) (k0_pay5 X W A) (k0_pay6 X W A)
    = shapeCast S2x128x18944 (fun j : S256x18944.Idx => yV X W A (j 0) (j 1)) shapeCasts_S256x18944_S2x128x18944 := by
  dsimp only [k0_pay13]
  refine congrArg (fun f => shapeCast S2x128x18944 f shapeCasts_S256x18944_S2x128x18944) (funext fun j => ?_)
  obtain ⟨i, j, rfl⟩ : ∃ (i : Fin 256) (j' : Fin 18944), j = ix2 i j' := ⟨j 0, j 1, ValueIdx.eq_ix2 j⟩
  show _ = yV X W A i j
  rw [trunc_apply]
  rw [yV, mul_apply, mul_apply, bcCol_apply, bcRow_apply, pay9_apply, pay5_apply]
  refine congrArg (fun z : EReal => z * xscV X A i * wscV X W A j) ?_
  refine (Ideal.matmul_plain_apply none _ _ _ i j).trans ?_
  rw [accV]
  refine (congrArg₂ (fun a b : EReal => a + b) Ideal.ofBits_zero_f32 (Finset.sum_congr rfl fun k _ => ?_)).trans (zero_add _)
  exact congrArg₂ (fun a b : EReal => a * b) (congrArg num (pay10_apply X A _ _)) (congrArg num (pay6_apply X W A _ _))

end Cert.Equation

end
-- ==== Proof.Cat.lean ====
/- Concatenations and running maxima read at an element. -/
module

public import proofs.«01_k».proof.Proof.Closed
public import proofs.«01_k».proof.Proof.Spec

@[expose] public section

set_option maxHeartbeats 400000

noncomputable section

namespace Cert.Equation

open Idealize.ShloMosaic hiding ix1 ix2 ix3
open Idealize.ShloMosaic.TcCoe
open Idealize.ShloMosaic.ValueIdx (ix1 ix2 ix3)
open Cert.Kernel Cert.Kernel.Gen Cert.Kernel.Model

/-! ## Concatenations -/

section
variable {α : Type}

/-- A matrix of equal columns beside itself has that same value in every column of a row. -/
theorem cat1_apply {m : ℕ} (x : (⟨2, ![m, 128]⟩ : Shape).Idx → α)
    (h : Shape.Concatenates [⟨2, ![m, 128]⟩, ⟨2, ![m, 128]⟩] ⟨2, ![m, 256]⟩ 1) (i : Fin m) (l : Fin 256) (z : α)
    (hz : ∀ l, x (ix2 i l) = z) : concatenate ⟨2, ![m, 256]⟩ 1 [⟨⟨2, ![m, 128]⟩, x⟩, ⟨⟨2, ![m, 128]⟩, x⟩] h (ix2 i l) = z := by
  by_cases hl : l.val < 128
  · refine (concatenate_pair_apply_left _ _ _ h (ix2 i l) rfl (ix2 i ⟨l.val, hl⟩) fun b => ?_).trans (hz _)
    match b with
    | 0 => rfl
    | 1 => rfl
  · refine (concatenate_pair_apply_right _ _ _ h (ix2 i l) rfl rfl (ix2 i ⟨l.val - 128, by omega⟩) (fun b hb => ?_) ?_).trans (hz _)
    · match b with
      | 0 => rfl
      | 1 => exact absurd rfl hb
    · show l.val - 128 + 128 = l.val
      omega

/-- Pieces of 32 rows below one another. -/
theorem catAt_apply (f : ℕ → α) (u : Fin 256) (y : Fin 256) : (ps : List (S32x256.Idx → α)) → (o c : ℕ) →
    (hs : ∀ s' ∈ (ps.map fun p => (⟨S32x256, p⟩ : (s : Shape) × (s.Idx → α))).map (·.1), s'.FitsOff S256x256 0) →
    (hc : c < (axisSizes S256x256 0 (ps.map fun p => (⟨S32x256, p⟩ : (s : Shape) × (s.Idx → α)))).sum) →
    (∀ (r : ℕ) (hr : r < ps.length) (x : Fin 32), ps[r] (ix2 x y) = f (o + 32 * r + x.val)) →
    concatenateAt S256x256 0 (ix2 u y) (ps.map fun p => (⟨S32x256, p⟩ : (s : Shape) × (s.Idx → α))) hs c hc = f (o + c)
  | [], o, c, hs, hc, hp => absurd hc (Nat.not_lt_zero _)
  | [p], o, c, hs, hc, hp => by
    have hc' : c < 32 := by simpa [axisSizes] using hc
    refine (concatenateAt_singleton (0 : Fin S256x256.rank) (ix2 u y) p hs c hc).trans ?_
    refine Eq.trans (congrArg p (ext2 ?_ ?_)) ((hp 0 (Nat.zero_lt_one) ⟨c, hc'⟩).trans (congrArg f (by simp)))
    · rfl
    · rfl
  | p :: q :: ps, o, c, hs, hc, hp => by
    refine (concatenateAt_cons (0 : Fin S256x256.rank) (ix2 u y) p ⟨S32x256, q⟩ _ hs c hc).trans ?_
    split
    · rename_i h
      have hlt : c < 32 := h
      refine Eq.trans (congrArg p (ext2 ?_ ?_)) ((hp 0 (Nat.succ_pos _) ⟨c, hlt⟩).trans (congrArg f (by simp)))
      · rfl
      · rfl
    · rename_i h
      have hlt : ¬ c < 32 := h
      refine (catAt_apply f u y (q :: ps) (o + 32) (c - 32) _ _ fun r hr x => ?_).trans (congrArg f (by omega))
      refine (hp (r + 1) (Nat.succ_lt_succ hr) x).trans (congrArg f (by omega))

end

/-! ## Running maxima -/

/-- That every running maximum of a column is at most `b`. -/
def Bounded (a : Amax Ideal) (y : Fin 256) (b : EReal) : Prop :=
  match a with
  | none => True
  | some (p, q) => ∀ x : Fin 8, (p (ix2 x y) : EReal) ≤ b ∧ (q (ix2 x y) : EReal) ≤ b

/-- The absolute value, element by element. -/
theorem abs_apply (w : FVec Ideal S32x256 .f32) (x : Fin 8) (y : Fin 256) :
    abs0 w (ix2 x y) = ab (w (ix2 ⟨x.val, by omega⟩ y)) ∧ abs1 w (ix2 x y) = ab (w (ix2 ⟨8 + x.val, by omega⟩ y))
      ∧ abs2 w (ix2 x y) = ab (w (ix2 ⟨16 + x.val, by omega⟩ y)) ∧ abs3 w (ix2 x y) = ab (w (ix2 ⟨24 + x.val, by omega⟩ y)) :=
  ⟨congrArg ab (ValueIdx.slice2_axis0_apply 0 w _ x y _ (Nat.zero_add _).symm), congrArg ab (ValueIdx.slice2_axis0_apply 8 w _ x y _ rfl),
    congrArg ab (ValueIdx.slice2_axis0_apply 16 w _ x y _ rfl), congrArg ab (ValueIdx.slice2_axis0_apply 24 w _ x y _ rfl)⟩

/-- The four groups of eight rows are the 32 rows. -/
theorem rows32 {P : Fin 32 → Prop} : (∀ x : Fin 32, P x) ↔ ∀ x : Fin 8, (P ⟨x.val, by omega⟩ ∧ P ⟨16 + x.val, by omega⟩)
    ∧ (P ⟨8 + x.val, by omega⟩ ∧ P ⟨24 + x.val, by omega⟩) := by
  refine ⟨fun h x => ⟨⟨h _, h _⟩, h _, h _⟩, fun h x => ?_⟩
  have e : ∀ (y : Fin 32), y.val = x.val → P y → P x := fun y hy hp => (Fin.ext hy) ▸ hp
  have hx := x.isLt
  rcases (show x.val < 8 ∨ (8 ≤ x.val ∧ x.val < 16) ∨ (16 ≤ x.val ∧ x.val < 24) ∨ 24 ≤ x.val by omega) with h1 | h1 | h1 | h1
  · exact e _ rfl (h ⟨x.val, h1⟩).1.1
  · exact e _ (by show 8 + (x.val - 8) = x.val; omega) (h ⟨x.val - 8, by omega⟩).2.1
  · exact e _ (by show 16 + (x.val - 16) = x.val; omega) (h ⟨x.val - 16, by omega⟩).1.2
  · exact e _ (by show 24 + (x.val - 24) = x.val; omega) (h ⟨x.val - 24, by omega⟩).2.2

/-- The maximum of two arrays, element by element. -/
theorem max_apply {s : Shape} (v w : FVec Ideal s .f32) (i : s.Idx) : maximumf v w i = max (v i : EReal) (w i) := rfl

/-- One more chunk bounds the maxima by its absolute values. -/
theorem bounded_step (a : Amax Ideal) (w : FVec Ideal S32x256 .f32) (y : Fin 256) (b : EReal) :
    Bounded (amaxStep a w) y b ↔ Bounded a y b ∧ ∀ x : Fin 32, ab (w (ix2 x y)) ≤ b := by
  rw [rows32]
  match a with
  | none =>
    simp only [amaxStep, Bounded, true_and]
    refine forall_congr' fun x => ?_
    obtain ⟨e0, e1, e2, e3⟩ := abs_apply w x y
    rw [max_apply, max_apply, e0, e1, e2, e3, max_le_iff, max_le_iff]
  | some (p, q) =>
    simp only [amaxStep, Bounded]
    rw [← forall_and]
    refine forall_congr' fun x => ?_
    obtain ⟨e0, e1, e2, e3⟩ := abs_apply w x y
    rw [max_apply, max_apply, max_apply, max_apply, e0, e1, e2, e3, max_le_iff, max_le_iff, max_le_iff, max_le_iff]
    tauto

/-- A block's scales from its running maxima. -/
theorem scaleOf_apply (p q : FVec Ideal S8x256 .f32) (y : Fin 256) (m : EReal) (h : ∀ b, m ≤ b ↔ Bounded (some (p, q)) y b) :
    scaleOf (some (p, q)) (ix2 0 y) = qs m := by
  dsimp only [scaleOf]
  rw [scaleOfMax, scale_apply, row_apply]
  refine congrArg qs ((max0_apply _ _ _ _ _).trans (eq_of_forall_ge_iff fun b => ?_))
  rw [mx_le, h]
  exact forall_congr' fun x => max_le_iff

end Cert.Equation

end
-- ==== Proof.Ker1.lean ====
/- What the kernel computes of its smoothing factors and activations, element by element: the layer's closed forms. -/
module

public import proofs.«01_k».proof.Proof.Closed
public import proofs.«01_k».proof.Proof.Spec

@[expose] public section

set_option maxHeartbeats 400000

noncomputable section

namespace Cert.Equation

open Idealize.ShloMosaic hiding ix1 ix2 ix3
open Idealize.ShloMosaic.TcCoe
open Idealize.ShloMosaic.ValueIdx (ix1 ix2 ix3)
open Cert.Kernel Cert.Kernel.Gen Cert.Kernel.Model

variable (X : Vec Ideal S256x3584 .bf16) (A : Vec Ideal S1x3584 .f32)

/-- The smoothing scales of a chunk of 128 channels. -/
theorem sCh_apply (c : ℕ) (h : c < 28) (u : Fin 128) (k : Fin 3584) (hk : k.val = 128 * c + u.val) :
    sCh X A c h (ix2 0 u) = sV X A k := by
  rw [sCh, sOf, sq_sqrt_apply, row_apply, same_apply, sV]
  refine congrArg₂ sq ((max0_apply _ _ _ _ _).trans (congrArg mx (funext fun i => congrArg ab ?_))) ?_
  · refine congrArg X (ext2 ?_ ?_)
    · show 0 + 1 * i.val = i.val; omega
    · show 128 * c + 1 * u.val = k.val; omega
  · refine congrArg A (ext2 ?_ ?_)
    · show 0 + 1 * 0 = 0; omega
    · show 128 * c + 1 * u.val = k.val; omega

/-- The kernel's row of smoothing scales. -/
theorem sAll_apply (k : Fin 3584) : sAll X A (ix2 0 k) = sV X A k := by
  rw [sAll]
  exact sCh_apply X A (k.val / 128) _ ⟨k.val % 128, Nat.mod_lt _ (by omega)⟩ k (Nat.div_add_mod _ _).symm

/-- The smoothing scales spread over 128 columns, one row per channel. -/
theorem sbAll_apply (k : Fin 3584) (l : Fin 128) : sbAll X A (ix2 k l) = sV X A k := by
  rw [sbAll, glue0, same_apply, sbOf]
  refine (ValueIdx.transpose_ix2_apply _ _ _ _).trans ((bcRow_apply _ _ _ _).trans ((same_apply _ _ _).trans ?_))
  exact sCh_apply X A (k.val / 128) _ ⟨k.val % 128, Nat.mod_lt _ (by omega)⟩ k (Nat.div_add_mod _ _).symm

/-- A chunk of 32 tokens, smoothed. -/
theorem xsCh_apply (c : ℕ) (h : c < 8) (x : Fin 32) (k : Fin 3584) (i : Fin 256) (hi : i.val = 32 * c + x.val) :
    xsCh X A c h (ix2 x k) = xsV X A i k := by
  rw [xsCh, xsOf, div_apply, bcRow_apply, same_apply, xsV]
  refine congrArg₂ Ideal.div ?_ ((congrArg (sAll X A) (ext2 ?_ ?_)).trans (sAll_apply X A k))
  · refine congrArg X (ext2 ?_ ?_)
    · show 32 * c + 1 * x.val = i.val; omega
    · show 0 + 1 * k.val = k.val; omega
  · show 0 + 1 * 0 = 0; omega
  · show 0 + 1 * k.val = k.val; omega

/-- The scales of a chunk of 32 tokens. -/
theorem xScale_apply (c : ℕ) (h : c < 8) (x : Fin 32) (i : Fin 256) (hi : i.val = 32 * c + x.val) :
    xScaleOf (xsCh X A c h) (ix2 x 0) = xscV X A i := by
  rw [xScaleOf, xScaleOfMax, scale_apply, col_apply, xscV]
  exact congrArg qs ((max1_apply _ _ _ _ _).trans (congrArg mx (funext fun k => congrArg ab (xsCh_apply X A c h x k i hi))))

/-- The codes of a chunk of 32 tokens. -/
theorem xCodes_apply (c : ℕ) (h : c < 8) (x : Fin 32) (k : Fin 3584) (i : Fin 256) (hi : i.val = 32 * c + x.val) :
    xCodesOf (xsCh X A c h) (ix2 x k) = xcV X A i k := by
  rw [xCodesOf, code32_apply, mul_apply, bcCol_apply, inv_apply, xScale_apply X A c h x i hi, xsCh_apply X A c h x k i hi, xcV,
    mul_inv_eq_div]
  exact qs_ne_zero _

/-- The activations' codes. -/
theorem xcAll_apply (i : Fin 256) (k : Fin 3584) : xcAll X A (ix2 i k) = xcV X A i k := by
  rw [xcAll]
  exact xCodes_apply X A (i.val / 32) _ ⟨i.val % 32, Nat.mod_lt _ (by omega)⟩ k i (Nat.div_add_mod _ _).symm

/-- The activations' codes as numbers. -/
theorem xqAll_apply (i : Fin 256) (k : Fin 3584) : xqAll X A (ix2 i k) = num (xcV X A i k) := by
  rw [xqAll, glue0, same_apply]
  exact congrArg num (xCodes_apply X A (i.val / 32) _ ⟨i.val % 32, Nat.mod_lt _ (by omega)⟩ k i (Nat.div_add_mod _ _).symm)

/-- The tokens' scales spread over 128 columns. -/
theorem xsbAll_apply (i : Fin 256) (l : Fin 128) : xsbAll X A (ix2 i l) = xscV X A i := by
  rw [xsbAll, glue0, same_apply]
  refine (bcCol_apply _ _ _ _).trans ((same_apply _ _ _).trans ?_)
  exact xScale_apply X A (i.val / 32) _ ⟨i.val % 32, Nat.mod_lt _ (by omega)⟩ i (Nat.div_add_mod _ _).symm

/-- The tokens' scales in two rows of 128. -/
theorem xscAll_apply (a : Fin 2) (b : Fin 128) (i : Fin 256) (hi : i.val = 128 * a.val + b.val) : xscAll X A (ix2 a b) = xscV X A i := by
  rw [xscAll, glue0]
  refine (ValueIdx.slice2_axis0_apply 0 _ _ _ _ 0 (by show 0 = 0 + a.val % 1; omega)).trans ((ValueIdx.transpose_ix2_apply _ _ _ _).trans ?_)
  refine (congrArg (xsbAll X A) (ext2 (j := ix2 i 0) ?_ ?_)).trans (xsbAll_apply X A i 0)
  · show 128 * (a.val / 1) + 1 * b.val = i.val
    omega
  · show 0 + 1 * (0 : Fin 128).val = (0 : Fin 128).val
    rfl

end Cert.Equation

end
-- ==== Proof.Ker2.lean ====
/- What the kernel computes of the weights and of the product, element by element: the layer's closed forms. -/
module

public import proofs.«01_k».proof.Proof.Cat
public import proofs.«01_k».proof.Proof.Ker1
public import Idealize.ShloMosaic.Lib.MatmulPlain

@[expose] public section

set_option maxHeartbeats 400000

noncomputable section

namespace Cert.Equation

open Idealize.ShloMosaic hiding ix1 ix2 ix3
open Idealize.ShloMosaic.TcCoe
open Idealize.ShloMosaic.ValueIdx (ix1 ix2 ix3)
open Cert.Kernel Cert.Kernel.Gen Cert.Kernel.Model

variable (X : Vec Ideal S256x3584 .bf16) (W : Vec Ideal S3584x18944 .bf16) (A : Vec Ideal S1x3584 .f32)

/-- A chunk of 32 scaled weights. -/
theorem wsCh_apply (i : ℕ) (hi : i < 74) (r : ℕ) (h : r < 112) (x : Fin 32) (y : Fin 256) (k : Fin 3584) (j : Fin 18944)
    (hk : k.val = 32 * r + x.val) (hj : j.val = 256 * i + y.val) : wsCh X W A i hi r h (ix2 x y) = wsV X W A k j := by
  rw [wsCh, wsOf, mul_apply, wsV]
  refine congrArg₂ (fun a b : EReal => a * b) ?_ (cat1_apply _ _ _ _ _ fun l => ?_)
  · refine (ValueIdx.shapeCast_1ab_ab_apply (wvCh W i hi r h) _ x y).trans ?_
    rw [wvCh]
    exact congrArg W (ext2 (j := ix2 k j) hk.symm hj.symm)
  · refine (congrArg (sbAll X A) (ext2 (j := ix2 k l) ?_ ?_)).trans (sbAll_apply X A k l)
    · show 32 * r + 1 * x.val = k.val; omega
    · show 0 + 1 * l.val = l.val; omega

/-- A block's running maxima bound what the chunks up to then hold. -/
theorem amaxSt_apply (i : ℕ) (hi : i < 74) (y : Fin 256) (j : Fin 18944) (hj : j.val = 256 * i + y.val) (b : EReal) :
    (n : ℕ) → (h : n ≤ 112) → (Bounded (amaxSt X W A i hi n h) y b ↔ ∀ k : Fin 3584, k.val < 32 * n → ab (wsV X W A k j) ≤ b)
  | 0, h => ⟨fun _ k hk => absurd hk (by omega), fun _ => trivial⟩
  | n + 1, h => by
    rw [amaxSt, bounded_step, amaxSt_apply i hi y j hj b n (by omega)]
    refine ⟨fun ⟨h1, h2⟩ k hk => ?_, fun h1 => ⟨fun k hk => h1 k (by omega), fun x => ?_⟩⟩
    · by_cases hn : k.val < 32 * n
      · exact h1 k hn
      · have := h2 ⟨k.val - 32 * n, by omega⟩
        rwa [wsCh_apply X W A i hi n h _ y k j (by show k.val = 32 * n + (k.val - 32 * n); omega) hj] at this
    · have hx := x.isLt
      have := h1 ⟨32 * n + x.val, by omega⟩ (by show 32 * n + x.val < 32 * (n + 1); omega)
      rwa [wsCh_apply X W A i hi n h x y ⟨32 * n + x.val, by omega⟩ j rfl hj]

/-- After a chunk there are running maxima. -/
theorem amaxStep_some (a : Amax Ideal) (w : FVec Ideal S32x256 .f32) : ∃ p q, amaxStep a w = some (p, q) := by
  match a with
  | none => exact ⟨_, _, rfl⟩
  | some (p, q) => exact ⟨_, _, rfl⟩

/-- The scales of a block of 256 output channels. -/
theorem scaleB_apply (i : ℕ) (hi : i < 74) (y : Fin 256) (j : Fin 18944) (hj : j.val = 256 * i + y.val) :
    scaleB X W A i hi (ix2 0 y) = wscV X W A j := by
  have hb := fun b => amaxSt_apply X W A i hi y j hj b 112 (Nat.le_refl _)
  obtain ⟨p, q, e⟩ : ∃ p q, amaxSt X W A i hi 112 (Nat.le_refl _) = some (p, q) := amaxStep_some _ _
  rw [scaleB, e]
  refine scaleOf_apply p q y _ fun b => ?_
  rw [← e, hb b, mx_le]
  exact ⟨fun h k _ => h k, fun h k => h k (by have := k.isLt; omega)⟩

/-- The output channels' scales, 256 to a row. -/
theorem wscAll_apply (i : Fin 74) (y : Fin 256) (j : Fin 18944) (hj : j.val = 256 * i.val + y.val) :
    wscAll X W A (ix2 i y) = wscV X W A j := by
  rw [wscAll]
  have e := scaleB_apply X W A i.val i.isLt y j hj
  refine Eq.trans ?_ e
  refine glue0_apply (α := Elt Ideal .f32) (k := 1) (n := 256) (m := 74) (N := 74) (by omega) (by omega) (scaleB X W A) (c := i.val) i.isLt (ix2 0 y) (ix2 i y) ?_ rfl
  show i.val = 1 * i.val + 0
  omega

/-- A chunk of 32 rows of a block's codes. -/
theorem codes_apply (i : ℕ) (hi : i < 74) (r : ℕ) (h : r < 112) (x : Fin 32) (y : Fin 256) (k : Fin 3584) (j : Fin 18944)
    (hk : k.val = 32 * r + x.val) (hj : j.val = 256 * i + y.val) : codes X W A i hi r h (ix2 x y) = wcV X W A k j := by
  rw [codes, codesOf, code32_apply, mul_apply, bcRow_apply, invSt, wsSt, same_apply, same_apply, invOf, inv_apply,
    wsCh_apply X W A i hi r h x y k j hk hj, scaleB_apply X W A i hi y j hj, wcV, mul_inv_eq_div]
  exact qs_ne_zero _

/-- The weights' codes. -/
theorem cG_apply (k : Fin 3584) (j : Fin 18944) : cG X W A (ix2 k j) = wcV X W A k j := by
  rw [cG, glue1, cB, glue0]
  exact codes_apply X W A (j.val / 256) _ (k.val / 32) _ ⟨k.val % 32, Nat.mod_lt _ (by omega)⟩ ⟨j.val % 256, Nat.mod_lt _ (by omega)⟩ k j
    (Nat.div_add_mod _ _).symm (Nat.div_add_mod _ _).symm

/-! ## The product -/

/-- The terms of one element of the product, by their numbers. -/
def term (a : Fin 256) (j : Fin 18944) (k : ℕ) : EReal :=
  if h : k < 3584 then num (xcV X A a ⟨k, h⟩) * num (wcV X W A ⟨k, h⟩ j) else 0

/-- A weight's code as a number, by the number of its row. -/
def wnum (j : Fin 18944) (k : ℕ) : EReal := if h : k < 3584 then num (wcV X W A ⟨k, h⟩ j) else 0

/-- A chunk of codes as numbers, by the number of the row. -/
theorem piece_apply (i : ℕ) (hi : i < 74) (r : ℕ) (h : r < 112) (x : Fin 32) (y : Fin 256) (j : Fin 18944) (n : ℕ)
    (hn : n = 32 * r + x.val) (hj : j.val = 256 * i + y.val) :
    (sitofp .bf16 (codes X W A i hi r h) : FVec Ideal S32x256 .bf16) (ix2 x y) = wnum X W A j n := by
  have hx := x.isLt
  have hlt : n < 3584 := by omega
  rw [wnum, dif_pos hlt]
  exact congrArg num (codes_apply X W A i hi r h x y ⟨n, hlt⟩ j hn hj)

/-- The product over 256 input channels is the sum of those 256 terms. -/
theorem dotG_apply (i : ℕ) (hi : i < 74) (g : ℕ) (h : g < 14) (a : Fin 256) (y : Fin 256) (j : Fin 18944)
    (hj : j.val = 256 * i + y.val) :
    dotG X W A i hi g h (ix2 a y) = ∑ u ∈ Finset.range 256, term X W A a j (256 * g + u) := by
  rw [dotG, dotOf, Finset.sum_range]
  refine (Ideal.matmul_plain_apply none _ _ _ a y).trans ?_
  refine (congrArg₂ (fun a b : EReal => a + b) Ideal.ofBits_zero_f32 (Finset.sum_congr rfl fun u _ => ?_)).trans (zero_add _)
  have hu := u.isLt
  have hlt : 256 * g + u.val < 3584 := by omega
  rw [term, dif_pos hlt]
  refine congrArg₂ (fun a b : EReal => a * b) ((congrArg (xqAll X A) (ext2 (j := ix2 a ⟨256 * g + u.val, hlt⟩) ?_ ?_)).trans (xqAll_apply X A _ _)) ?_
  · show 0 + 1 * a.val = a.val; omega
  · show 256 * g + 1 * u.val = 256 * g + u.val; omega
  · refine (concatenate_apply _ _ _ _ _).trans ?_
    refine (catAt_apply (wnum X W A j) u y
      [(sitofp .bf16 (codes X W A i hi (8 * g) (by omega)) : FVec Ideal S32x256 .bf16), (sitofp .bf16 (codes X W A i hi (8 * g + 1) (by omega)) : FVec Ideal S32x256 .bf16),
        (sitofp .bf16 (codes X W A i hi (8 * g + 2) (by omega)) : FVec Ideal S32x256 .bf16), (sitofp .bf16 (codes X W A i hi (8 * g + 3) (by omega)) : FVec Ideal S32x256 .bf16),
        (sitofp .bf16 (codes X W A i hi (8 * g + 4) (by omega)) : FVec Ideal S32x256 .bf16), (sitofp .bf16 (codes X W A i hi (8 * g + 5) (by omega)) : FVec Ideal S32x256 .bf16),
        (sitofp .bf16 (codes X W A i hi (8 * g + 6) (by omega)) : FVec Ideal S32x256 .bf16), (sitofp .bf16 (codes X W A i hi (8 * g + 7) (by omega)) : FVec Ideal S32x256 .bf16)]
      (256 * g) u.val _ _ fun r hr x => ?_).trans ((dif_pos hlt).trans rfl)
    match r, hr with
    | 0, _ => exact piece_apply X W A i hi _ _ x y j _ (by omega) hj
    | 1, _ => exact piece_apply X W A i hi _ _ x y j _ (by omega) hj
    | 2, _ => exact piece_apply X W A i hi _ _ x y j _ (by omega) hj
    | 3, _ => exact piece_apply X W A i hi _ _ x y j _ (by omega) hj
    | 4, _ => exact piece_apply X W A i hi _ _ x y j _ (by omega) hj
    | 5, _ => exact piece_apply X W A i hi _ _ x y j _ (by omega) hj
    | 6, _ => exact piece_apply X W A i hi _ _ x y j _ (by omega) hj
    | 7, _ => exact piece_apply X W A i hi _ _ x y j _ (by omega) hj

/-- After `n` products, `n` at least one, the running sum is there and holds the first `256 n` terms. -/
theorem accSt_apply (i : ℕ) (hi : i < 74) (a : Fin 256) (y : Fin 256) (j : Fin 18944) (hj : j.val = 256 * i + y.val) :
    (n : ℕ) → (h : n + 1 ≤ 14) → ∃ c, accSt X W A i hi (n + 1) h = some c
      ∧ (c (ix2 a y) : EReal) = ∑ k ∈ Finset.range (256 * (n + 1)), term X W A a j k
  | 0, h => ⟨_, rfl, (dotG_apply X W A i hi 0 h a y j hj).trans (Finset.sum_congr rfl fun u _ => congrArg _ (by omega))⟩
  | n + 1, h => by
    obtain ⟨c, e, hc⟩ := accSt_apply i hi a y j hj n (by omega)
    refine ⟨addf c (dotG X W A i hi (n + 1) h), ?_, ?_⟩
    · rw [accSt, e]; rfl
    · rw [add_apply, hc, dotG_apply X W A i hi (n + 1) h a y j hj, show 256 * (n + 1 + 1) = 256 * (n + 1) + 256 by omega,
        Finset.sum_range_add]

/-- A block of 256 columns of the rescaled product. -/
theorem yB_apply (i : ℕ) (hi : i < 74) (a : Fin 256) (y : Fin 256) (j : Fin 18944) (hj : j.val = 256 * i + y.val) :
    yB X W A i hi (ix2 a y) = yV X W A a j := by
  obtain ⟨c, e, hc⟩ := accSt_apply X W A i hi a y j hj 13 (Nat.le_refl _)
  have e' : accSt X W A i hi 14 (Nat.le_refl _) = some c := e
  rw [yB, e']
  dsimp only [yOf]
  rw [trunc_apply, mul_apply, mul_apply, bcRow_apply, scaleSt, same_apply, scaleB_apply X W A i hi y j hj, yV]
  refine congrArg (fun z : EReal => z * wscV X W A j) (congrArg₂ (fun a b : EReal => a * b) ?_ (cat1_apply _ _ _ _ _ fun l => ?_))
  · rw [hc, accV, Finset.sum_range]
    exact Finset.sum_congr rfl fun k _ => dif_pos k.isLt
  · refine (congrArg (xsbAll X A) (ext2 (j := ix2 a l) ?_ ?_)).trans (xsbAll_apply X A a l)
    · show 0 + 1 * a.val = a.val; omega
    · show 0 + 1 * l.val = l.val; omega

/-- The rescaled product. -/
theorem yG_apply (a : Fin 256) (j : Fin 18944) : yG X W A (ix2 a j) = yV X W A a j := by
  rw [yG, glue1]
  exact yB_apply X W A (j.val / 256) _ a ⟨j.val % 256, Nat.mod_lt _ (by omega)⟩ j (Nat.div_add_mod _ _).symm

end Cert.Equation

end
-- ==== Proof.Equation.lean ====
/- The reference's six results are the kernel's. -/
module

public import proofs.«01_k».proof.Proof.Ref
public import proofs.«01_k».proof.Proof.Ker2
public import Idealize.ShloMosaic.Lib.Pipeline.Value

@[expose] public section

set_option maxHeartbeats 400000

noncomputable section

namespace Cert.Equation

open Idealize.ShloMosaic hiding ix1 ix2 ix3
open Idealize.ShloMosaic.TcCoe
open Idealize.ShloMosaic.ValueIdx (ix1 ix2 ix3)
open Cert.Kernel.Gen Cert.ReferenceIdeal.Model

/-! ## Reshapes and equality of arrays -/

section
variable {α : Type}

/-- A matrix read as one row: the element at `p b + q` is the one at `(p, q)`. -/
theorem flat_apply {a b n : ℕ} (x : (⟨2, ![a, b]⟩ : Shape).Idx → α) (h : (⟨2, ![a, b]⟩ : Shape).ShapeCasts ⟨1, ![n]⟩) (i : Fin n)
    (p : Fin a) (q : Fin b) (e : p.val * b + q.val = i.val) : shapeCast ⟨1, ![n]⟩ x h (ix1 i) = x (ix2 p q) :=
  shapeCast_apply x h _ _ (by rw [Shape.rowMajor_val_two, Shape.rowMajor_val_one]; exact e)

/-- A column read as a matrix: the element at `(p, q)` is the one at `p b + q`. -/
theorem fold_apply {a b n : ℕ} (x : (⟨2, ![n, 1]⟩ : Shape).Idx → α) (h : (⟨2, ![n, 1]⟩ : Shape).ShapeCasts ⟨2, ![a, b]⟩) (i : Fin n)
    (p : Fin a) (q : Fin b) (e : p.val * b + q.val = i.val) : shapeCast ⟨2, ![a, b]⟩ x h (ix2 p q) = x (ix2 i 0) :=
  shapeCast_apply x h _ _ (by
    rw [Shape.rowMajor_val_two, Shape.rowMajor_val_two]
    show i.val * 1 + 0 = p.val * b + q.val
    omega)

/-- Two matrices with equal elements are equal. -/
theorem funext2 {a b : ℕ} {x y : (⟨2, ![a, b]⟩ : Shape).Idx → α} (h : ∀ i j, x (ix2 i j) = y (ix2 i j)) : x = y :=
  funext fun k => by
    have e : k = ix2 (k 0) (k 1) := Cert.Kernel.Model.ext2 rfl rfl
    rw [e]
    exact h _ _

/-- Two rows with equal elements are equal. -/
theorem funext1 {n : ℕ} {x y : (⟨1, ![n]⟩ : Shape).Idx → α} (h : ∀ i, x (ix1 i) = y (ix1 i)) : x = y :=
  funext fun k => by
    have e : k = ix1 (k 0) := funext fun a => by
      match a with
      | 0 => rfl
    rw [e]
    exact h _

end

/-! ## The results -/

variable (x : Vec Ideal Cert.Kernel.S2x128x3584 .bf16) (w : Vec Ideal Cert.Kernel.S3584x18944 .bf16) (a : Vec Ideal Cert.Kernel.S3584 .f32)

/-- The product, scaled. -/
theorem y_eq : refY (opX x) w (opA a) = Cert.Kernel.Model.resY x w a := by
  rw [refY, pay13_eq, Cert.Kernel.Model.resY]
  exact congrArg (fun f => shapeCast Cert.Kernel.S2x128x18944 f shapeCasts_S256x18944_S2x128x18944)
    (funext2 fun i j => (yG_apply _ _ _ i j).symm)

/-- The columns' smoothing scales. -/
theorem s_eq : refS (opX x) (opA a) = Cert.Kernel.Model.resS x a := by
  rw [refS, Cert.Kernel.Model.resS]
  exact funext1 fun k => (pay3_apply _ _ k).trans ((sAll_apply _ _ k).symm.trans (unrow_apply _ _ k).symm)

/-- The weights' codes. -/
theorem c_eq : refC (opX x) w (opA a) = Cert.Kernel.Model.resC x w a := by
  rw [refC, Cert.Kernel.Model.resC]
  exact funext2 fun k j => (pay6_apply _ _ _ k j).trans (cG_apply _ _ _ k j).symm

/-- The weights' scales. -/
theorem wsc_eq : refWsc (opX x) w (opA a) = Cert.Kernel.Model.resWsc x w a := by
  rw [refWsc, Cert.Kernel.Model.resWsc]
  refine funext1 fun j => (pay7_apply _ _ _ j).trans (Eq.symm ?_)
  have hj := j.isLt
  refine (flat_apply _ _ j ⟨j.val / 256, by omega⟩ ⟨j.val % 256, by omega⟩ (Nat.div_add_mod' _ _)).trans ?_
  exact wscAll_apply _ _ _ _ _ j (Nat.div_add_mod _ _).symm

/-- The activations' codes. -/
theorem xc_eq : refXc (opX x) (opA a) = Cert.Kernel.Model.resXc x a := by
  rw [refXc, Cert.Kernel.Model.resXc, Cert.ReferenceIdeal.Gen.k0_pay11]
  exact congrArg (fun f => shapeCast Cert.Kernel.S2x128x3584 f shapeCasts_S256x3584_S2x128x3584)
    (funext2 fun i k => (pay10_apply _ _ i k).trans (xcAll_apply _ _ i k).symm)

/-- The activations' scales. -/
theorem xsc_eq : refXsc (opX x) (opA a) = Cert.Kernel.Model.resXsc x a := by
  rw [refXsc, Cert.Kernel.Model.resXsc, Cert.ReferenceIdeal.Gen.k0_pay12]
  refine funext2 fun p q => ?_
  have hp := p.isLt
  have hq := q.isLt
  refine (fold_apply _ _ ⟨128 * p.val + q.val, by omega⟩ p q (by show p.val * 128 + q.val = 128 * p.val + q.val; omega)).trans ?_
  exact (pay9_apply _ _ _).trans (xscAll_apply _ _ p q _ rfl).symm

end Cert.Equation

end
-- ==== Proof.lean ====
/- The certificate's claim: the programs' facts, their runs and the equation of their results. -/
module

public import proofs.«01_k».proof.Defs
public import proofs.«01_k».proof.Proof.Values
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The kernel runs, leaves its arguments as they were and every semaphore at zero. -/
theorem kernel_runs : Cert.quiescent_Kernel (hKernel := Cert.Kernel.Gen.facts) := fun m g _ =>
  (θ_run _ _ _).mono (fun _ h => ⟨fun c => (h.1 c).2.2.2.2.2.2, h.2⟩) (Cert.Kernel.Model.run_values m g)

/-- So does the idealized kernel. -/
theorem kernelIdeal_runs : Cert.quiescent_KernelIdeal (hKernelIdeal := Cert.KernelIdeal.Gen.facts) := fun m g _ =>
  (θ_run _ _ _).mono (fun _ h => ⟨fun c => (h.1 c).2.2.2.2.2.2, h.2⟩) (Cert.KernelIdeal.Model.run_values m g)

/-- So does the idealized reference. -/
theorem referenceIdeal_runs : Cert.quiescent_ReferenceIdeal (hReferenceIdeal := Cert.ReferenceIdeal.Gen.facts) := fun m g _ =>
  (θ_run _ _ _).mono (fun _ h => ⟨fun c => (h.1 c).2.2.2.2.2.2, h.2⟩) (Cert.ReferenceIdeal.Model.run_values m g)

/-- From memories with the same arguments the idealized kernel and the idealized reference end with the same six results. -/
theorem results_equal : Cert.algebraic_KernelIdeal_ReferenceIdeal (hKernelIdeal := Cert.KernelIdeal.Gen.facts)
    (hReferenceIdeal := Cert.ReferenceIdeal.Gen.facts) := fun m g m' g' _ hargs =>
  ⟨fun c => Cert.Kernel.Model.resY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Kernel.Model.resS (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.Kernel.Model.resC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Kernel.Model.resWsc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Kernel.Model.resXc (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.Kernel.Model.resXsc (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    (θ_run _ _ _).mono (fun _ h => h.1) (Cert.KernelIdeal.Model.run_values m g),
    (θ_run _ _ _).mono (fun _ h c => by
      obtain ⟨e0, e1, e2⟩ := hargs c
      obtain ⟨hy, hs, hc, hw, hx, hq, ha⟩ := h.1 c
      rw [e0, e1, e2] at hy hc hw
      rw [e0, e2] at hs hx hq
      exact ⟨hy.trans (Cert.Equation.y_eq _ _ _), hs.trans (Cert.Equation.s_eq _ _), hc.trans (Cert.Equation.c_eq _ _ _),
        hw.trans (Cert.Equation.wsc_eq _ _ _), hx.trans (Cert.Equation.xc_eq _ _), hq.trans (Cert.Equation.xsc_eq _ _), ha⟩)
      (Cert.ReferenceIdeal.Model.run_values m' g')⟩

/-- The claim. -/
theorem claim : Cert.Claim :=
  ⟨Cert.Kernel.Gen.facts, Cert.KernelIdeal.Gen.facts, Cert.ReferenceIdeal.Gen.facts, kernel_runs, kernelIdeal_runs, referenceIdeal_runs, trivial, results_equal⟩

end Cert.Proof

end
